-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qkf [hPre_finite_qkf : Cert.Pre_finite_qkf.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qkf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_qkf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_qkf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_qkf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qkf [hPre_finite_qkf : Cert.Pre_finite_qkf.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qkf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_qkf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_qkf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_qkf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_qkf [hKernel2Ideal : Cert.Kernel2Ideal.Facts] [hPre_finite_qkf : Cert.Pre_finite_qkf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qkf m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_qkf [hReference2Ideal : Cert.Reference2Ideal.Facts] [hPre_finite_qkf : Cert.Pre_finite_qkf.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qkf m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite_qkf [hKernel2Ideal : Cert.Kernel2Ideal.Facts] [hReference2Ideal : Cert.Reference2Ideal.Facts] [hPre_finite_qkf : Cert.Pre_finite_qkf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qkf m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v83_0)) (v1 : (c : Dev Cert.Kernel5Ideal.nD) → Buf (Elt Ideal) ((c.tc : Thread Cert.Kernel5Ideal.nD Cert.Kernel5Ideal.τ).loc Cert.Kernel5Ideal.main_v83_1)) (v2 : (c : Dev Cert.Kernel5Ideal.nD) → Buf (Elt Ideal) ((c.tc : Thread Cert.Kernel5Ideal.nD Cert.Kernel5Ideal.τ).loc Cert.Kernel5Ideal.main_v83_2)) (v3 : (c : Dev Cert.Kernel5Ideal.nD) → Buf (Elt Ideal) ((c.tc : Thread Cert.Kernel5Ideal.nD Cert.Kernel5Ideal.τ).loc Cert.Kernel5Ideal.main_v83_3)) (v4 : (c : Dev Cert.Kernel5Ideal.nD) → Buf (Elt Ideal) ((c.tc : Thread Cert.Kernel5Ideal.nD Cert.Kernel5Ideal.τ).loc Cert.Kernel5Ideal.main_v83_4)) (v5 : (c : Dev Cert.Kernel5Ideal.nD) → Buf (Elt Ideal) ((c.tc : Thread Cert.Kernel5Ideal.nD Cert.Kernel5Ideal.τ).loc Cert.Kernel5Ideal.main_v83_5)) (v6 : (c : Dev Cert.Kernel5Ideal.nD) → Buf (Elt Ideal) ((c.tc : Thread Cert.Kernel5Ideal.nD Cert.Kernel5Ideal.τ).loc Cert.Kernel5Ideal.main_v83_6)) (v7 : (c : Dev Cert.Kernel5Ideal.nD) → Buf (Elt Ideal) ((c.tc : Thread Cert.Kernel5Ideal.nD Cert.Kernel5Ideal.τ).loc Cert.Kernel5Ideal.main_v83_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v83_0) = v0 c
          ∧ r.2.mem ((c.tc : Thread Cert.Kernel5Ideal.nD Cert.Kernel5Ideal.τ).loc Cert.Kernel5Ideal.main_v83_1) = v1 c
          ∧ r.2.mem ((c.tc : Thread Cert.Kernel5Ideal.nD Cert.Kernel5Ideal.τ).loc Cert.Kernel5Ideal.main_v83_2) = v2 c
          ∧ r.2.mem ((c.tc : Thread Cert.Kernel5Ideal.nD Cert.Kernel5Ideal.τ).loc Cert.Kernel5Ideal.main_v83_3) = v3 c
          ∧ r.2.mem ((c.tc : Thread Cert.Kernel5Ideal.nD Cert.Kernel5Ideal.τ).loc Cert.Kernel5Ideal.main_v83_4) = v4 c
          ∧ r.2.mem ((c.tc : Thread Cert.Kernel5Ideal.nD Cert.Kernel5Ideal.τ).loc Cert.Kernel5Ideal.main_v83_5) = v5 c
          ∧ r.2.mem ((c.tc : Thread Cert.Kernel5Ideal.nD Cert.Kernel5Ideal.τ).loc Cert.Kernel5Ideal.main_v83_6) = v6 c
          ∧ r.2.mem ((c.tc : Thread Cert.Kernel5Ideal.nD Cert.Kernel5Ideal.τ).loc Cert.Kernel5Ideal.main_v83_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v165) = v0 c
          ∧ r.2.mem ((c.tc : Thread Cert.Reference5Ideal.nD Cert.Reference5Ideal.τ).loc Cert.Reference5Ideal.main_v178) = v1 c
          ∧ r.2.mem ((c.tc : Thread Cert.Reference5Ideal.nD Cert.Reference5Ideal.τ).loc Cert.Reference5Ideal.main_v131) = v2 c
          ∧ r.2.mem ((c.tc : Thread Cert.Reference5Ideal.nD Cert.Reference5Ideal.τ).loc Cert.Reference5Ideal.main_v179) = v3 c
          ∧ r.2.mem ((c.tc : Thread Cert.Reference5Ideal.nD Cert.Reference5Ideal.τ).loc Cert.Reference5Ideal.main_v181) = v4 c
          ∧ r.2.mem ((c.tc : Thread Cert.Reference5Ideal.nD Cert.Reference5Ideal.τ).loc Cert.Reference5Ideal.main_v182) = v5 c
          ∧ r.2.mem ((c.tc : Thread Cert.Reference5Ideal.nD Cert.Reference5Ideal.τ).loc Cert.Reference5Ideal.main_v19) = v6 c
          ∧ r.2.mem ((c.tc : Thread Cert.Reference5Ideal.nD Cert.Reference5Ideal.τ).loc Cert.Reference5Ideal.main_v186) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_qkf : Cert.Pre_finite_qkf.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qkf (hKernel2Ideal := hKernel2Ideal) (hPre_finite_qkf := hPre_finite_qkf)
    ∧ quiescent_Reference2Ideal (hReference2Ideal := hReference2Ideal)
    ∧ quiescent_Reference2Ideal_pre_finite_qkf (hReference2Ideal := hReference2Ideal) (hPre_finite_qkf := hPre_finite_qkf)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_qkf (hKernel2Ideal := hKernel2Ideal) (hReference2Ideal := hReference2Ideal) (hPre_finite_qkf := hPre_finite_qkf)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S8192x2048 .bf16) (main_arg2 : FVec F S8192x1024 .bf16) : IVec S8192x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  (main_v3, main_v7)
-- ==== Pre_finite_qkf.lean ====
abbrev S8192x1024 : Shape := ⟨2, ![8192, 1024]⟩
abbrev S8192x256 : Shape := ⟨2, ![8192, 256]⟩
abbrev S8192x8 : Shape := ⟨2, ![8192, 8]⟩
abbrev S4x8x2048 : Shape := ⟨3, ![4, 8, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x8 : S_.BroadcastsInDim S8192x8 (![] : Fin 0 → Fin S8192x8.rank)
  bcast_S_S4x8x2048 : S_.BroadcastsInDim S4x8x2048 (![] : Fin 0 → Fin S4x8x2048.rank)

variable [Facts]

def fn {F : FTy → Type} [FloatOps F] (main_arg0 : FVec F S8192x1024 .bf16) (main_arg1 : FVec F S8192x256 .f32) (main_arg2 : FVec F S8192x256 .f32) (main_arg3 : FVec F S8192x8 .f32) (main_arg4 : FVec F S4x8x2048 .f32) : IVec S8192x1024 1 × IVec S8192x256 1 × IVec S8192x8 1 × IVec S4x8x2048 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_v7 : FVec F S8192x8 .f32 := Host.absf main_arg3
  let main_cst_1 : FVec F S_ .f32 := constant S_ .f32 0x7F800000#32
  let main_v8 : FVec F S8192x8 .f32 := broadcastInDim S8192x8 ![] bcast_S_S8192x8 main_cst_1
  let main_v9 : IVec S8192x8 1 := cmpf .olt main_v7 main_v8
  let main_v10 : FVec F S4x8x2048 .f32 := Host.absf main_arg4
  let main_cst_2 : FVec F S_ .f32 := constant S_ .f32 0x7F800000#32
  let main_v11 : FVec F S4x8x2048 .f32 := broadcastInDim S4x8x2048 ![] bcast_S_S4x8x2048 main_cst_2
  let main_v12 : IVec S4x8x2048 1 := cmpf .olt main_v10 main_v11
  (main_v3, main_v6, main_v9, main_v12)
-- ==== Kernel.lean ====
abbrev S8192x2048 : Shape := ⟨2, ![8192, 2048]⟩
abbrev S8192x1024 : Shape := ⟨2, ![8192, 1024]⟩
abbrev S512x512 : Shape := ⟨2, ![512, 512]⟩
abbrev S512x256 : Shape := ⟨2, ![512, 256]⟩
abbrev S2x512x128 : Shape := ⟨3, ![2, 512, 128]⟩
abbrev S2x512x256 : Shape := ⟨3, ![2, 512, 256]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S2x512x128, .f32⟩
  | .local _ .vmem, ⟨9, _⟩ => ⟨S2x512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 4, 4], ![false, false, false, false]⟩

def k0_cond4 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg2 arg3
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg2 arg3
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x1024 : Shape := ⟨2, ![8192, 1024]⟩
abbrev S4x2048x8x256 : Shape := ⟨4, ![4, 2048, 8, 256]⟩
abbrev S4x2048x8x128 : Shape := ⟨4, ![4, 2048, 8, 128]⟩
abbrev S2048 : Shape := ⟨1, ![2048]⟩
abbrev S4x8x2048x2048 : Shape := ⟨4, ![4, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S4x2048x8x256, .f32⟩
  | .hbm, ⟨5, _⟩ => ⟨S8192x2048, .f32⟩
  | .hbm, ⟨6, _⟩ => ⟨S4x2048x8x256, .f32⟩
  | .hbm, ⟨7, _⟩ => ⟨S8192x1024, .f32⟩
  | .hbm, ⟨8, _⟩ => ⟨S4x2048x8x128, .f32⟩
  | .hbm, ⟨9, _⟩ => ⟨S2048, .i32⟩
  | .hbm, ⟨10, _⟩ => ⟨S4x8x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S4x8x2048x2048, .i1⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S_, .f32⟩
  | .hbm, ⟨24, _⟩ => ⟨S4x8x2048, .f32⟩
  | .hbm, ⟨25, _⟩ => ⟨S4x8x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x128x2048, .f32⟩
  | .hbm, ⟨36, _⟩ => ⟨S4x2048x8x128, .f32⟩
  | .hbm, ⟨37, _⟩ => ⟨S8192x1024, .f32⟩
  | .hbm, ⟨38, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S8192x8 : Shape := ⟨2, ![8192, 8]⟩
abbrev S4x8x2048 : Shape := ⟨3, ![4, 8, 2048]⟩
abbrev S512x1024 : Shape := ⟨2, ![512, 1024]⟩
abbrev S512x256 : Shape := ⟨2, ![512, 256]⟩
abbrev S512x8 : Shape := ⟨2, ![512, 8]⟩
abbrev S1x8x512 : Shape := ⟨3, ![1, 8, 512]⟩
abbrev S8x512x128 : Shape := ⟨3, ![8, 512, 128]⟩
abbrev S8x512x256 : Shape := ⟨3, ![8, 512, 256]⟩
abbrev S512x128 : Shape := ⟨2, ![512, 128]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S1x512x128 : Shape := ⟨3, ![1, 512, 128]⟩
abbrev S512 : Shape := ⟨1, ![512]⟩
abbrev S1x512x256 : Shape := ⟨3, ![1, 512, 256]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8192x8, .f32⟩
  | .hbm, ⟨4, _⟩ => ⟨S4x8x2048, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x8, .f32⟩
  | .local _ .vmem, ⟨7, _⟩ => ⟨S512x8, .f32⟩
  | .local _ .vmem, ⟨8, _⟩ => ⟨S1x8x512, .f32⟩
  | .local _ .vmem, ⟨9, _⟩ => ⟨S1x8x512, .f32⟩
  | .local _ .vmem, ⟨10, _⟩ => ⟨S512x1024, .bf16⟩
  | .local _ .vmem, ⟨11, _⟩ => ⟨S512x1024, .bf16⟩
  | .local _ .vmem, ⟨12, _⟩ => ⟨S8x512x128, .f32⟩
  | .local _ .vmem, ⟨13, _⟩ => ⟨S8x512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 1, 4, 4], ![false, false, false, false]⟩

def k0_cond4 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg2 arg3
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg2 arg3
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg2 arg3
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Kernel2Ideal.lean ====
variable {F : FTy → Type} [FloatOps F] [Named F]
def κ : String → Option EReal := fun
  | "mask" => some ⊥
  | _ => none
-- ==== Reference2Ideal.lean ====
abbrev S8192x1024 : Shape := ⟨2, ![8192, 1024]⟩
abbrev S8192x256 : Shape := ⟨2, ![8192, 256]⟩
abbrev S8192x8 : Shape := ⟨2, ![8192, 8]⟩
abbrev S4x8x2048 : Shape := ⟨3, ![4, 8, 2048]⟩
abbrev S4x2048x2x4x128 : Shape := ⟨5, ![4, 2048, 2, 4, 128]⟩
abbrev S4x2048x2x128 : Shape := ⟨4, ![4, 2048, 2, 128]⟩
abbrev S2048 : Shape := ⟨1, ![2048]⟩
abbrev S4x2048x8 : Shape := ⟨3, ![4, 2048, 8]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩
abbrev S4x2x4x2048x2048 : Shape := ⟨5, ![4, 2, 4, 2048, 2048]⟩
abbrev S4x2x2048x2048x4 : Shape := ⟨5, ![4, 2, 2048, 2048, 4]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8192x8, .f32⟩
  | .hbm, ⟨4, _⟩ => ⟨S4x8x2048, .f32⟩
  | .hbm, ⟨5, _⟩ => ⟨S8192x1024, .f32⟩
  | .hbm, ⟨6, _⟩ => ⟨S4x2048x2x4x128, .f32⟩
  | .hbm, ⟨7, _⟩ => ⟨S4x2048x2x128, .f32⟩
  | .hbm, ⟨8, _⟩ => ⟨S4x2048x2x128, .f32⟩
  | .hbm, ⟨9, _⟩ => ⟨S2048, .i32⟩
  | .hbm, ⟨10, _⟩ => ⟨S4x2048x8, .f32⟩
  | .hbm, ⟨11, _⟩ => ⟨S4x8x2048, .f32⟩
  | .hbm, ⟨12, _⟩ => ⟨S4x8x2048x1, .f32⟩
  | .hbm, ⟨13, _⟩ => ⟨S4x8x1x2048, .f32⟩
  | .hbm, ⟨14, _⟩ => ⟨S4x8x2048x2048, .f32⟩
  | .hbm, ⟨15, _⟩ => ⟨S4x8x2048x2048, .f32⟩
  | .hbm, ⟨16, _⟩ => ⟨S4x8x2048x2048, .f32⟩
  | .hbm, ⟨17, _⟩ => ⟨S4x2x4x2048x2048, .f32⟩
  | .hbm, ⟨18, _⟩ => ⟨S4x2x2048x2048x4, .f32⟩
  | .hbm, ⟨19, _⟩ => ⟨S4x2x4x2048x2048, .f32⟩
  | .hbm, ⟨20, _⟩ => ⟨S4x2x4x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x2x4x2048x2048, .i1⟩
  | .hbm, ⟨29, _⟩ => ⟨S4x2x4x2048x2048, .f32⟩
  | .hbm, ⟨30, _⟩ => ⟨S4x2x4x2048x2048, .f32⟩
  | .hbm, ⟨31, _⟩ => ⟨S_, .f32⟩
  | .hbm, ⟨32, _⟩ => ⟨S4x2x4x2048, .f32⟩
  | .hbm, ⟨33, _⟩ => ⟨S_, .f32⟩
  | .hbm, ⟨34, _⟩ => ⟨S4x2x4x2048, .f32⟩
  | .hbm, ⟨35, _⟩ => ⟨S4x2x4x2048, .f32⟩
  | .hbm, ⟨36, _⟩ => ⟨S4x2x4x2048x1, .f32⟩
  | .hbm, ⟨37, _⟩ => ⟨S4x2x4x2048x2048, .f32⟩
  | .hbm, ⟨38, _⟩ => ⟨S4x2x4x2048x2048, .f32⟩
  | .hbm, ⟨39, _⟩ => ⟨S4x2x4x2048x2048, .f32⟩
  | .hbm, ⟨40, _⟩ => ⟨S_, .f32⟩
  | .hbm, ⟨41, _⟩ => ⟨S4x2x4x2048, .f32⟩
  | .hbm, ⟨42, _⟩ => ⟨S4x2x4x2048x1, .f32⟩
  | .hbm, ⟨43, _⟩ => ⟨S4x2x4x2048x2048, .f32⟩
  | .hbm, ⟨44, _⟩ => ⟨S4x2x4x2048x2048, .f32⟩
  | .hbm, ⟨45, _⟩ => ⟨S4x2x128x4x2048, .f32⟩
  | .hbm, ⟨46, _⟩ => ⟨S4x2048x2x4x128, .f32⟩
  | .hbm, ⟨47, _⟩ => ⟨S8192x1024, .f32⟩
  | .hbm, ⟨48, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel3.lean ====
abbrev S9216x2048 : Shape := ⟨2, ![9216, 2048]⟩
abbrev S4x2048 : Shape := ⟨2, ![4, 2048]⟩
abbrev S4x2048x4096 : Shape := ⟨3, ![4, 2048, 4096]⟩
abbrev S4x4096x2048 : Shape := ⟨3, ![4, 4096, 2048]⟩
abbrev S1x2048 : Shape := ⟨2, ![1, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 9
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x4096, .f32⟩
  | .hbm, ⟨3, _⟩ => ⟨S4x2048x4096, .f32⟩
  | .hbm, ⟨4, _⟩ => ⟨S4x4096x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S9216x2048 : Shape := ⟨2, ![9216, 2048]⟩
abbrev S4x2048 : Shape := ⟨2, ![4, 2048]⟩
abbrev S4x2048x4096 : Shape := ⟨3, ![4, 2048, 4096]⟩
abbrev S4x4096x2048 : Shape := ⟨3, ![4, 4096, 2048]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x4096 : Shape := ⟨3, ![1, 2048, 4096]⟩
abbrev S2048x4096 : Shape := ⟨2, ![2048, 4096]⟩
abbrev S9216x4096 : Shape := ⟨2, ![9216, 4096]⟩
abbrev S1x4096x2048 : Shape := ⟨3, ![1, 4096, 2048]⟩
abbrev S4096x2048 : Shape := ⟨2, ![4096, 2048]⟩

abbrev nBuf : Space → Nat
  | .hbm => 46
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x4096, .f32⟩
  | .hbm, ⟨3, _⟩ => ⟨S4x2048x4096, .f32⟩
  | .hbm, ⟨4, _⟩ => ⟨S4x4096x2048, .f32⟩
  | .hbm, ⟨5, _⟩ => ⟨S1x2048, .f32⟩
  | .hbm, ⟨6, _⟩ => ⟨S2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S1x2048, .f32⟩
  | .hbm, ⟨21, _⟩ => ⟨S9216x2048, .f32⟩
  | .hbm, ⟨22, _⟩ => ⟨S9216x2048, .f32⟩
  | .hbm, ⟨23, _⟩ => ⟨S1x2048x4096, .f32⟩
  | .hbm, ⟨24, _⟩ => ⟨S2048x4096, .f32⟩
  | .hbm, ⟨25, _⟩ => ⟨S9216x4096, .f32⟩
  | .hbm, ⟨26, _⟩ => ⟨S9216x4096, .f32⟩
  | .hbm, ⟨27, _⟩ => ⟨S9216x4096, .f32⟩
  | .hbm, ⟨28, _⟩ => ⟨S_, .f32⟩
  | .hbm, ⟨29, _⟩ => ⟨S9216x4096, .f32⟩
  | .hbm, ⟨30, _⟩ => ⟨S9216x4096, .f32⟩
  | .hbm, ⟨31, _⟩ => ⟨S_, .f32⟩
  | .hbm, ⟨32, _⟩ => ⟨S9216x4096, .f32⟩
  | .hbm, ⟨33, _⟩ => ⟨S9216x4096, .f32⟩
  | .hbm, ⟨34, _⟩ => ⟨S9216x4096, .f32⟩
  | .hbm, ⟨35, _⟩ => ⟨S1x2048x4096, .f32⟩
  | .hbm, ⟨36, _⟩ => ⟨S2048x4096, .f32⟩
  | .hbm, ⟨37, _⟩ => ⟨S9216x4096, .f32⟩
  | .hbm, ⟨38, _⟩ => ⟨S9216x4096, .f32⟩
  | .hbm, ⟨39, _⟩ => ⟨S1x4096x2048, .f32⟩
  | .hbm, ⟨40, _⟩ => ⟨S4096x2048, .f32⟩
  | .hbm, ⟨41, _⟩ => ⟨S9216x2048, .f32⟩
  | .hbm, ⟨42, _⟩ => ⟨S_, .f32⟩
  | .hbm, ⟨43, _⟩ => ⟨S9216x2048, .f32⟩
  | .hbm, ⟨44, _⟩ => ⟨S9216x2048, .f32⟩
  | .hbm, ⟨45, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel4.lean ====
abbrev S9216x2048 : Shape := ⟨2, ![9216, 2048]⟩
abbrev S2048 : Shape := ⟨1, ![2048]⟩
abbrev S2048x2560 : Shape := ⟨2, ![2048, 2560]⟩
abbrev S64 : Shape := ⟨1, ![64]⟩
abbrev S1x2048 : Shape := ⟨2, ![1, 2048]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S9216x256 : Shape := ⟨2, ![9216, 256]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S256x2560 : Shape := ⟨2, ![256, 2560]⟩
abbrev S256x128 : Shape := ⟨2, ![256, 128]⟩

abbrev nBuf : Space → Nat
  | .hbm => 21
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x2560, .f32⟩
  | .hbm, ⟨3, _⟩ => ⟨S64, .f32⟩
  | .hbm, ⟨4, _⟩ => ⟨S64, .f32⟩
  | .hbm, ⟨5, _⟩ => ⟨S1x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x2560, .bf16⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x128, .f32⟩
  | .hbm, ⟨18, _⟩ => ⟨S9216x2048, .bf16⟩
  | .hbm, ⟨19, _⟩ => ⟨S9216x256, .f32⟩
  | .hbm, ⟨20, _⟩ => ⟨S9216x256, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2560, .bf16⟩
  | .local _ .vmem, ⟨4, _⟩ => ⟨S1x128, .f32⟩
  | .local _ .vmem, ⟨5, _⟩ => ⟨S1x128, .f32⟩
  | .local _ .vmem, ⟨6, _⟩ => ⟨S256x2048, .bf16⟩
  | .local _ .vmem, ⟨7, _⟩ => ⟨S256x2048, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S9216x2048 : Shape := ⟨2, ![9216, 2048]⟩
abbrev S2048 : Shape := ⟨1, ![2048]⟩
abbrev S2048x2560 : Shape := ⟨2, ![2048, 2560]⟩
abbrev S64 : Shape := ⟨1, ![64]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x2560 : Shape := ⟨2, ![9216, 2560]⟩
abbrev S9216x256 : Shape := ⟨2, ![9216, 256]⟩
abbrev S9216x32x64 : Shape := ⟨3, ![9216, 32, 64]⟩
abbrev S9216x32 : Shape := ⟨2, ![9216, 32]⟩
abbrev S9216x32x1 : Shape := ⟨3, ![9216, 32, 1]⟩
abbrev S1x1x64 : Shape := ⟨3, ![1, 1, 64]⟩
abbrev S9216x4x64 : Shape := ⟨3, ![9216, 4, 64]⟩
abbrev S9216x4 : Shape := ⟨2, ![9216, 4]⟩
abbrev S9216x4x1 : Shape := ⟨3, ![9216, 4, 1]⟩

abbrev nBuf : Space → Nat
  | .hbm => 65
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x2560, .f32⟩
  | .hbm, ⟨3, _⟩ => ⟨S64, .f32⟩
  | .hbm, ⟨4, _⟩ => ⟨S64, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x2560, .f32⟩
  | .hbm, ⟨22, _⟩ => ⟨S9216x2048, .f32⟩
  | .hbm, ⟨23, _⟩ => ⟨S9216x256, .f32⟩
  | .hbm, ⟨24, _⟩ => ⟨S9216x256, .f32⟩
  | .hbm, ⟨25, _⟩ => ⟨S9216x32x64, .f32⟩
  | .hbm, ⟨26, _⟩ => ⟨S9216x32x64, .f32⟩
  | .hbm, ⟨27, _⟩ => ⟨S_, .f32⟩
  | .hbm, ⟨28, _⟩ => ⟨S9216x32, .f32⟩
  | .hbm, ⟨29, _⟩ => ⟨S9216x32x1, .f32⟩
  | .hbm, ⟨30, _⟩ => ⟨S_, .f32⟩
  | .hbm, ⟨31, _⟩ => ⟨S9216x32x1, .f32⟩
  | .hbm, ⟨32, _⟩ => ⟨S9216x32x1, .f32⟩
  | .hbm, ⟨33, _⟩ => ⟨S_, .f32⟩
  | .hbm, ⟨34, _⟩ => ⟨S9216x32x1, .f32⟩
  | .hbm, ⟨35, _⟩ => ⟨S9216x32x1, .f32⟩
  | .hbm, ⟨36, _⟩ => ⟨S9216x32x1, .f32⟩
  | .hbm, ⟨37, _⟩ => ⟨S9216x32x64, .f32⟩
  | .hbm, ⟨38, _⟩ => ⟨S9216x32x64, .f32⟩
  | .hbm, ⟨39, _⟩ => ⟨S1x1x64, .f32⟩
  | .hbm, ⟨40, _⟩ => ⟨S9216x32x64, .f32⟩
  | .hbm, ⟨41, _⟩ => ⟨S9216x32x64, .f32⟩
  | .hbm, ⟨42, _⟩ => ⟨S_, .f32⟩
  | .hbm, ⟨43, _⟩ => ⟨S9216x32x64, .f32⟩
  | .hbm, ⟨44, _⟩ => ⟨S9216x32x64, .f32⟩
  | .hbm, ⟨45, _⟩ => ⟨S9216x4x64, .f32⟩
  | .hbm, ⟨46, _⟩ => ⟨S9216x4x64, .f32⟩
  | .hbm, ⟨47, _⟩ => ⟨S_, .f32⟩
  | .hbm, ⟨48, _⟩ => ⟨S9216x4, .f32⟩
  | .hbm, ⟨49, _⟩ => ⟨S9216x4x1, .f32⟩
  | .hbm, ⟨50, _⟩ => ⟨S_, .f32⟩
  | .hbm, ⟨51, _⟩ => ⟨S9216x4x1, .f32⟩
  | .hbm, ⟨52, _⟩ => ⟨S9216x4x1, .f32⟩
  | .hbm, ⟨53, _⟩ => ⟨S_, .f32⟩
  | .hbm, ⟨54, _⟩ => ⟨S9216x4x1, .f32⟩
  | .hbm, ⟨55, _⟩ => ⟨S9216x4x1, .f32⟩
  | .hbm, ⟨56, _⟩ => ⟨S9216x4x1, .f32⟩
  | .hbm, ⟨57, _⟩ => ⟨S9216x4x64, .f32⟩
  | .hbm, ⟨58, _⟩ => ⟨S9216x4x64, .f32⟩
  | .hbm, ⟨59, _⟩ => ⟨S1x1x64, .f32⟩
  | .hbm, ⟨60, _⟩ => ⟨S9216x4x64, .f32⟩
  | .hbm, ⟨61, _⟩ => ⟨S9216x4x64, .f32⟩
  | .hbm, ⟨62, _⟩ => ⟨S9216x2048, .f32⟩
  | .hbm, ⟨63, _⟩ => ⟨S9216x2048, .bf16⟩
  | .hbm, ⟨64, _⟩ => ⟨S9216x256, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel5.lean ====
abbrev S9216x2048 : Shape := ⟨2, ![9216, 2048]⟩
abbrev S2048 : Shape := ⟨1, ![2048]⟩
abbrev S2048x2632 : Shape := ⟨2, ![2048, 2632]⟩
abbrev S512 : Shape := ⟨1, ![512]⟩
abbrev S512x1536 : Shape := ⟨2, ![512, 1536]⟩
abbrev S128 : Shape := ⟨1, ![128]⟩
abbrev S64 : Shape := ⟨1, ![64]⟩
abbrev S8 : Shape := ⟨1, ![8]⟩
abbrev S32 : Shape := ⟨1, ![32]⟩
abbrev S_ : Shape := ⟨0, ![]⟩
abbrev S1x2048 : Shape := ⟨2, ![1, 2048]⟩
abbrev S4x2048 : Shape := ⟨2, ![4, 2048]⟩
abbrev S8192 : Shape := ⟨1, ![8192]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S9216x1 : Shape := ⟨2, ![9216, 1]⟩
abbrev S1x32 : Shape := ⟨2, ![1, 32]⟩
abbrev S9216x32 : Shape := ⟨2, ![9216, 32]⟩
abbrev S1x9216x1x32 : Shape := ⟨4, ![1, 9216, 1, 32]⟩
abbrev S1x9216x4x32 : Shape := ⟨4, ![1, 9216, 4, 32]⟩
abbrev S9216x128 : Shape := ⟨2, ![9216, 128]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S2048x56 : Shape := ⟨2, ![2048, 56]⟩
abbrev S2048x1024 : Shape := ⟨2, ![2048, 1024]⟩
abbrev S2048x1536 : Shape := ⟨2, ![2048, 1536]⟩
abbrev S2048x64 : Shape := ⟨2, ![2048, 64]⟩
abbrev S2048x8 : Shape := ⟨2, ![2048, 8]⟩
abbrev S2048x2688 : Shape := ⟨2, ![2048, 2688]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S1x128 : Shape := ⟨2, ![1, 128]⟩
abbrev S1 : Shape := ⟨1, ![1]⟩
abbrev S2 : Shape := ⟨1, ![2]⟩
abbrev S1x512 : Shape := ⟨2, ![1, 512]⟩
abbrev S1x64 : Shape := ⟨2, ![1, 64]⟩
abbrev S2x64 : Shape := ⟨2, ![2, 64]⟩
abbrev S9216x512 : Shape := ⟨2, ![9216, 512]⟩
abbrev S9216x1024 : Shape := ⟨2, ![9216, 1024]⟩
abbrev S9216x256 : Shape := ⟨2, ![9216, 256]⟩
abbrev S9216x8 : Shape := ⟨2, ![9216, 8]⟩
abbrev S256x2048 : Shape := ⟨2, ![256, 2048]⟩
abbrev S256x128 : Shape := ⟨2, ![256, 128]⟩
abbrev S256x512 : Shape := ⟨2, ![256, 512]⟩
abbrev S256x64 : Shape := ⟨2, ![256, 64]⟩
abbrev S256x1024 : Shape := ⟨2, ![256, 1024]⟩
abbrev S256x256 : Shape := ⟨2, ![256, 256]⟩
abbrev S256x8 : Shape := ⟨2, ![256, 8]⟩
abbrev S256 : Shape := ⟨1, ![256]⟩
abbrev S256x1 : Shape := ⟨2, ![256, 1]⟩
abbrev S256x2688 : Shape := ⟨2, ![256, 2688]⟩
abbrev S256x1536 : Shape := ⟨2, ![256, 1536]⟩

abbrev nBuf : Space → Nat
  | .hbm => 111
  | .vmem => 33
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x2632, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S128, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S128, .f32⟩
  | .hbm, ⟨11, _⟩ => ⟨S8, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .i32⟩
  | .hbm, ⟨21, _⟩ => ⟨S1x2048, .i32⟩
  | .hbm, ⟨22, _⟩ => ⟨S4x2048, .i32⟩
  | .hbm, ⟨23, _⟩ => ⟨S8192, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S1x8, .i32⟩
  | .hbm, ⟨29, _⟩ => ⟨S128x8, .i32⟩
  | .hbm, ⟨30, _⟩ => ⟨S1024, .i32⟩
  | .hbm, ⟨31, _⟩ => ⟨S9216, .i32⟩
  | .hbm, ⟨32, _⟩ => ⟨S9216, .f32⟩
  | .hbm, ⟨33, _⟩ => ⟨S9216x1, .f32⟩
  | .hbm, ⟨34, _⟩ => ⟨S1x32, .f32⟩
  | .hbm, ⟨35, _⟩ => ⟨S9216x32, .f32⟩
  | .hbm, ⟨36, _⟩ => ⟨S9216x32, .f32⟩
  | .hbm, ⟨37, _⟩ => ⟨S9216x32, .f32⟩
  | .hbm, ⟨38, _⟩ => ⟨S9216x32, .f32⟩
  | .hbm, ⟨39, _⟩ => ⟨S9216x32, .f32⟩
  | .hbm, ⟨40, _⟩ => ⟨S1x9216x1x32, .f32⟩
  | .hbm, ⟨41, _⟩ => ⟨S1x9216x4x32, .f32⟩
  | .hbm, ⟨42, _⟩ => ⟨S9216x128, .f32⟩
  | .hbm, ⟨43, _⟩ => ⟨S9216x32, .f32⟩
  | .hbm, ⟨44, _⟩ => ⟨S9216x64, .f32⟩
  | .hbm, ⟨45, _⟩ => ⟨S1x9216x1x64, .f32⟩
  | .hbm, ⟨46, _⟩ => ⟨S1x9216x2x64, .f32⟩
  | .hbm, ⟨47, _⟩ => ⟨S9216x128, .f32⟩
  | .hbm, ⟨48, _⟩ => ⟨S_, .f32⟩
  | .hbm, ⟨49, _⟩ => ⟨S2048x56, .f32⟩
  | .hbm, ⟨50, _⟩ => ⟨S2048x1024, .f32⟩
  | .hbm, ⟨51, _⟩ => ⟨S2048x1536, .f32⟩
  | .hbm, ⟨52, _⟩ => ⟨S2048x64, .f32⟩
  | .hbm, ⟨53, _⟩ => ⟨S2048x8, .f32⟩
  | .hbm, ⟨54, _⟩ => ⟨S2048x2688, .f32⟩
  | .hbm, ⟨55, _⟩ => ⟨S2048x2688, .bf16⟩
  | .hbm, ⟨56, _⟩ => ⟨S512x8x192, .f32⟩
  | .hbm, ⟨57, _⟩ => ⟨S512x8x128, .f32⟩
  | .hbm, ⟨58, _⟩ => ⟨S512x1024, .f32⟩
  | .hbm, ⟨59, _⟩ => ⟨S512x8x64, .f32⟩
  | .hbm, ⟨60, _⟩ => ⟨S512x512, .f32⟩
  | .hbm, ⟨61, _⟩ => ⟨S512x1536, .f32⟩
  | .hbm, ⟨62, _⟩ => ⟨S512x1536, .bf16⟩
  | .hbm, ⟨63, _⟩ => ⟨S_, .f32⟩
  | .hbm, ⟨64, _⟩ => ⟨S1x128, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S1x128, .f32⟩
  | .hbm, ⟨71, _⟩ => ⟨S_, .f32⟩
  | .hbm, ⟨72, _⟩ => ⟨S64, .f32⟩
  | .hbm, ⟨73, _⟩ => ⟨S128, .f32⟩
  | .hbm, ⟨74, _⟩ => ⟨S1x128, .f32⟩
  | .hbm, ⟨75, _⟩ => ⟨S1x2048, .f32⟩
  | .hbm, ⟨76, _⟩ => ⟨S1x2048, .f32⟩
  | .hbm, ⟨77, _⟩ => ⟨S2048, .f32⟩
  | .hbm, ⟨78, _⟩ => ⟨S1x2048, .f32⟩
  | .hbm, ⟨79, _⟩ => ⟨S1x512, .f32⟩
  | .hbm, ⟨80, _⟩ => ⟨S1x512, .f32⟩
  | .hbm, ⟨81, _⟩ => ⟨S512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S512, .f32⟩
  | .hbm, ⟨86, _⟩ => ⟨S1x512, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x64, .f32⟩
  | .hbm, ⟨92, _⟩ => ⟨S2x64, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S9216x2048, .bf16⟩
  | .hbm, ⟨104, _⟩ => ⟨S9216x512, .f32⟩
  | .hbm, ⟨105, _⟩ => ⟨S9216x64, .f32⟩
  | .hbm, ⟨106, _⟩ => ⟨S9216x128, .bf16⟩
  | .hbm, ⟨107, _⟩ => ⟨S9216x1024, .bf16⟩
  | .hbm, ⟨108, _⟩ => ⟨S9216x256, .f32⟩
  | .hbm, ⟨109, _⟩ => ⟨S9216x256, .f32⟩
  | .hbm, ⟨110, _⟩ => ⟨S9216x8, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2688, .bf16⟩
  | .local _ .vmem, ⟨4, _⟩ => ⟨S1x512, .f32⟩
  | .local _ .vmem, ⟨5, _⟩ => ⟨S512x1536, .bf16⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x2048, .bf16⟩
  | .local _ .vmem, ⟨18, _⟩ => ⟨S256x2048, .bf16⟩
  | .local _ .vmem, ⟨19, _⟩ => ⟨S256x512, .f32⟩
  | .local _ .vmem, ⟨20, _⟩ => ⟨S256x512, .f32⟩
  | .local _ .vmem, ⟨21, _⟩ => ⟨S256x64, .f32⟩
  | .local _ .vmem, ⟨22, _⟩ => ⟨S256x64, .f32⟩
  | .local _ .vmem, ⟨23, _⟩ => ⟨S256x128, .bf16⟩
  | .local _ .vmem, ⟨24, _⟩ => ⟨S256x128, .bf16⟩
  | .local _ .vmem, ⟨25, _⟩ => ⟨S256x1024, .bf16⟩
  | .local _ .vmem, ⟨26, _⟩ => ⟨S256x1024, .bf16⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x8, .f32⟩
  | .local _ .vmem, ⟨32, _⟩ => ⟨S256x8, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_c_3 : Ref sig .tc := ⟨.hbm, 65, rfl⟩
abbrev main_v48 : Ref sig .tc := ⟨.hbm, 66, rfl⟩
abbrev main_c_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83_0 : Ref sig .tc := ⟨.hbm, 103, rfl⟩
abbrev main_v83_1 : Ref sig .tc := ⟨.hbm, 104, rfl⟩
abbrev main_v83_2 : Ref sig .tc := ⟨.hbm, 105, rfl⟩
abbrev main_v83_3 : Ref sig .tc := ⟨.hbm, 106, rfl⟩
abbrev main_v83_4 : Ref sig .tc := ⟨.hbm, 107, rfl⟩
abbrev main_v83_5 : Ref sig .tc := ⟨.hbm, 108, rfl⟩
abbrev main_v83_6 : Ref sig .tc := ⟨.hbm, 109, rfl⟩
abbrev main_v83_7 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S9216x2048 : Shape := ⟨2, ![9216, 2048]⟩
abbrev S2048 : Shape := ⟨1, ![2048]⟩
abbrev S2048x2632 : Shape := ⟨2, ![2048, 2632]⟩
abbrev S512 : Shape := ⟨1, ![512]⟩
abbrev S512x1536 : Shape := ⟨2, ![512, 1536]⟩
abbrev S128 : Shape := ⟨1, ![128]⟩
abbrev S64 : Shape := ⟨1, ![64]⟩
abbrev S8 : Shape := ⟨1, ![8]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x2632 : Shape := ⟨2, ![9216, 2632]⟩
abbrev S9216x512 : Shape := ⟨2, ![9216, 512]⟩
abbrev S9216x64 : Shape := ⟨2, ![9216, 64]⟩
abbrev S9216x1024 : Shape := ⟨2, ![9216, 1024]⟩
abbrev S9216x256 : Shape := ⟨2, ![9216, 256]⟩
abbrev S9216x8 : Shape := ⟨2, ![9216, 8]⟩
abbrev S32 : Shape := ⟨1, ![32]⟩
abbrev S4x2048 : Shape := ⟨2, ![4, 2048]⟩
abbrev S8192 : Shape := ⟨1, ![8192]⟩
abbrev S1x8 : Shape := ⟨2, ![1, 8]⟩
abbrev S128x8 : Shape := ⟨2, ![128, 8]⟩
abbrev S1024 : Shape := ⟨1, ![1024]⟩
abbrev S1x32 : Shape := ⟨2, ![1, 32]⟩
abbrev S9216x32 : Shape := ⟨2, ![9216, 32]⟩
abbrev S1x512 : Shape := ⟨2, ![1, 512]⟩
abbrev S9216x1536 : Shape := ⟨2, ![9216, 1536]⟩
abbrev S9216x8x192 : Shape := ⟨3, ![9216, 8, 192]⟩
abbrev S9216x8x128 : Shape := ⟨3, ![9216, 8, 128]⟩
abbrev S9216x8x1 : Shape := ⟨3, ![9216, 8, 1]⟩
abbrev S1x1x128 : Shape := ⟨3, ![1, 1, 128]⟩
abbrev S9216x8x64 : Shape := ⟨3, ![9216, 8, 64]⟩
abbrev S1x1x64 : Shape := ⟨3, ![1, 1, 64]⟩
abbrev S9216x1x32 : Shape := ⟨3, ![9216, 1, 32]⟩
abbrev S9216x8x32 : Shape := ⟨3, ![9216, 8, 32]⟩
abbrev S9216x8x256 : Shape := ⟨3, ![9216, 8, 256]⟩
abbrev S1x64 : Shape := ⟨2, ![1, 64]⟩
abbrev S9216x128 : Shape := ⟨2, ![9216, 128]⟩
abbrev S9216x2x128 : Shape := ⟨3, ![9216, 2, 128]⟩
abbrev S9216x2 : Shape := ⟨2, ![9216, 2]⟩
abbrev S9216x2x1 : Shape := ⟨3, ![9216, 2, 1]⟩

abbrev nBuf : Space → Nat
  | .hbm => 246
  | .vmem => 0
  | .smem => 0
  | _ => 0

abbrev hbmTy0_0 (i : Nat) : BufTy := match i % 128 with
  | 0 => ⟨S9216x2048, .f32⟩
  | 1 => ⟨S2048, .f32⟩
  | 2 => ⟨S2048x2632, .f32⟩
  | 3 => ⟨S512, .f32⟩
  | 4 => ⟨S512x1536, .f32⟩
  | 5 => ⟨S512, .f32⟩
  | 6 => ⟨S128, .f32⟩
  | 7 => ⟨S64, .f32⟩
  | 8 => ⟨S64, .f32⟩
  | 9 => ⟨S128, .f32⟩
  | 10 => ⟨S128, .f32⟩
  | 11 => ⟨S8, .f32⟩
  | 12 => ⟨S9216x2048, .f32⟩
  | 13 => ⟨S_, .f32⟩
  | 14 => ⟨S9216, .f32⟩
  | 15 => ⟨S9216x1, .f32⟩
  | 16 => ⟨S_, .f32⟩
  | 17 => ⟨S9216x1, .f32⟩
  | 18 => ⟨S9216x1, .f32⟩
  | 19 => ⟨S_, .f32⟩
  | 20 => ⟨S9216x1, .f32⟩
  | 21 => ⟨S9216x1, .f32⟩
  | 22 => ⟨S9216x1, .f32⟩
  | 23 => ⟨S9216x2048, .f32⟩
  | 24 => ⟨S9216x2048, .f32⟩
  | 25 => ⟨S1x2048, .f32⟩
  | 26 => ⟨S9216x2048, .f32⟩
  | 27 => ⟨S9216x2048, .f32⟩
  | 28 => ⟨S9216x2632, .f32⟩
  | 29 => ⟨S9216x512, .f32⟩
  | 30 => ⟨S9216x512, .f32⟩
  | 31 => ⟨S9216x64, .f32⟩
  | 32 => ⟨S9216x1024, .f32⟩
  | 33 => ⟨S9216x256, .f32⟩
  | 34 => ⟨S9216x256, .f32⟩
  | 35 => ⟨S9216x8, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S2048, .i32⟩
  | 45 => ⟨S1x2048, .i32⟩
  | 46 => ⟨S4x2048, .i32⟩
  | 47 => ⟨S8192, .i32⟩
  | 48 => ⟨S8, .i32⟩
  | 49 => ⟨S_, .i32⟩
  | 50 => ⟨S8, .i32⟩
  | 51 => ⟨S8, .i32⟩
  | 52 => ⟨S1x8, .i32⟩
  | 53 => ⟨S128x8, .i32⟩
  | 54 => ⟨S1024, .i32⟩
  | 55 => ⟨S9216, .i32⟩
  | 56 => ⟨S9216, .f32⟩
  | 57 => ⟨S9216x1, .f32⟩
  | 58 => ⟨S1x32, .f32⟩
  | 59 => ⟨S9216x32, .f32⟩
  | 60 => ⟨S9216x32, .f32⟩
  | 61 => ⟨S9216x32, .f32⟩
  | 62 => ⟨S9216x32, .f32⟩
  | 63 => ⟨S9216x32, .f32⟩
  | 64 => ⟨S9216x512, .f32⟩
  | 65 => ⟨S_, .f32⟩
  | 66 => ⟨S9216, .f32⟩
  | 67 => ⟨S9216x1, .f32⟩
  | 68 => ⟨S_, .f32⟩
  | 69 => ⟨S9216x1, .f32⟩
  | 70 => ⟨S9216x1, .f32⟩
  | 71 => ⟨S_, .f32⟩
  | 72 => ⟨S9216x1, .f32⟩
  | 73 => ⟨S9216x1, .f32⟩
  | 74 => ⟨S9216x1, .f32⟩
  | 75 => ⟨S9216x512, .f32⟩
  | 76 => ⟨S9216x512, .f32⟩
  | 77 => ⟨S1x512, .f32⟩
  | 78 => ⟨S9216x512, .f32⟩
  | 79 => ⟨S9216x512, .f32⟩
  | 80 => ⟨S9216x1536, .f32⟩
  | 81 => ⟨S9216x8x192, .f32⟩
  | 82 => ⟨S9216x8x128, .f32⟩
  | 83 => ⟨S9216x8x128, .f32⟩
  | 84 => ⟨S_, .f32⟩
  | 85 => ⟨S9216x8, .f32⟩
  | 86 => ⟨S9216x8x1, .f32⟩
  | 87 => ⟨S_, .f32⟩
  | 88 => ⟨S9216x8x1, .f32⟩
  | 89 => ⟨S9216x8x1, .f32⟩
  | 90 => ⟨S_, .f32⟩
  | 91 => ⟨S9216x8x1, .f32⟩
  | 92 => ⟨S9216x8x1, .f32⟩
  | 93 => ⟨S9216x8x1, .f32⟩
  | 94 => ⟨S9216x8x128, .f32⟩
  | 95 => ⟨S9216x8x128, .f32⟩
  | 96 => ⟨S1x1x128, .f32⟩
  | 97 => ⟨S9216x8x128, .f32⟩
  | 98 => ⟨S9216x8x128, .f32⟩
  | 99 => ⟨S_, .f32⟩
  | 100 => ⟨S9216x8x128, .f32⟩
  | 101 => ⟨S9216x8x128, .f32⟩
  | 102 => ⟨S9216x8x64, .f32⟩
  | 103 => ⟨S9216x8x64, .f32⟩
  | 104 => ⟨S_, .f32⟩
  | 105 => ⟨S9216x8, .f32⟩
  | 106 => ⟨S9216x8x1, .f32⟩
  | 107 => ⟨S_, .f32⟩
  | 108 => ⟨S9216x8x1, .f32⟩
  | 109 => ⟨S9216x8x1, .f32⟩
  | 110 => ⟨S_, .f32⟩
  | 111 => ⟨S9216x8x1, .f32⟩
  | 112 => ⟨S9216x8x1, .f32⟩
  | 113 => ⟨S9216x8x1, .f32⟩
  | 114 => ⟨S9216x8x64, .f32⟩
  | 115 => ⟨S9216x8x64, .f32⟩
  | 116 => ⟨S1x1x64, .f32⟩
  | 117 => ⟨S9216x8x64, .f32⟩
  | 118 => ⟨S9216x8x64, .f32⟩
  | 119 => ⟨S9216x1x32, .f32⟩
  | 120 => ⟨S9216x1x32, .f32⟩
  | 121 => ⟨S9216x8x32, .f32⟩
  | 122 => ⟨S9216x8x32, .f32⟩
  | 123 => ⟨S9216x8x32, .f32⟩
  | 124 => ⟨S9216x8x32, .f32⟩
  | 125 => ⟨S9216x8x32, .f32⟩
  | 126 => ⟨S9216x8x32, .f32⟩
  | 127 => ⟨S9216x8x32, .f32⟩
  | _ => ⟨S9216x2048, .f32⟩

abbrev hbmTy0_1 (i : Nat) : BufTy := match i % 128 with
  | 0 => ⟨S9216x8x32, .f32⟩
  | 1 => ⟨S9216x8x32, .f32⟩
  | 2 => ⟨S9216x8x32, .f32⟩
  | 3 => ⟨S9216x8x32, .f32⟩
  | 4 => ⟨S9216x8x32, .f32⟩
  | 5 => ⟨S9216x8x64, .f32⟩
  | 6 => ⟨S_, .f32⟩
  | 7 => ⟨S9216x8x64, .f32⟩
  | 8 => ⟨S9216x8x64, .f32⟩
  | 9 => ⟨S_, .f32⟩
  | 10 => ⟨S9216x8x64, .f32⟩
  | 11 => ⟨S9216x8x256, .f32⟩
  | 12 => ⟨S9216x64, .f32⟩
  | 13 => ⟨S_, .f32⟩
  | 14 => ⟨S9216, .f32⟩
  | 15 => ⟨S9216x1, .f32⟩
  | 16 => ⟨S_, .f32⟩
  | 17 => ⟨S9216x1, .f32⟩
  | 18 => ⟨S9216x1, .f32⟩
  | 19 => ⟨S_, .f32⟩
  | 20 => ⟨S9216x1, .f32⟩
  | 21 => ⟨S9216x1, .f32⟩
  | 22 => ⟨S9216x1, .f32⟩
  | 23 => ⟨S9216x64, .f32⟩
  | 24 => ⟨S9216x64, .f32⟩
  | 25 => ⟨S1x64, .f32⟩
  | 26 => ⟨S9216x64, .f32⟩
  | 27 => ⟨S9216x64, .f32⟩
  | 28 => ⟨S9216x32, .f32⟩
  | 29 => ⟨S9216x32, .f32⟩
  | 30 => ⟨S9216x32, .f32⟩
  | 31 => ⟨S9216x32, .f32⟩
  | 32 => ⟨S9216x32, .f32⟩
  | 33 => ⟨S9216x32, .f32⟩
  | 34 => ⟨S9216x32, .f32⟩
  | 35 => ⟨S9216x32, .f32⟩
  | 36 => ⟨S9216x64, .f32⟩
  | 37 => ⟨S_, .f32⟩
  | 38 => ⟨S9216x64, .f32⟩
  | 39 => ⟨S9216x128, .f32⟩
  | 40 => ⟨S9216x8x128, .f32⟩
  | 41 => ⟨S9216x8x128, .f32⟩
  | 42 => ⟨S_, .f32⟩
  | 43 => ⟨S9216x8, .f32⟩
  | 44 => ⟨S9216x8x1, .f32⟩
  | 45 => ⟨S_, .f32⟩
  | 46 => ⟨S9216x8x1, .f32⟩
  | 47 => ⟨S9216x8x1, .f32⟩
  | 48 => ⟨S_, .f32⟩
  | 49 => ⟨S9216x8x1, .f32⟩
  | 50 => ⟨S9216x8x1, .f32⟩
  | 51 => ⟨S9216x8x1, .f32⟩
  | 52 => ⟨S9216x8x128, .f32⟩
  | 53 => ⟨S9216x8x128, .f32⟩
  | 54 => ⟨S1x1x128, .f32⟩
  | 55 => ⟨S9216x8x128, .f32⟩
  | 56 => ⟨S9216x8x128, .f32⟩
  | 57 => ⟨S_, .f32⟩
  | 58 => ⟨S9216x8x128, .f32⟩
  | 59 => ⟨S9216x8x128, .f32⟩
  | 60 => ⟨S9216x2x128, .f32⟩
  | 61 => ⟨S9216x2x128, .f32⟩
  | 62 => ⟨S_, .f32⟩
  | 63 => ⟨S9216x2, .f32⟩
  | 64 => ⟨S9216x2x1, .f32⟩
  | 65 => ⟨S_, .f32⟩
  | 66 => ⟨S9216x2x1, .f32⟩
  | 67 => ⟨S9216x2x1, .f32⟩
  | 68 => ⟨S_, .f32⟩
  | 69 => ⟨S9216x2x1, .f32⟩
  | 70 => ⟨S9216x2x1, .f32⟩
  | 71 => ⟨S9216x2x1, .f32⟩
  | 72 => ⟨S9216x2x128, .f32⟩
  | 73 => ⟨S9216x2x128, .f32⟩
  | 74 => ⟨S1x1x128, .f32⟩
  | 75 => ⟨S9216x2x128, .f32⟩
  | 76 => ⟨S9216x2x128, .f32⟩
  | 77 => ⟨S9216x2048, .f32⟩
  | 78 => ⟨S9216x2048, .bf16⟩
  | 79 => ⟨S9216x512, .f32⟩
  | 80 => ⟨S_, .f32⟩
  | 81 => ⟨S9216, .f32⟩
  | 82 => ⟨S9216x1, .f32⟩
  | 83 => ⟨S_, .f32⟩
  | 84 => ⟨S9216x1, .f32⟩
  | 85 => ⟨S9216x1, .f32⟩
  | 86 => ⟨S_, .f32⟩
  | 87 => ⟨S9216x1, .f32⟩
  | 88 => ⟨S9216x1, .f32⟩
  | 89 => ⟨S9216x1, .f32⟩
  | 90 => ⟨S9216x512, .f32⟩
  | 91 => ⟨S9216x512, .f32⟩
  | 92 => ⟨S1x512, .f32⟩
  | 93 => ⟨S9216x512, .f32⟩
  | 94 => ⟨S9216x512, .f32⟩
  | 95 => ⟨S9216x128, .bf16⟩
  | 96 => ⟨S9216x1024, .f32⟩
  | 97 => ⟨S9216x1024, .bf16⟩
  | 98 => ⟨S9216x256, .f32⟩
  | 99 => ⟨S1x8, .f32⟩
  | 100 => ⟨S9216x8, .f32⟩
  | 101 => ⟨S9216x8, .f32⟩
  | 102 => ⟨S9216x8, .f32⟩
  | 103 => ⟨S_, .f32⟩
  | 104 => ⟨S9216x8, .f32⟩
  | 105 => ⟨S9216x8, .f32⟩
  | 106 => ⟨S9216x8, .f32⟩
  | 107 => ⟨S9216x8, .f32⟩
  | 108 => ⟨S9216x8, .i1⟩
  | 109 => ⟨S9216x8, .f32⟩
  | 110 => ⟨S9216x8, .f32⟩
  | 111 => ⟨S9216x8, .f32⟩
  | 112 => ⟨S9216x8, .f32⟩
  | 113 => ⟨S9216x8, .f32⟩
  | 114 => ⟨S9216x8, .f32⟩
  | 115 => ⟨S9216x8, .f32⟩
  | 116 => ⟨S9216x8, .f32⟩
  | 117 => ⟨S9216x8, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_cst_12 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_14 : Ref sig .tc := ⟨.hbm, 134, rfl⟩
abbrev main_v106 : Ref sig .tc := ⟨.hbm, 135, rfl⟩
abbrev main_v107 : Ref sig .tc := ⟨.hbm, 136, rfl⟩
abbrev main_cst_15 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_16 : Ref sig .tc := ⟨.hbm, 141, rfl⟩
abbrev main_v111 : Ref sig .tc := ⟨.hbm, 142, rfl⟩
abbrev main_v112 : Ref sig .tc := ⟨.hbm, 143, rfl⟩
abbrev main_cst_17 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_19 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_20 : Ref sig .tc := ⟨.hbm, 170, rfl⟩
abbrev main_v136 : Ref sig .tc := ⟨.hbm, 171, rfl⟩
abbrev main_v137 : Ref sig .tc := ⟨.hbm, 172, rfl⟩
abbrev main_cst_21 : Ref sig .tc := ⟨.hbm, 173, rfl⟩
abbrev main_v138 : Ref sig .tc := ⟨.hbm, 174, rfl⟩
abbrev main_v139 : Ref sig .tc := ⟨.hbm, 175, rfl⟩
abbrev main_cst_22 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_23 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_24 : Ref sig .tc := ⟨.hbm, 190, rfl⟩
abbrev main_v152 : Ref sig .tc := ⟨.hbm, 191, rfl⟩
abbrev main_v153 : Ref sig .tc := ⟨.hbm, 192, rfl⟩
abbrev main_cst_25 : Ref sig .tc := ⟨.hbm, 193, rfl⟩
abbrev main_v154 : Ref sig .tc := ⟨.hbm, 194, rfl⟩
abbrev main_v155 : Ref sig .tc := ⟨.hbm, 195, rfl⟩
abbrev main_cst_26 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_cst_28 : Ref sig .tc := ⟨.hbm, 211, rfl⟩
abbrev main_v169 : Ref sig .tc := ⟨.hbm, 212, rfl⟩
abbrev main_v170 : Ref sig .tc := ⟨.hbm, 213, rfl⟩
abbrev main_cst_29 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_call0_v0 : Ref sig .tc := ⟨.hbm, 230, rfl⟩
abbrev main_call0_call0_cst : Ref sig .tc := ⟨.hbm, 231, rfl⟩
abbrev main_call0_call0_v0 : Ref sig .tc := ⟨.hbm, 232, rfl⟩
abbrev main_call0_call0_v1 : Ref sig .tc := ⟨.hbm, 233, rfl⟩
abbrev main_call0_call0_v2 : Ref sig .tc := ⟨.hbm, 234, rfl⟩
abbrev main_call0_call0_v3 : Ref sig .tc := ⟨.hbm, 235, rfl⟩
abbrev main_call0_call0_v4 : Ref sig .tc := ⟨.hbm, 236, rfl⟩
abbrev main_call0_call0_v5 : Ref sig .tc := ⟨.hbm, 237, rfl⟩
abbrev main_call0_call0_v6 : Ref sig .tc := ⟨.hbm, 238, rfl⟩
abbrev main_call0_call0_v7 : Ref sig .tc := ⟨.hbm, 239, rfl⟩
abbrev main_call0_call0_v8 : Ref sig .tc := ⟨.hbm, 240, rfl⟩
abbrev main_call0_call0_v9 : Ref sig .tc := ⟨.hbm, 241, rfl⟩
abbrev main_call0_call0_v10 : Ref sig .tc := ⟨.hbm, 242, rfl⟩
abbrev main_call0_call0_v11 : Ref sig .tc := ⟨.hbm, 243, rfl⟩
abbrev main_call0_v1 : Ref sig .tc := ⟨.hbm, 244, rfl⟩
abbrev main_v186 : Ref sig .tc := ⟨.hbm, 245, rfl⟩

abbrev nD : Nat := 1
abbrev τ : Topo := Topo.v7x

variable {F : FTy → Type} [FloatOps F]
-- ==== Kernel6.lean ====
abbrev S9216x2048 : Shape := ⟨2, ![9216, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S2048x2048, .f32⟩
  | .hbm, ⟨3, _⟩ => ⟨S2048x2048, .bf16⟩
  | .hbm, ⟨4, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S9216x2048 : Shape := ⟨2, ![9216, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S2048x2048, .f32⟩
  | .hbm, ⟨3, _⟩ => ⟨S9216x2048, .f32⟩
  | .hbm, ⟨4, _⟩ => ⟨S9216x2048, .f32⟩
  | .hbm, ⟨5, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.AbIdealFrame.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0
abbrev r0_2 : Rect S2048x2688 := Rect.unit (s := S2048x2688) ![0, 0] S2048x2688.size inb_S2048x2688_S2048x2688_0_0
abbrev r0_3 : Rect S256x128 := Rect.unit (s := S256x128) ![0, 0] S256x128.size inb_S256x128_S256x128_0_0
abbrev r0_4 : Rect S1x512 := Rect.unit (s := S1x512) ![0, 0] S1x512.size inb_S1x512_S1x512_0_0
abbrev r0_5 : Rect S512x1536 := Rect.unit (s := S512x1536) ![0, 0] S512x1536.size inb_S512x1536_S512x1536_0_0
abbrev r0_6 : Rect S1x128 := Rect.unit (s := S1x128) ![0, 0] S1x128.size inb_S1x128_S1x128_0_0
abbrev r0_7 : Rect S256x2048 := Rect.unit (s := S256x2048) ![0, 0] S256x128.size inb_S256x2048_S256x128_0_0
abbrev r0_8 : Rect S256x2048 := Rect.unit (s := S256x2048) ![0, 256] S256x128.size inb_S256x2048_S256x128_0_256
abbrev r0_9 : Rect S256x2048 := Rect.unit (s := S256x2048) ![0, 512] S256x128.size inb_S256x2048_S256x128_0_512
abbrev r0_10 : Rect S256x2048 := Rect.unit (s := S256x2048) ![0, 768] S256x128.size inb_S256x2048_S256x128_0_768
abbrev r0_11 : Rect S256x2048 := Rect.unit (s := S256x2048) ![0, 1024] S256x128.size inb_S256x2048_S256x128_0_1024
abbrev r0_12 : Rect S256x2048 := Rect.unit (s := S256x2048) ![0, 1280] S256x128.size inb_S256x2048_S256x128_0_1280
abbrev r0_13 : Rect S256x2048 := Rect.unit (s := S256x2048) ![0, 1536] S256x128.size inb_S256x2048_S256x128_0_1536
abbrev r0_14 : Rect S256x2048 := Rect.unit (s := S256x2048) ![0, 1792] S256x128.size inb_S256x2048_S256x128_0_1792
abbrev r0_15 : Rect S256x2048 := Rect.unit (s := S256x2048) ![0, 128] S256x128.size inb_S256x2048_S256x128_0_128
abbrev r0_16 : Rect S256x2048 := Rect.unit (s := S256x2048) ![0, 384] S256x128.size inb_S256x2048_S256x128_0_384
abbrev r0_17 : Rect S256x2048 := Rect.unit (s := S256x2048) ![0, 640] S256x128.size inb_S256x2048_S256x128_0_640
abbrev r0_18 : Rect S256x2048 := Rect.unit (s := S256x2048) ![0, 896] S256x128.size inb_S256x2048_S256x128_0_896
abbrev r0_19 : Rect S256x2048 := Rect.unit (s := S256x2048) ![0, 1152] S256x128.size inb_S256x2048_S256x128_0_1152
abbrev r0_20 : Rect S256x2048 := Rect.unit (s := S256x2048) ![0, 1408] S256x128.size inb_S256x2048_S256x128_0_1408
abbrev r0_21 : Rect S256x2048 := Rect.unit (s := S256x2048) ![0, 1664] S256x128.size inb_S256x2048_S256x128_0_1664
abbrev r0_22 : Rect S256x2048 := Rect.unit (s := S256x2048) ![0, 1920] S256x128.size inb_S256x2048_S256x128_0_1920
abbrev r0_23 : Rect S256x512 := Rect.unit (s := S256x512) ![0, 0] S256x512.size inb_S256x512_S256x512_0_0
abbrev r0_24 : Rect S256x1024 := Rect.unit (s := S256x1024) ![0, 0] S256x128.size inb_S256x1024_S256x128_0_0
abbrev r0_25 : Rect S256x1024 := Rect.unit (s := S256x1024) ![0, 128] S256x128.size inb_S256x1024_S256x128_0_128
abbrev r0_26 : Rect S256x1024 := Rect.unit (s := S256x1024) ![0, 256] S256x128.size inb_S256x1024_S256x128_0_256
abbrev r0_27 : Rect S256x1024 := Rect.unit (s := S256x1024) ![0, 384] S256x128.size inb_S256x1024_S256x128_0_384
abbrev r0_28 : Rect S256x1024 := Rect.unit (s := S256x1024) ![0, 512] S256x128.size inb_S256x1024_S256x128_0_512
abbrev r0_29 : Rect S256x1024 := Rect.unit (s := S256x1024) ![0, 640] S256x128.size inb_S256x1024_S256x128_0_640
abbrev r0_30 : Rect S256x1024 := Rect.unit (s := S256x1024) ![0, 768] S256x128.size inb_S256x1024_S256x128_0_768
abbrev r0_31 : Rect S256x1024 := Rect.unit (s := S256x1024) ![0, 896] S256x128.size inb_S256x1024_S256x128_0_896
abbrev r0_32 : Rect S256x256 := Rect.unit (s := S256x256) ![0, 0] S256x128.size inb_S256x256_S256x128_0_0
abbrev r0_33 : Rect S256x256 := Rect.unit (s := S256x256) ![0, 128] S256x128.size inb_S256x256_S256x128_0_128
abbrev r0_34 : Rect S256x256 := Rect.unit (s := S256x256) ![0, 0] S256x256.size inb_S256x256_S256x256_0_0
abbrev r0_35 : Rect S256x64 := Rect.unit (s := S256x64) ![0, 0] S256x64.size inb_S256x64_S256x64_0_0
abbrev r0_36 : Rect S256x8 := Rect.unit (s := S256x8) ![0, 0] S256x8.size inb_S256x8_S256x8_0_0

/-! ## What the body leaves in each output window's buffer -/

/-! ### Values of the body that the stores' payloads, spelt out, would write more than once

    Each is a vector the body binds, as a function of the input windows' blocks; the comment after each is its
    name for the value (a count appended where that name is bound again). -/

def k0_pay84 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x2688 .f32 :=
  k0_pay2 (View.ld x0 r0_0) (View.ld x1 r0_1) (View.ld x2 r0_2) -- `v18`
def k0_pay85 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay3 (View.ld x12 r0_3) -- `v20`
def k0_pay86 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay4 (View.ld x13 r0_3) -- `v22`
def k0_pay87 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : IVec S256x128 1 :=
  k0_pay5 -- `v25`
def k0_pay88 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : IVec S256x128 1 :=
  k0_pay9 (Scalar.select (Scalar.cmpi .eq 64#32 0#32) 1#32 64#32) k0_pay6 k0_pay7 k0_pay8 -- `v43`
def k0_pay89 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1536 .f32 :=
  k0_pay10 (k0_pay84 x0 x1 x2 x3 x4 x5 x6 x7 x8 x9 x10 x11 x12 x13) (View.ld x3 r0_4) (View.ld x4 r0_5) -- `v62`
def k0_pay90 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay26 (k0_pay87 x0 x1 x2 x3 x4 x5 x6 x7 x8 x9 x10 x11 x12 x13) (k0_pay89 x0 x1 x2 x3 x4 x5 x6 x7 x8 x9 x10 x11 x12 x13) (View.ld x7 r0_6) -- `v244`
def k0_pay91 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay27 (k0_pay87 x0 x1 x2 x3 x4 x5 x6 x7 x8 x9 x10 x11 x12 x13) (k0_pay89 x0 x1 x2 x3 x4 x5 x6 x7 x8 x9 x10 x11 x12 x13) (View.ld x7 r0_6) -- `v245`
def k0_pay92 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay31 (k0_pay89 x0 x1 x2 x3 x4 x5 x6 x7 x8 x9 x10 x11 x12 x13) -- `v262`
def k0_pay93 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S1x128 .f32 :=
  k0_pay32 (View.ld x7 r0_6) -- `v264`
def k0_pay94 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1 .f32 :=
  k0_pay34 (k0_pay87 x0 x1 x2 x3 x4 x5 x6 x7 x8 x9 x10 x11 x12 x13) (k0_pay89 x0 x1 x2 x3 x4 x5 x6 x7 x8 x9 x10 x11 x12 x13) -- `v283`
def k0_pay95 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1 .f32 :=
  k0_pay35 (k0_pay87 x0 x1 x2 x3 x4 x5 x6 x7 x8 x9 x10 x11 x12 x13) (k0_pay89 x0 x1 x2 x3 x4 x5 x6 x7 x8 x9 x10 x11 x12 x13) -- `v284`
def k0_pay96 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay39 (k0_pay89 x0 x1 x2 x3 x4 x5 x6 x7 x8 x9 x10 x11 x12 x13) -- `v309`
def k0_pay97 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S1x128 .f32 :=
  k0_pay40 (View.ld x7 r0_6) -- `v311`
def k0_pay98 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1 .f32 :=
  k0_pay42 (k0_pay87 x0 x1 x2 x3 x4 x5 x6 x7 x8 x9 x10 x11 x12 x13) (k0_pay89 x0 x1 x2 x3 x4 x5 x6 x7 x8 x9 x10 x11 x12 x13) -- `v320`
def k0_pay99 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1 .f32 :=
  k0_pay43 (k0_pay87 x0 x1 x2 x3 x4 x5 x6 x7 x8 x9 x10 x11 x12 x13) (k0_pay89 x0 x1 x2 x3 x4 x5 x6 x7 x8 x9 x10 x11 x12 x13) -- `v324`
def k0_pay100 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay47 (k0_pay89 x0 x1 x2 x3 x4 x5 x6 x7 x8 x9 x10 x11 x12 x13) -- `v356`
def k0_pay101 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S1x128 .f32 :=
  k0_pay48 (View.ld x7 r0_6) -- `v358`
def k0_pay102 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x1 .f32 :=
  k0_pay50 (k0_pay87 x0 x1 x2 x3 x4 x5 x6 x7 x8 x9 x10 x11 x12 x13) (k0_pay89 x0 x1 x2 x3 x4 x5 x6 x7 x8 x9 x10 x11 x12 x13) -- `v363`
def k0_pay103 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay51 (k0_pay87 x0 x1 x2 x3 x4 x5 x6 x7 x8 x9 x10 x11 x12 x13) (k0_pay89 x0 x1 x2 x3 x4 x5 x6 x7 x8 x9 x10 x11 x12 x13) -- `v365`
def k0_pay104 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S256x128 .f32 :=
  k0_pay78 (k0_pay84 x0 x1 x2 x3 x4 x5 x6 x7 x8 x9 x10 x11 x12 x13) -- `v605`
def k0_pay105 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : FVec F S1x128 .f32 :=
  k0_pay79 (View.ld x8 r0_6) -- `v607`

/-- Window 14's staging buffer after the body, from the input windows' blocks: its 16 stores as pieces, LAST
    FIRST (Lib/Pipeline/FrameBody.lean `View.canon`; the payloads are the skeleton's and the values stated above). -/
def out0_14 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x2048 .bf16 :=
  View.canon [⟨r0_22, k0_pay54 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay100 x0 x1 x2 x3 x4 x5 x6 x7 x8 x9 x10 x11 x12 x13) (k0_pay101 x0 x1 x2 x3 x4 x5 x6 x7 x8 x9 x10 x11 x12 x13) (k0_pay102 x0 x1 x2 x3 x4 x5 x6 x7 x8 x9 x10 x11 x12 x13) (k0_pay103 x0 x1 x2 x3 x4 x5 x6 x7 x8 x9 x10 x11 x12 x13)⟩,
    ⟨r0_21, k0_pay53 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay100 x0 x1 x2 x3 x4 x5 x6 x7 x8 x9 x10 x11 x12 x13) (k0_pay101 x0 x1 x2 x3 x4 x5 x6 x7 x8 x9 x10 x11 x12 x13) (k0_pay102 x0 x1 x2 x3 x4 x5 x6 x7 x8 x9 x10 x11 x12 x13) (k0_pay103 x0 x1 x2 x3 x4 x5 x6 x7 x8 x9 x10 x11 x12 x13)⟩,
    ⟨r0_20, k0_pay46 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay96 x0 x1 x2 x3 x4 x5 x6 x7 x8 x9 x10 x11 x12 x13) (k0_pay97 x0 x1 x2 x3 x4 x5 x6 x7 x8 x9 x10 x11 x12 x13) (k0_pay98 x0 x1 x2 x3 x4 x5 x6 x7 x8 x9 x10 x11 x12 x13) (k0_pay99 x0 x1 x2 x3 x4 x5 x6 x7 x8 x9 x10 x11 x12 x13)⟩,
    ⟨r0_19, k0_pay45 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay96 x0 x1 x2 x3 x4 x5 x6 x7 x8 x9 x10 x11 x12 x13) (k0_pay97 x0 x1 x2 x3 x4 x5 x6 x7 x8 x9 x10 x11 x12 x13) (k0_pay98 x0 x1 x2 x3 x4 x5 x6 x7 x8 x9 x10 x11 x12 x13) (k0_pay99 x0 x1 x2 x3 x4 x5 x6 x7 x8 x9 x10 x11 x12 x13)⟩,
    ⟨r0_18, k0_pay38 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay92 x0 x1 x2 x3 x4 x5 x6 x7 x8 x9 x10 x11 x12 x13) (k0_pay93 x0 x1 x2 x3 x4 x5 x6 x7 x8 x9 x10 x11 x12 x13) (k0_pay94 x0 x1 x2 x3 x4 x5 x6 x7 x8 x9 x10 x11 x12 x13) (k0_pay95 x0 x1 x2 x3 x4 x5 x6 x7 x8 x9 x10 x11 x12 x13)⟩,
    ⟨r0_17, k0_pay37 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay92 x0 x1 x2 x3 x4 x5 x6 x7 x8 x9 x10 x11 x12 x13) (k0_pay93 x0 x1 x2 x3 x4 x5 x6 x7 x8 x9 x10 x11 x12 x13) (k0_pay94 x0 x1 x2 x3 x4 x5 x6 x7 x8 x9 x10 x11 x12 x13) (k0_pay95 x0 x1 x2 x3 x4 x5 x6 x7 x8 x9 x10 x11 x12 x13)⟩,
    ⟨r0_16, k0_pay30 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay90 x0 x1 x2 x3 x4 x5 x6 x7 x8 x9 x10 x11 x12 x13) (k0_pay91 x0 x1 x2 x3 x4 x5 x6 x7 x8 x9 x10 x11 x12 x13)⟩,
    ⟨r0_15, k0_pay29 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay90 x0 x1 x2 x3 x4 x5 x6 x7 x8 x9 x10 x11 x12 x13) (k0_pay91 x0 x1 x2 x3 x4 x5 x6 x7 x8 x9 x10 x11 x12 x13)⟩,
    ⟨r0_14, k0_pay25 (k0_pay22 (k0_pay89 x0 x1 x2 x3 x4 x5 x6 x7 x8 x9 x10 x11 x12 x13)) (k0_pay23 (View.ld x6 r0_6)) (k0_pay24 (k0_pay89 x0 x1 x2 x3 x4 x5 x6 x7 x8 x9 x10 x11 x12 x13)) (Scalar.ofBits .f32 0x43000000#32)⟩,
    ⟨r0_13, k0_pay21 (k0_pay89 x0 x1 x2 x3 x4 x5 x6 x7 x8 x9 x10 x11 x12 x13) (View.ld x6 r0_6)⟩,
    ⟨r0_12, k0_pay20 (k0_pay17 (k0_pay89 x0 x1 x2 x3 x4 x5 x6 x7 x8 x9 x10 x11 x12 x13)) (k0_pay18 (View.ld x6 r0_6)) (k0_pay19 (k0_pay89 x0 x1 x2 x3 x4 x5 x6 x7 x8 x9 x10 x11 x12 x13))⟩,
    ⟨r0_11, k0_pay16 (k0_pay89 x0 x1 x2 x3 x4 x5 x6 x7 x8 x9 x10 x11 x12 x13) (View.ld x6 r0_6)⟩,
    ⟨r0_10, k0_pay15 (k0_pay14 (k0_pay89 x0 x1 x2 x3 x4 x5 x6 x7 x8 x9 x10 x11 x12 x13)) (View.ld x6 r0_6)⟩,
    ⟨r0_9, k0_pay13 (k0_pay89 x0 x1 x2 x3 x4 x5 x6 x7 x8 x9 x10 x11 x12 x13) (View.ld x6 r0_6)⟩,
    ⟨r0_8, k0_pay12 (k0_pay89 x0 x1 x2 x3 x4 x5 x6 x7 x8 x9 x10 x11 x12 x13) (View.ld x6 r0_6)⟩,
    ⟨r0_7, k0_pay11 (k0_pay84 x0 x1 x2 x3 x4 x5 x6 x7 x8 x9 x10 x11 x12 x13) (View.ld x3 r0_4) (View.ld x4 r0_5) (View.ld x6 r0_6)⟩]

/-- Its stores tile the buffer (checked by evaluation), so they cover it. -/
theorem cover0_14 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (y : S256x2048.Idx) :
    ∃ pc ∈ ([⟨r0_22, p0⟩, ⟨r0_21, p1⟩, ⟨r0_20, p2⟩, ⟨r0_19, p3⟩, ⟨r0_18, p4⟩, ⟨r0_17, p5⟩, ⟨r0_16, p6⟩, ⟨r0_15, p7⟩, ⟨r0_14, p8⟩, ⟨r0_13, p9⟩, ⟨r0_12, p10⟩, ⟨r0_11, p11⟩, ⟨r0_10, p12⟩, ⟨r0_9, p13⟩, ⟨r0_8, p14⟩, ⟨r0_7, p15⟩] : List (View.Piece (Elt F) S256x2048 .bf16)), y ∈ pc.1.set :=
  View.cover_of_tiled [⟨r0_22, p0⟩, ⟨r0_21, p1⟩, ⟨r0_20, p2⟩, ⟨r0_19, p3⟩, ⟨r0_18, p4⟩, ⟨r0_17, p5⟩, ⟨r0_16, p6⟩, ⟨r0_15, p7⟩, ⟨r0_14, p8⟩, ⟨r0_13, p9⟩, ⟨r0_12, p10⟩, ⟨r0_11, p11⟩, ⟨r0_10, p12⟩, ⟨r0_9, p13⟩, ⟨r0_8, p14⟩, ⟨r0_7, p15⟩] S256x128.size (by rfl) y

/-- Window 15's staging buffer after the body, from the input windows' blocks: its 1 store as pieces, LAST
    FIRST (Lib/Pipeline/FrameBody.lean `View.canon`; the payloads are the skeleton's and the values stated above). -/
def out0_15 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x512 .f32 :=
  View.canon [⟨r0_23, k0_pay58 (k0_pay55 (k0_pay84 x0 x1 x2 x3 x4 x5 x6 x7 x8 x9 x10 x11 x12 x13)) (k0_pay56 (View.ld x5 r0_4)) (k0_pay57 (k0_pay84 x0 x1 x2 x3 x4 x5 x6 x7 x8 x9 x10 x11 x12 x13))⟩]

/-- Its stores tile the buffer (checked by evaluation), so they cover it. -/
theorem cover0_15 (p0 : Vec F S256x512 .f32) (y : S256x512.Idx) :
    ∃ pc ∈ ([⟨r0_23, p0⟩] : List (View.Piece (Elt F) S256x512 .f32)), y ∈ pc.1.set :=
  View.cover_of_tiled [⟨r0_23, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x64 .f32 :=
  View.canon [⟨r0_35, k0_pay81 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay104 x0 x1 x2 x3 x4 x5 x6 x7 x8 x9 x10 x11 x12 x13) (k0_pay105 x0 x1 x2 x3 x4 x5 x6 x7 x8 x9 x10 x11 x12 x13)⟩]

/-- Its stores tile the buffer (checked by evaluation), so they cover it. -/
theorem cover0_16 (p0 : Vec F S256x64 .f32) (y : S256x64.Idx) :
    ∃ pc ∈ ([⟨r0_35, p0⟩] : List (View.Piece (Elt F) S256x64 .f32)), y ∈ pc.1.set :=
  View.cover_of_tiled [⟨r0_35, p0⟩] S256x64.size (by rfl) y

/-- Window 17's staging buffer after the body, from the input windows' blocks: its 1 store as pieces, LAST
    FIRST (Lib/Pipeline/FrameBody.lean `View.canon`; the payloads are the skeleton's and the values stated above). -/
def out0_17 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x128 .bf16 :=
  View.canon [⟨r0_3, k0_pay82 (k0_pay85 x0 x1 x2 x3 x4 x5 x6 x7 x8 x9 x10 x11 x12 x13) (k0_pay86 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay104 x0 x1 x2 x3 x4 x5 x6 x7 x8 x9 x10 x11 x12 x13) (k0_pay105 x0 x1 x2 x3 x4 x5 x6 x7 x8 x9 x10 x11 x12 x13)⟩]

/-- Its stores tile the buffer (checked by evaluation), so they cover it. -/
theorem cover0_17 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 18's staging buffer after the body, from the input windows' blocks: its 8 stores as pieces, LAST
    FIRST (Lib/Pipeline/FrameBody.lean `View.canon`; the payloads are the skeleton's and the values stated above). -/
def out0_18 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x1024 .bf16 :=
  View.canon [⟨r0_31, k0_pay74 (k0_pay84 x0 x1 x2 x3 x4 x5 x6 x7 x8 x9 x10 x11 x12 x13) (View.ld x9 r0_6)⟩,
    ⟨r0_30, k0_pay73 (k0_pay84 x0 x1 x2 x3 x4 x5 x6 x7 x8 x9 x10 x11 x12 x13) (View.ld x9 r0_6)⟩,
    ⟨r0_29, k0_pay72 (k0_pay70 (k0_pay84 x0 x1 x2 x3 x4 x5 x6 x7 x8 x9 x10 x11 x12 x13) (View.ld x9 r0_6)) (k0_pay71 (F := F))⟩,
    ⟨r0_28, k0_pay69 (k0_pay84 x0 x1 x2 x3 x4 x5 x6 x7 x8 x9 x10 x11 x12 x13) (View.ld x9 r0_6)⟩,
    ⟨r0_27, k0_pay68 (k0_pay66 (View.ld x9 r0_6)) (k0_pay67 (k0_pay84 x0 x1 x2 x3 x4 x5 x6 x7 x8 x9 x10 x11 x12 x13))⟩,
    ⟨r0_26, k0_pay65 (k0_pay84 x0 x1 x2 x3 x4 x5 x6 x7 x8 x9 x10 x11 x12 x13) (View.ld x9 r0_6)⟩,
    ⟨r0_25, k0_pay64 (k0_pay60 (k0_pay84 x0 x1 x2 x3 x4 x5 x6 x7 x8 x9 x10 x11 x12 x13)) (k0_pay61 (View.ld x9 r0_6)) (k0_pay62 (k0_pay84 x0 x1 x2 x3 x4 x5 x6 x7 x8 x9 x10 x11 x12 x13)) (k0_pay63 (F := F))⟩,
    ⟨r0_24, k0_pay59 (k0_pay84 x0 x1 x2 x3 x4 x5 x6 x7 x8 x9 x10 x11 x12 x13) (View.ld x9 r0_6)⟩]

/-- Its stores tile the buffer (checked by evaluation), so they cover it. -/
theorem cover0_18 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_31, p0⟩, ⟨r0_30, p1⟩, ⟨r0_29, p2⟩, ⟨r0_28, p3⟩, ⟨r0_27, p4⟩, ⟨r0_26, p5⟩, ⟨r0_25, p6⟩, ⟨r0_24, p7⟩] : List (View.Piece (Elt F) S256x1024 .bf16)), y ∈ pc.1.set :=
  View.cover_of_tiled [⟨r0_31, p0⟩, ⟨r0_30, p1⟩, ⟨r0_29, p2⟩, ⟨r0_28, p3⟩, ⟨r0_27, p4⟩, ⟨r0_26, p5⟩, ⟨r0_25, p6⟩, ⟨r0_24, p7⟩] S256x128.size (by rfl) y

/-- Window 19's staging buffer after the body, from the input windows' blocks: its 2 stores as pieces, LAST
    FIRST (Lib/Pipeline/FrameBody.lean `View.canon`; the payloads are the skeleton's and the values stated above). -/
def out0_19 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x256 .f32 :=
  View.canon [⟨r0_33, k0_pay76 (k0_pay84 x0 x1 x2 x3 x4 x5 x6 x7 x8 x9 x10 x11 x12 x13) (View.ld x10 r0_6)⟩,
    ⟨r0_32, k0_pay75 (k0_pay84 x0 x1 x2 x3 x4 x5 x6 x7 x8 x9 x10 x11 x12 x13) (View.ld x10 r0_6)⟩]

/-- Its stores tile the buffer (checked by evaluation), so they cover it. -/
theorem cover0_19 (p0 : Vec F S256x128 .f32) (p1 : Vec F S256x128 .f32) (y : S256x256.Idx) :
    ∃ pc ∈ ([⟨r0_33, p0⟩, ⟨r0_32, p1⟩] : List (View.Piece (Elt F) S256x256 .f32)), y ∈ pc.1.set :=
  View.cover_of_tiled [⟨r0_33, p0⟩, ⟨r0_32, p1⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x256 .f32 :=
  View.canon [⟨r0_34, k0_pay77 (k0_pay84 x0 x1 x2 x3 x4 x5 x6 x7 x8 x9 x10 x11 x12 x13)⟩]

/-- Its stores tile the buffer (checked by evaluation), so they cover it. -/
theorem cover0_20 (p0 : Vec F S256x256 .f32) (y : S256x256.Idx) :
    ∃ pc ∈ ([⟨r0_34, p0⟩] : List (View.Piece (Elt F) S256x256 .f32)), y ∈ pc.1.set :=
  View.cover_of_tiled [⟨r0_34, p0⟩] S256x256.size (by rfl) y

/-- Window 21's staging buffer after the body, from the input windows' blocks: its 1 store as pieces, LAST
    FIRST (Lib/Pipeline/FrameBody.lean `View.canon`; the payloads are the skeleton's and the values stated above). -/
def out0_21 (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) : Vec F S256x8 .f32 :=
  View.canon [⟨r0_36, k0_pay1 (k0_pay104 x0 x1 x2 x3 x4 x5 x6 x7 x8 x9 x10 x11 x12 x13) (k0_pay83 (View.ld x11 r0_6))⟩]

/-- Its stores tile the buffer (checked by evaluation), so they cover it. -/
theorem cover0_21 (p0 : Vec F S256x8 .f32) (y : S256x8.Idx) :
    ∃ pc ∈ ([⟨r0_36, p0⟩] : List (View.Piece (Elt F) S256x8 .f32)), y ∈ pc.1.set :=
  View.cover_of_tiled [⟨r0_36, p0⟩] S256x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S2048x2688 .bf16) (harg3 : arg3.IsWhole) (arg4 : Memref sig .tc .vmem S1x512 .f32) (harg4 : arg4.IsWhole) (arg5 : Memref sig .tc .vmem S512x1536 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x2048 .bf16) (harg15 : arg15.IsWhole) (arg16 : Memref sig .tc .vmem S256x512 .f32) (harg16 : arg16.IsWhole) (arg17 : Memref sig .tc .vmem S256x64 .f32) (harg17 : arg17.IsWhole) (arg18 : Memref sig .tc .vmem S256x128 .bf16) (harg18 : arg18.IsWhole) (arg19 : Memref sig .tc .vmem S256x1024 .bf16) (harg19 : arg19.IsWhole) (arg20 : Memref sig .tc .vmem S256x256 .f32) (harg20 : arg20.IsWhole) (arg21 : Memref sig .tc .vmem S256x256 .f32) (harg21 : arg21.IsWhole) (arg22 : Memref sig .tc .vmem S256x8 .f32) (harg22 : arg22.IsWhole)
    (x0 : Vec F S256x2048 .f32) (x1 : Vec F S1x2048 .f32) (x2 : Vec F S2048x2688 .bf16) (x3 : Vec F S1x512 .f32) (x4 : Vec F S512x1536 .bf16) (x5 : Vec F S1x512 .f32) (x6 : Vec F S1x128 .f32) (x7 : Vec F S1x128 .f32) (x8 : Vec F S1x128 .f32) (x9 : Vec F S1x128 .f32) (x10 : Vec F S1x128 .f32) (x11 : Vec F S1x128 .f32) (x12 : Vec F S256x128 .f32) (x13 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13)) -∗ K ⟨⟩))
      ⊢ wp frame (wpE (defs₀ (F := F)) Variants.none c none) E (cc0_ab_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ab_proj_eq_skeleton]; unfold cc0_ab_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _ _ _ _ _ _ _ _ _ _ _ _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _ _ _ _ _ _ _ _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel5Ideal.Gen

end
-- ==== Proof.Pair.lean ====
module

public import Idealize.ShloMosaic.Lib.Pointwise
public import Idealize.ShloMosaic.Lib.Tactic

@[expose] public section

noncomputable section

open Idealize.ShloMosaic

/-! Two heads of 64 columns side by side in a tile of 128: a masked sum over the tile is the sum over one head. -/

namespace Cert.Pair

/-- The lane test of the tiles, at a column. -/
theorem sel_lo {α : Type} (l : ℕ) (h : l < 128) (a b : α) :
    Scalar.select (IntOp.cmpi CmpIPredicate.slt (BitVec.ofNat 32 l) 64#32) a b = if l < 64 then a else b := by
  have h1 : ∀ l : Fin 128, IntOp.cmpi CmpIPredicate.slt (BitVec.ofNat 32 l.val) 64#32 = if l.val < 64 then 1#1 else 0#1 := by
    decide
  rw [h1 ⟨l, h⟩]
  dsimp only
  split <;> rfl

theorem sum_lo (f : Fin 128 → EReal) :
    ∑ x : Fin 128, Scalar.select (IntOp.cmpi CmpIPredicate.slt (BitVec.ofNat 32 x.val) 64#32) (f x) 0 =
      ∑ e : Fin 64, f ⟨e.val, by omega⟩ := by
  rw [Finset.sum_congr rfl fun x _ => sel_lo x.val x.isLt (f x) 0]
  refine (Fin.sum_univ_add (fun x : Fin (64 + 64) => if x.val < 64 then f x else 0)).trans ?_
  simp
  rfl

theorem sum_hi (f : Fin 128 → EReal) :
    ∑ x : Fin 128, Scalar.select (IntOp.cmpi CmpIPredicate.slt (BitVec.ofNat 32 x.val) 64#32) 0 (f x) =
      ∑ e : Fin 64, f ⟨64 + e.val, by omega⟩ := by
  rw [Finset.sum_congr rfl fun x _ => sel_lo x.val x.isLt 0 (f x)]
  refine (Fin.sum_univ_add (fun x : Fin (64 + 64) => if x.val < 64 then 0 else f x)).trans ?_
  simp
  rfl

/-- The inverse root mean square of the head of 64 columns that column `c` of the row `y` is in. -/
def inv {N : ℕ} (hN : N % 64 = 0) (y : Fin N → EReal) (c : Fin N) : EReal :=
  Ideal.rsqrt (Ideal.div (∑ e : Fin 64, y ⟨c.val / 64 * 64 + e.val, by omega⟩ * y ⟨c.val / 64 * 64 + e.val, by omega⟩)
    (Ideal.ofBits FTy.f32 1115684864#32) + Ideal.ofBits FTy.f32 897988541#32)

/-- A tile's masked norms select the norm of the column's own head. -/
theorem norm_eq {N : ℕ} (hN : N % 64 = 0) (y : Fin N → EReal) (b : ℕ) (hb : b % 128 = 0) (φ : Fin 128 → Fin N)
    (hφ : ∀ x, (φ x).val = b + x.val) (l : Fin 128) :
    Scalar.select (IntOp.cmpi CmpIPredicate.slt (BitVec.ofNat 32 l.val) 64#32)
      (Ideal.rsqrt (Ideal.div (∑ x, Scalar.select (IntOp.cmpi CmpIPredicate.slt (BitVec.ofNat 32 x.val) 64#32)
        (y (φ x) * y (φ x)) 0) (Ideal.ofBits FTy.f32 1115684864#32) + Ideal.ofBits FTy.f32 897988541#32))
      (Ideal.rsqrt (Ideal.div (∑ x, Scalar.select (IntOp.cmpi CmpIPredicate.slt (BitVec.ofNat 32 x.val) 64#32)
        0 (y (φ x) * y (φ x))) (Ideal.ofBits FTy.f32 1115684864#32) + Ideal.ofBits FTy.f32 897988541#32)) =
      inv hN y (φ l) := by
  rw [sel_lo l.val l.isLt, sum_lo (fun x => y (φ x) * y (φ x)), sum_hi (fun x => y (φ x) * y (φ x))]
  have hl := l.isLt
  unfold inv
  split
  · rename_i h
    have hi : ∀ e : Fin 64, φ ⟨e.val, by omega⟩ = ⟨(φ l).val / 64 * 64 + e.val, by omega⟩ := fun e => by
      apply Fin.ext; rw [hφ]; show b + e.val = (φ l).val / 64 * 64 + e.val; rw [hφ]; omega
    simp only [hi]
  · rename_i h
    have hi : ∀ e : Fin 64, φ ⟨64 + e.val, by omega⟩ = ⟨(φ l).val / 64 * 64 + e.val, by omega⟩ := fun e => by
      apply Fin.ext; rw [hφ]; show b + (64 + e.val) = (φ l).val / 64 * 64 + e.val; rw [hφ]; omega
    simp only [hi]

end Cert.Pair
-- ==== Proof.Rope.lean ====
module

public import proofs.«01_k».proof.Proof.Pair

@[expose] public section

noncomputable section

open Idealize.ShloMosaic

/-! Root-mean-square norms of a slice of a row, and rotary embeddings of 64 columns. The kernel rotates two heads side by
side in a tile of 128 lanes: it rolls the tile by a quarter either way and takes the lane that belongs to the same head. -/

namespace Cert.Rope

/-- A slice `f` of a row over its root mean square, times a gain. -/
def nrm {n : ℕ} (d : EReal) (f g : Fin n → EReal) (l : Fin n) : EReal :=
  f l * Ideal.rsqrt (Ideal.div (∑ x, f x * f x) d + Ideal.ofBits FTy.f32 897988541#32) * g l

/-- 64 columns rotated: column `i` and column `32 + i` are one pair, turned by the angle of cosine `c i` and sine `s i`. -/
def rope (f : Fin 64 → EReal) (c s : Fin 32 → EReal) (e : Fin 64) : EReal :=
  if h : e.val < 32 then f ⟨e.val, by omega⟩ * c ⟨e.val, h⟩ - f ⟨32 + e.val, by omega⟩ * s ⟨e.val, h⟩
  else f ⟨e.val - 32, by omega⟩ * s ⟨e.val - 32, by omega⟩ + f ⟨32 + (e.val - 32), by omega⟩ * c ⟨e.val - 32, by omega⟩

/-- One lane of a normalised tile of two heads. -/
abbrev lane (t G : Fin 128 → EReal) (l : Fin 128) : EReal :=
  t l * Scalar.select (IntOp.cmpi CmpIPredicate.slt (BitVec.ofNat 32 l.val) 64#32)
      (Ideal.rsqrt (Ideal.div (∑ x : Fin 128, Scalar.select (IntOp.cmpi CmpIPredicate.slt (BitVec.ofNat 32 x.val) 64#32)
        (t x * t x) 0) (Ideal.ofBits FTy.f32 1115684864#32) + Ideal.ofBits FTy.f32 897988541#32))
      (Ideal.rsqrt (Ideal.div (∑ x : Fin 128, Scalar.select (IntOp.cmpi CmpIPredicate.slt (BitVec.ofNat 32 x.val) 64#32)
        0 (t x * t x)) (Ideal.ofBits FTy.f32 1115684864#32) + Ideal.ofBits FTy.f32 897988541#32)) * G l

/-- One lane of a rotated tile of two heads. -/
abbrev turned (t G C S : Fin 128 → EReal) (fi : Fin 128 → BitVec 1) (l : Fin 128) : EReal :=
  lane t G l * C l + Scalar.select (fi l) (lane t G ⟨(l.val + 128 - 96) % 128, Nat.mod_lt _ (by decide)⟩)
    (lane t G ⟨(l.val + 128 - 32) % 128, Nat.mod_lt _ (by decide)⟩) * S l

theorem lane_eq (t G : Fin 128 → EReal) (gr : Fin 64 → EReal) (l : Fin 128) (p : ℕ) (hp : p < 2) (e : Fin 64)
    (hl : l.val = p * 64 + e.val) (hG : ∀ x : Fin 64, G ⟨p * 64 + x.val, by omega⟩ = gr x) :
    lane t G l = nrm (Ideal.ofBits FTy.f32 1115684864#32) (fun x : Fin 64 => t ⟨p * 64 + x.val, by omega⟩) gr e := by
  have he := e.isLt
  obtain ⟨l, hl'⟩ := l
  obtain rfl : l = p * 64 + e.val := hl
  have h := Pair.norm_eq (N := 128) rfl t 0 rfl (fun x => x) (fun x => (Nat.zero_add _).symm) ⟨p * 64 + e.val, hl'⟩
  unfold lane nrm
  rw [h, hG e]
  unfold Pair.inv
  have hd : (p * 64 + e.val) / 64 = p := by omega
  simp only [hd]

theorem turned_eq (t G C S : Fin 128 → EReal) (fi : Fin 128 → BitVec 1) (c s : Fin 32 → EReal) (gr : Fin 64 → EReal)
    (hfi : ∀ l, fi l = if l.val % 64 < 32 then 1#1 else 0#1)
    (hC : ∀ l, C l = c ⟨l.val % 32, Nat.mod_lt _ (by decide)⟩)
    (hS : ∀ l, S l = if l.val % 64 < 32 then - s ⟨l.val % 32, Nat.mod_lt _ (by decide)⟩ else s ⟨l.val % 32, Nat.mod_lt _ (by decide)⟩)
    (p : ℕ) (hp : p < 2) (e : Fin 64) (l : Fin 128) (hl : l.val = p * 64 + e.val)
    (hG : ∀ x : Fin 64, G ⟨p * 64 + x.val, by omega⟩ = gr x) :
    turned t G C S fi l = rope (nrm (Ideal.ofBits FTy.f32 1115684864#32) (fun x : Fin 64 => t ⟨p * 64 + x.val, by omega⟩) gr) c s e := by
  have he := e.isLt
  unfold turned rope
  rw [hfi, hC, hS]
  by_cases h : e.val < 32
  · rw [if_pos (by omega), if_pos (by omega), dif_pos h, lane_eq t G gr l p hp e hl hG]
    show _ + lane t G _ * _ = _
    rw [lane_eq t G gr ⟨(l.val + 128 - 96) % 128, Nat.mod_lt _ (by decide)⟩ p hp ⟨32 + e.val, by omega⟩ (by dsimp only; omega) hG,
      mul_neg, ← sub_eq_add_neg]
    have hm : (⟨l.val % 32, Nat.mod_lt _ (by decide)⟩ : Fin 32) = ⟨e.val, h⟩ := Fin.ext (by dsimp only; omega)
    rw [hm]
  · rw [if_neg (by omega), if_neg (by omega), dif_neg h, lane_eq t G gr l p hp e hl hG]
    show _ + lane t G _ * _ = _
    rw [lane_eq t G gr ⟨(l.val + 128 - 32) % 128, Nat.mod_lt _ (by decide)⟩ p hp ⟨e.val - 32, by omega⟩ (by dsimp only; omega) hG,
      add_comm]
    have hm : (⟨l.val % 32, Nat.mod_lt _ (by decide)⟩ : Fin 32) = ⟨e.val - 32, by omega⟩ := Fin.ext (by dsimp only; omega)
    have he' : (⟨32 + (e.val - 32), by omega⟩ : Fin 64) = e := Fin.ext (by dsimp only; omega)
    rw [hm, he']

end Cert.Rope

end
-- ==== Proof.AbRef.lean ====
module

public import proofs.«01_k».proof.Proof.Rope
public import proofs.«01_k».proof.Proof.Gen.Reference5Ideal.Read

@[expose] public section

set_option maxRecDepth 16384

noncomputable section

open Idealize.ShloMosaic Idealize.ShloMosaic.TcCoe Idealize.SL.Sem

namespace Cert.Reference5Ideal.Ab

open Cert.Reference5Ideal Cert.Reference5Ideal.Gen Cert.Reference5Ideal.Read
open Cert.Rope (nrm rope)

/-- Column `k` of the projection of the normalised row `r`. -/
def prj (x : Vec Ideal S9216x2048 .f32) (g : Vec Ideal S2048 .f32) (w : Vec Ideal S2048x2632 .f32)
    (r : Fin 9216) (k : Fin 2632) : EReal :=
  ∑ d, x (ix2 r d) * Ideal.rsqrt (Ideal.div (∑ e, x (ix2 r e) * x (ix2 r e)) (Ideal.ofBits FTy.f32 1157627904#32) +
    Ideal.ofBits FTy.f32 897988541#32) * g (ix1 d) * w (ix2 d k)

/-- Column `k` of the queries: the latent slice of a projected row `y`, normalised and projected up. -/
def qup (y : Fin 2632 → EReal) (a : Vec Ideal S512 .f32) (u : Vec Ideal S512x1536 .f32) (k : Fin 1536) : EReal :=
  ∑ d : Fin 512, nrm (Ideal.ofBits FTy.f32 1140850688#32) (fun e : Fin 512 => y ⟨e.val, by omega⟩) (fun e => a (ix1 e)) d * u (ix2 d k)

variable (x : Vec Ideal S9216x2048 .f32) (g : Vec Ideal S2048 .f32) (w : Vec Ideal S2048x2632 .f32)
  (a : Vec Ideal S512 .f32) (u : Vec Ideal S512x1536 .f32) (gn : Vec Ideal S128 .f32) (gr gk : Vec Ideal S64 .f32)
  (b : Vec Ideal S8 .f32) (r : Fin 9216)

theorem y_apply (k : Fin 2632) : val_main_v13 (F := Ideal) x g w (ix2 r k) = prj x g w r k := by
  unfold prj
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]

theorem q_apply (k : Fin 1536) : val_main_v59 (F := Ideal) x g w a u (ix2 r k) = qup (prj x g w r) a u k := by
  unfold qup nrm
  pointwise [val_main_v59, val_main_v58, val_main_v57, val_main_v56, val_main_v55, val_main_v54, val_main_v53, val_main_v52,
    val_main_v51, val_main_v50, val_main_v49, val_main_v48, val_main_v47, val_main_v46, val_main_v14, val_main_cst_4,
    val_main_cst_5, val_main_cst_6]
  simp only [y_apply]

/-- The normalised latent, at an index. -/
theorem ckv_apply (k : Fin 512) : val_main_v178 (F := Ideal) x g w a (ix2 r k) =
    nrm (Ideal.ofBits FTy.f32 1140850688#32) (fun e : Fin 512 => prj x g w r ⟨512 + e.val, by omega⟩) (fun e => a (ix1 e)) k := by
  unfold nrm
  pointwise [val_main_v178, val_main_v177, val_main_v176, val_main_v175, val_main_v174, val_main_v173, val_main_v172,
    val_main_v171, val_main_v170, val_main_v169, val_main_v168, val_main_v167, val_main_v166, val_main_v15, val_main_cst_27,
    val_main_cst_28, val_main_cst_29]
  simp only [y_apply]

/-- The rotated key, at an index. -/
theorem kr_apply (k : Fin 64) : val_main_v131 (F := Ideal) x g w gk (ix2 r k) =
    rope (nrm (Ideal.ofBits FTy.f32 1115684864#32) (fun e : Fin 64 => prj x g w r ⟨1024 + e.val, by omega⟩) (fun e => gk (ix1 e)))
      (fun i => val_main_v44 (F := Ideal) (ix2 r i)) (fun i => val_main_v45 (F := Ideal) (ix2 r i)) k := by
  unfold rope nrm
  pointwise [val_main_v131]
  split
  · pointwise [val_main_v127, val_main_v125, val_main_v126, val_main_v123, val_main_v124, val_main_v122, val_main_v121,
      val_main_v120, val_main_v119, val_main_v118, val_main_v117, val_main_v116, val_main_v115, val_main_v114, val_main_v113,
      val_main_v112, val_main_v111, val_main_v110, val_main_v16, val_main_cst_16, val_main_cst_17, val_main_cst_18]
    simp only [y_apply]
  · pointwise [val_main_v130, val_main_v128, val_main_v129, val_main_v123, val_main_v124, val_main_v122, val_main_v121,
      val_main_v120, val_main_v119, val_main_v118, val_main_v117, val_main_v116, val_main_v115, val_main_v114, val_main_v113,
      val_main_v112, val_main_v111, val_main_v110, val_main_v16, val_main_cst_16, val_main_cst_17, val_main_cst_18]
    simp only [y_apply]

/-- The rotated key, padded with zeros to 128 columns, at an index. -/
theorem kp_apply (k : Fin 128) : val_main_v179 (F := Ideal) x g w gk (ix2 r k) =
    if h : k.val < 64 then rope (nrm (Ideal.ofBits FTy.f32 1115684864#32) (fun e : Fin 64 => prj x g w r ⟨1024 + e.val, by omega⟩) (fun e => gk (ix1 e)))
      (fun i => val_main_v44 (F := Ideal) (ix2 r i)) (fun i => val_main_v45 (F := Ideal) (ix2 r i)) ⟨k.val, h⟩ else 0 := by
  pointwise [val_main_v179, val_main_v133]
  split
  · exact kr_apply x g w gk r _
  · pointwise [val_main_v132, val_main_cst_19]

/-- The queries of the forgetting heads, at an index. -/
theorem fq_apply (k : Fin 1024) : val_main_v181 (F := Ideal) x g w gn (ix2 r k) =
    nrm (Ideal.ofBits FTy.f32 1124073472#32) (fun e : Fin 128 => prj x g w r ⟨1088 + (k.val / 128 * 128 + e.val), by omega⟩)
      (fun e => gn (ix1 e)) ⟨k.val % 128, Nat.mod_lt _ (by decide)⟩ * Ideal.ofBits FTy.f32 1035273459#32 := by
  unfold nrm
  pointwise [val_main_v181, val_main_v180, val_main_v149, val_main_v148, val_main_v147, val_main_v146, val_main_v145,
    val_main_v144, val_main_v143, val_main_v142, val_main_v141, val_main_v140, val_main_v139, val_main_v138, val_main_v137,
    val_main_v136, val_main_v135, val_main_v134, val_main_v17, val_main_cst_20, val_main_cst_21, val_main_cst_22, val_main_cst_23]
  simp only [y_apply]
  have hk : (⟨1088 + (k.val / 128 * 128 + k.val % 128), by omega⟩ : Fin 2632) = ⟨1088 + k.val, by omega⟩ :=
    Fin.ext (by dsimp only; omega)
  rw [hk]

/-- The keys of the forgetting heads, at an index. -/
theorem fk_apply (k : Fin 256) : val_main_v182 (F := Ideal) x g w gn (ix2 r k) =
    nrm (Ideal.ofBits FTy.f32 1124073472#32) (fun e : Fin 128 => prj x g w r ⟨2112 + (k.val / 128 * 128 + e.val), by omega⟩)
      (fun e => gn (ix1 e)) ⟨k.val % 128, Nat.mod_lt _ (by decide)⟩ := by
  unfold nrm
  pointwise [val_main_v182, val_main_v163, val_main_v162, val_main_v161, val_main_v160, val_main_v159, val_main_v158,
    val_main_v157, val_main_v156, val_main_v155, val_main_v154, val_main_v153, val_main_v152, val_main_v151, val_main_v150,
    val_main_v18, val_main_cst_24, val_main_cst_25, val_main_cst_26]
  simp only [y_apply]
  have hk : (⟨2112 + (k.val / 128 * 128 + k.val % 128), by omega⟩ : Fin 2632) = ⟨2112 + k.val, by omega⟩ :=
    Fin.ext (by dsimp only; omega)
  rw [hk]

/-- The values of the forgetting heads, at an index. -/
theorem fv_apply (k : Fin 256) : val_main_v19 (F := Ideal) x g w (ix2 r k) = prj x g w r ⟨2368 + k.val, by omega⟩ := by
  pointwise [val_main_v19]
  simp only [y_apply]

/-- A query's first 128 columns: no rotation. -/
theorem nope_apply (h : Fin 8) (k : Fin 128) : val_main_v76 (F := Ideal) x g w a u gn (ix3 r h k) =
    nrm (Ideal.ofBits FTy.f32 1124073472#32) (fun e : Fin 128 => qup (prj x g w r) a u ⟨h.val * 192 + e.val, by omega⟩)
      (fun e => gn (ix1 e)) k * Ideal.ofBits FTy.f32 1033096506#32 := by
  unfold nrm
  pointwise [val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_cst_7, val_main_cst_8, val_main_cst_9, val_main_cst_10]
  simp only [q_apply]

/-- A query's next 64 columns: rotated. -/
theorem turn_apply (h : Fin 8) (k : Fin 64) : val_main_v107 (F := Ideal) x g w a u gr (ix3 r h k) =
    rope (nrm (Ideal.ofBits FTy.f32 1115684864#32) (fun e : Fin 64 => qup (prj x g w r) a u ⟨h.val * 192 + (128 + e.val), by omega⟩)
      (fun e => gr (ix1 e))) (fun i => val_main_v44 (F := Ideal) (ix2 r i)) (fun i => val_main_v45 (F := Ideal) (ix2 r i)) k *
      Ideal.ofBits FTy.f32 1033096506#32 := by
  unfold rope nrm
  pointwise [val_main_v107, val_main_v106, val_main_cst_14, val_main_v105]
  split
  · pointwise [val_main_v99, val_main_v98, val_main_v97, val_main_v96, val_main_v95, val_main_v94, val_main_v93,
      val_main_v92, val_main_v91, val_main_v90, val_main_v89, val_main_v88, val_main_v87, val_main_v86, val_main_v85,
      val_main_v84, val_main_v83, val_main_v82, val_main_v81, val_main_v80, val_main_v79, val_main_v78, val_main_v77,
      val_main_v60, val_main_cst_11, val_main_cst_12, val_main_cst_13]
    simp only [q_apply]
  · pointwise [val_main_v104, val_main_v103, val_main_v102, val_main_v101, val_main_v100, val_main_v94, val_main_v93,
      val_main_v92, val_main_v91, val_main_v90, val_main_v89, val_main_v88, val_main_v87, val_main_v86, val_main_v85,
      val_main_v84, val_main_v83, val_main_v82, val_main_v81, val_main_v80, val_main_v79, val_main_v78, val_main_v77,
      val_main_v60, val_main_cst_11, val_main_cst_12, val_main_cst_13]
    simp only [q_apply]

/-- The queries, at an index: per head of 256 columns the unrotated part, the rotated part, and zeros. -/
theorem qmla_apply (k : Fin 2048) : val_main_v165 (F := Ideal) x g w a u gn gr (ix2 r k) =
    if h : k.val % 256 < 128 then
      nrm (Ideal.ofBits FTy.f32 1124073472#32) (fun e : Fin 128 => qup (prj x g w r) a u ⟨k.val / 256 * 192 + e.val, by omega⟩)
        (fun e => gn (ix1 e)) ⟨k.val % 256, h⟩ * Ideal.ofBits FTy.f32 1033096506#32
    else if h : k.val % 256 - 128 < 64 then
      rope (nrm (Ideal.ofBits FTy.f32 1115684864#32) (fun e : Fin 64 => qup (prj x g w r) a u ⟨k.val / 256 * 192 + (128 + e.val), by omega⟩)
        (fun e => gr (ix1 e))) (fun i => val_main_v44 (F := Ideal) (ix2 r i)) (fun i => val_main_v45 (F := Ideal) (ix2 r i))
        ⟨k.val % 256 - 128, h⟩ * Ideal.ofBits FTy.f32 1033096506#32
    else 0 := by
  pointwise [val_main_v165, val_main_v164, val_main_v109]
  split
  · exact nope_apply x g w a u gn r _ _
  · split
    · exact turn_apply x g w a u gr r _ _
    · pointwise [val_main_v108, val_main_cst_15]

/-- The logarithm of the forgetting gates' sigmoid, at an index. -/
theorem lf_apply (k : Fin 8) : val_main_v186 (F := Ideal) x g w b (ix2 r k) =
    -(max (-(prj x g w r ⟨2624 + k.val, by omega⟩ + b (ix1 k))) 0 +
      Ideal.log1p (Ideal.exp (-FloatOps.absf (F := Ideal) (φ := .f32) (-(prj x g w r ⟨2624 + k.val, by omega⟩ + b (ix1 k)))))) := by
  pointwise [val_main_v186, val_main_call0_v1, val_main_call0_v0, val_main_v185, val_main_v184, val_main_v183, val_main_v20,
    val_main_call0_call0_v11, val_main_call0_call0_v10, val_main_call0_call0_v9, val_main_call0_call0_v8,
    val_main_call0_call0_v7, val_main_call0_call0_v6, val_main_call0_call0_v5, val_main_call0_call0_v4,
    val_main_call0_call0_v3, val_main_call0_call0_v2, val_main_call0_call0_v1, val_main_call0_call0_v0, val_main_call0_call0_cst]
  simp only [y_apply, ne_eq, not_true_eq_false, if_false]

end Cert.Reference5Ideal.Ab

end
-- ==== Proof.AbHost.lean ====
module

public import proofs.«01_k».proof.Defs
public import proofs.«01_k».proof.Proof.AbIdealFrame
public import proofs.«01_k».proof.Proof.AbRef
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.Kernel5Ideal.Ab

open Cert.Kernel5Ideal Cert.Kernel5Ideal.Gen

variable (m : (ℓ : Loc nD τ sig) → Buf (Elt Ideal) ℓ)

/-- The residual stream. -/
abbrev X (c : Dev nD) : Vec Ideal S9216x2048 .f32 := m ((c : Thread nD τ).loc main_arg0)
/-- The norm's gain. -/
abbrev Gm (c : Dev nD) : Vec Ideal S2048 .f32 := m ((c : Thread nD τ).loc main_arg1)
/-- The projection's weights. -/
abbrev W (c : Dev nD) : Vec Ideal S2048x2632 .f32 := m ((c : Thread nD τ).loc main_arg2)
/-- The latent queries' gain. -/
abbrev Ga (c : Dev nD) : Vec Ideal S512 .f32 := m ((c : Thread nD τ).loc main_arg3)
/-- The weights that project the latent queries up. -/
abbrev U (c : Dev nD) : Vec Ideal S512x1536 .f32 := m ((c : Thread nD τ).loc main_arg4)
/-- The latent's gain. -/
abbrev Gc (c : Dev nD) : Vec Ideal S512 .f32 := m ((c : Thread nD τ).loc main_arg5)
/-- The gain of the queries' unrotated columns. -/
abbrev Gn (c : Dev nD) : Vec Ideal S128 .f32 := m ((c : Thread nD τ).loc main_arg6)
/-- The gain of the queries' rotated columns. -/
abbrev Gr (c : Dev nD) : Vec Ideal S64 .f32 := m ((c : Thread nD τ).loc main_arg7)
/-- The rotated key's gain. -/
abbrev Gk (c : Dev nD) : Vec Ideal S64 .f32 := m ((c : Thread nD τ).loc main_arg8)
/-- The forgetting queries' gain. -/
abbrev Gfq (c : Dev nD) : Vec Ideal S128 .f32 := m ((c : Thread nD τ).loc main_arg9)
/-- The forgetting keys' gain. -/
abbrev Gfk (c : Dev nD) : Vec Ideal S128 .f32 := m ((c : Thread nD τ).loc main_arg10)
/-- The forgetting gates' bias. -/
abbrev B (c : Dev nD) : Vec Ideal S8 .f32 := m ((c : Thread nD τ).loc main_arg11)

theorem mix_apply (c : Dev nD) (d : Fin 2048) : (V m c main_v58 : Vec Ideal S1x2048 .f32) (ix2 0 d) = Gm m c (ix1 d) := by
  have h : (V m c main_v58 : Vec Ideal S1x2048 .f32) =
      shapeCast S1x2048 (shapeCast S2048 (broadcastInDim S1x2048 ![0, 1] bcast_S1x2048_S1x2048_0_1
        (shapeCast S1x2048 (Gm m c) shapeCasts_S2048_S1x2048)) shapeCasts_S1x2048_S2048) shapeCasts_S2048_S1x2048 := by
    unfold V hostOps0
    after_results
    rfl
  rw [h]
  pointwise []

theorem ga_apply (c : Dev nD) (d : Fin 512) : (V m c main_v62 : Vec Ideal S1x512 .f32) (ix2 0 d) = Ga m c (ix1 d) := by
  have h : (V m c main_v62 : Vec Ideal S1x512 .f32) =
      shapeCast S1x512 (shapeCast S512 (broadcastInDim S1x512 ![0, 1] bcast_S1x512_S1x512_0_1
        (shapeCast S1x512 (Ga m c) shapeCasts_S512_S1x512)) shapeCasts_S1x512_S512) shapeCasts_S512_S1x512 := by
    unfold V hostOps0
    after_results
    rfl
  rw [h]
  pointwise []

theorem gc_apply (c : Dev nD) (d : Fin 512) : (V m c main_v66 : Vec Ideal S1x512 .f32) (ix2 0 d) = Gc m c (ix1 d) := by
  have h : (V m c main_v66 : Vec Ideal S1x512 .f32) =
      shapeCast S1x512 (shapeCast S512 (broadcastInDim S1x512 ![0, 1] bcast_S1x512_S1x512_0_1
        (shapeCast S1x512 (Gc m c) shapeCasts_S512_S1x512)) shapeCasts_S1x512_S512) shapeCasts_S512_S1x512 := by
    unfold V hostOps0
    after_results
    rfl
  rw [h]
  pointwise []

theorem gn_apply (c : Dev nD) (d : Fin 128) : (V m c main_v70 : Vec Ideal S1x128 .f32) (ix2 0 d) = Gn m c (ix1 d) := by
  have h : (V m c main_v70 : Vec Ideal S1x128 .f32) =
      shapeCast S1x128 (shapeCast S128 (broadcastInDim S1x128 ![0, 1] bcast_S1x128_S1x128_0_1
        (shapeCast S1x128 (Gn m c) shapeCasts_S128_S1x128)) shapeCasts_S1x128_S128) shapeCasts_S128_S1x128 := by
    unfold V hostOps0
    after_results
    rfl
  rw [h]
  pointwise []

theorem gfq_apply (c : Dev nD) (d : Fin 128) : (V m c main_v78 : Vec Ideal S1x128 .f32) (ix2 0 d) = Gfq m c (ix1 d) := by
  have h : (V m c main_v78 : Vec Ideal S1x128 .f32) =
      shapeCast S1x128 (shapeCast S128 (broadcastInDim S1x128 ![0, 1] bcast_S1x128_S1x128_0_1
        (shapeCast S1x128 (Gfq m c) shapeCasts_S128_S1x128)) shapeCasts_S1x128_S128) shapeCasts_S128_S1x128 := by
    unfold V hostOps0
    after_results
    rfl
  rw [h]
  pointwise []

theorem gfk_apply (c : Dev nD) (d : Fin 128) : (V m c main_v82 : Vec Ideal S1x128 .f32) (ix2 0 d) = Gfk m c (ix1 d) := by
  have h : (V m c main_v82 : Vec Ideal S1x128 .f32) =
      shapeCast S1x128 (shapeCast S128 (broadcastInDim S1x128 ![0, 1] bcast_S1x128_S1x128_0_1
        (shapeCast S1x128 (Gfk m c) shapeCasts_S128_S1x128)) shapeCasts_S1x128_S128) shapeCasts_S128_S1x128 := by
    unfold V hostOps0
    after_results
    rfl
  rw [h]
  pointwise []

theorem gr_apply (c : Dev nD) (l : Fin 128) :
    (V m c main_v74 : Vec Ideal S1x128 .f32) (ix2 0 l) = Gr m c (ix1 ⟨l.val % 64, Nat.mod_lt _ (by decide)⟩) := by
  have h : (V m c main_v74 : Vec Ideal S1x128 .f32) =
      shapeCast S1x128 (shapeCast S128 (broadcastInDim S2x64 ![0, 1] bcast_S1x64_S2x64_0_1
        (shapeCast S1x64 (Gr m c) shapeCasts_S64_S1x64)) shapeCasts_S2x64_S128) shapeCasts_S128_S1x128 := by
    unfold V hostOps0
    after_results
    rfl
  rw [h]
  pointwise []

/-- The host moves the rotated key's columns behind the forgetting heads', and the gates' after them. -/
theorem win_apply (c : Dev nD) (d : Fin 2048) (k : Fin 2632) :
    (V m c main_v39 : Vec Ideal S2048x2688 .bf16) (ix2 d ⟨k.val, by omega⟩) =
      if h : k.val < 1024 then W m c (ix2 d ⟨k.val, by omega⟩)
      else if h : k.val - 1024 < 1536 then W m c (ix2 d ⟨1088 + (k.val - 1024), by omega⟩)
      else if h : k.val - 1024 - 1536 < 64 then W m c (ix2 d ⟨1024 + (k.val - 1024 - 1536), by omega⟩)
      else W m c (ix2 d ⟨2624 + (k.val - 1024 - 1536 - 64), by omega⟩) := by
  unfold V hostOps0
  after_results
  pointwise []
  refine dite_congr rfl (fun h1 => ?_) fun h1 => dite_congr rfl (fun h2 => ?_) fun h2 => dite_congr rfl (fun h3 => ?_) fun h3 => (dif_pos (by omega)).trans ?_
  · simp only [↓ StableHlo.readResult]
    pointwise []
  · simp only [↓ StableHlo.readResult]
    pointwise []
  · simp only [↓ StableHlo.readResult]
    pointwise []
  · simp only [↓ StableHlo.readResult]
    pointwise []

/-- The host puts the heads' unrotated columns before their rotated ones. -/
theorem wqu_apply (c : Dev nD) (d : Fin 512) (k : Fin 1536) :
    (V m c main_v46 : Vec Ideal S512x1536 .bf16) (ix2 d k) =
      if h : k.val < 1024 then U m c (ix2 d ⟨k.val / 128 * 192 + k.val % 128, by omega⟩)
      else U m c (ix2 d ⟨(k.val - 1024) / 64 * 192 + (128 + (k.val - 1024) % 64), by omega⟩) := by
  unfold V hostOps0
  after_results
  pointwise []

/-- The host pads the rotated key's gain with ones. -/
theorem gk_apply (c : Dev nD) (l : Fin 64) :
    (V m c main_v54 : Vec Ideal S1x128 .f32) (ix2 0 ⟨l.val, by omega⟩) = Gk m c (ix1 l) := by
  unfold V hostOps0
  after_results
  pointwise []

/-- Update `k` of a vector put into a row lands at the column of the second index word plus `k`. -/
theorem lands_row (d : ScatterDims S1x128 S2 S8) (hiw : d.insertedWindowDims = [0]) (hsd : d.scatterDimsToOperandDims = [0, 1])
    (hivd : d.indexVectorDim = 0) (idx : IVec S2 32) (k : Fin 8) (r : Fin 1) (l : Fin 128) :
    d.resultIdx? (ix1 k) idx = some (ix2 r l) ↔
      (idx (ix1 (0 : Fin 2))).toInt = r.val ∧ (idx (ix1 (1 : Fin 2))).toInt + (k.val : Int) = l.val := by
  have hwin0 : d.window (ix1 k) 0 = 0 := by
    unfold ScatterDims.window
    rw [dif_neg fun h => (of_decide_eq_true (List.mem_filter.1 h).2) (by rw [hiw]; simp)]
  have hwin1 : d.window (ix1 k) 1 = k.val := by
    have hk : d.sKept = [1] := by
      show S1x128.kept d.insertedWindowDims = _
      rw [hiw]
      rfl
    unfold ScatterDims.window
    rw [dif_pos (by rw [hk]; simp)]
    exact congrArg (fun t => ((ix1 k : S8.Idx) t).val) (Subsingleton.elim (α := Fin 1) _ 0)
  refine (Routing.resultIdx?_ix2 (R := 1) (C := 128) d (ix1 k) idx r l).trans ?_
  rw [Routing.start_pair (R := 1) (C := 128) d hsd hivd, Routing.start_pair (R := 1) (C := 128) d hsd hivd, hwin0, hwin1]
  rw [Nat.cast_zero, add_zero]
  rfl

/-- The host puts the gates' bias beside the lanes of their projections. -/
theorem bf_apply (c : Dev nD) (k : Fin 8) :
    (V m c main_v51 : Vec Ideal S1x128 .f32) (ix2 0 ⟨64 + k.val, by omega⟩) = B m c (ix1 k) := by
  unfold V hostOps0
  after_results
  have h0 : ∀ q : Fin 2, (concatenate S2 0
        [⟨S1, broadcastInDim S1 ![] bcast_S_S1 (constantI S_ 32 0#32)⟩,
          ⟨S1, broadcastInDim S1 ![] bcast_S_S1 (constantI S_ 32 64#32)⟩] concatenates_S1_S1_S2_d0 : IVec S2 32) (ix1 q) =
      if q.val < 1 then 0#32 else 64#32 := fun q => by
    pointwise []
    split <;> rfl
  have hl := lands_row scatter_S1x128_S2_S8_0_0_01_0 rfl rfl rfl (concatenate S2 0
        [⟨S1, broadcastInDim S1 ![] bcast_S_S1 (constantI S_ 32 0#32)⟩,
          ⟨S1, broadcastInDim S1 ![] bcast_S_S1 (constantI S_ 32 64#32)⟩] concatenates_S1_S1_S2_d0)
  simp only [h0] at hl
  refine Routing.scatter_set_hit scatter_S1x128_S2_S8_0_0_01_0 _ _ _ _ _ (fun j hj => ?_) (ix1 k) ((hl k 0 ⟨64 + k.val, by omega⟩).2 ⟨rfl, ?_⟩)
  · obtain ⟨j, rfl⟩ : ∃ j' : Fin 8, j = ix1 j' := ⟨⟨(j 0).val, (j 0).isLt⟩, funext fun a => by fin_cases a; rfl⟩
    have h := ((hl j 0 ⟨64 + k.val, by omega⟩).1 hj).2
    have h64 : ((if (1 : Fin 2).val < 1 then 0#32 else 64#32 : BitVec 32)).toInt = 64 := rfl
    rw [h64] at h
    have : j = k := Fin.ext (by dsimp only at h; omega)
    rw [this]
  · have h64 : ((if (1 : Fin 2).val < 1 then 0#32 else 64#32 : BitVec 32)).toInt = 64 := rfl
    rw [h64]
    dsimp only
    omega

set_option maxRecDepth 65536 in
/-- One entry of the table of cosines. -/
theorem cos_ref (r : Fin 9216) (i : Fin 32) :
    Reference5Ideal.Read.val_main_v44 (F := Ideal) (ix2 r i) =
      Ideal.cos
        (FloatOps.sitofp (F := Ideal) FTy.f32
            (if h : r.val < 8192 then BitVec.ofNat 32 (r.val % 2048)
            else IntOp.addi (8192#32) (BitVec.ofNat 32 ((r.val - 8192) % 8))) *
          Ideal.pow (Ideal.ofBits FTy.f32 1176256512#32)
            (Ideal.div (-FloatOps.sitofp (F := Ideal) FTy.f32 (BitVec.ofNat 32 i.val)) (Ideal.ofBits FTy.f32 1107296256#32))) := by
  pointwise [Reference5Ideal.Read.val_main_v45, Reference5Ideal.Read.val_main_v44, Reference5Ideal.Read.val_main_v43, Reference5Ideal.Read.val_main_v42, Reference5Ideal.Read.val_main_v41, Reference5Ideal.Read.val_main_v40, Reference5Ideal.Read.val_main_v39, Reference5Ideal.Read.val_main_v38, Reference5Ideal.Read.val_main_v37, Reference5Ideal.Read.val_main_v36, Reference5Ideal.Read.val_main_v35, Reference5Ideal.Read.val_main_v34, Reference5Ideal.Read.val_main_v33, Reference5Ideal.Read.val_main_v32, Reference5Ideal.Read.val_main_v31, Reference5Ideal.Read.val_main_v30, Reference5Ideal.Read.val_main_v29, Reference5Ideal.Read.val_main_v28, Reference5Ideal.Read.val_main_v27, Reference5Ideal.Read.val_main_v26, Reference5Ideal.Read.val_main_v25, Reference5Ideal.Read.val_main_v24, Reference5Ideal.Read.val_main_v23, Reference5Ideal.Read.val_main_v22, Reference5Ideal.Read.val_main_v21, Reference5Ideal.Read.val_main_cst_2, Reference5Ideal.Read.val_main_cst_3, Reference5Ideal.Read.val_main_c]

set_option maxRecDepth 65536 in
/-- One entry of the table of sines. -/
theorem sin_ref (r : Fin 9216) (i : Fin 32) :
    Reference5Ideal.Read.val_main_v45 (F := Ideal) (ix2 r i) =
      Ideal.sin
        (FloatOps.sitofp (F := Ideal) FTy.f32
            (if h : r.val < 8192 then BitVec.ofNat 32 (r.val % 2048)
            else IntOp.addi (8192#32) (BitVec.ofNat 32 ((r.val - 8192) % 8))) *
          Ideal.pow (Ideal.ofBits FTy.f32 1176256512#32)
            (Ideal.div (-FloatOps.sitofp (F := Ideal) FTy.f32 (BitVec.ofNat 32 i.val)) (Ideal.ofBits FTy.f32 1107296256#32))) := by
  pointwise [Reference5Ideal.Read.val_main_v45, Reference5Ideal.Read.val_main_v44, Reference5Ideal.Read.val_main_v43, Reference5Ideal.Read.val_main_v42, Reference5Ideal.Read.val_main_v41, Reference5Ideal.Read.val_main_v40, Reference5Ideal.Read.val_main_v39, Reference5Ideal.Read.val_main_v38, Reference5Ideal.Read.val_main_v37, Reference5Ideal.Read.val_main_v36, Reference5Ideal.Read.val_main_v35, Reference5Ideal.Read.val_main_v34, Reference5Ideal.Read.val_main_v33, Reference5Ideal.Read.val_main_v32, Reference5Ideal.Read.val_main_v31, Reference5Ideal.Read.val_main_v30, Reference5Ideal.Read.val_main_v29, Reference5Ideal.Read.val_main_v28, Reference5Ideal.Read.val_main_v27, Reference5Ideal.Read.val_main_v26, Reference5Ideal.Read.val_main_v25, Reference5Ideal.Read.val_main_v24, Reference5Ideal.Read.val_main_v23, Reference5Ideal.Read.val_main_v22, Reference5Ideal.Read.val_main_v21, Reference5Ideal.Read.val_main_cst_2, Reference5Ideal.Read.val_main_cst_3, Reference5Ideal.Read.val_main_c]

/-- The host repeats the cosines four times. -/
theorem cos_apply (c : Dev nD) (r : Fin 9216) (l : Fin 128) :
    (V m c main_v27 : Vec Ideal S9216x128 .f32) (ix2 r l) =
      Reference5Ideal.Read.val_main_v44 (F := Ideal) (ix2 r ⟨l.val % 32, Nat.mod_lt _ (by decide)⟩) := by
  unfold V hostOps0
  after_results
  pointwise []
  exact (cos_ref r ⟨l.val % 32, Nat.mod_lt _ (by decide)⟩).symm

/-- The host repeats the sines four times, with the sign that the first half of a rotation takes. -/
theorem sin_apply (c : Dev nD) (r : Fin 9216) (l : Fin 128) :
    (V m c main_v32 : Vec Ideal S9216x128 .f32) (ix2 r l) =
      if l.val % 64 < 32 then -Reference5Ideal.Read.val_main_v45 (F := Ideal) (ix2 r ⟨l.val % 32, Nat.mod_lt _ (by decide)⟩)
      else Reference5Ideal.Read.val_main_v45 (F := Ideal) (ix2 r ⟨l.val % 32, Nat.mod_lt _ (by decide)⟩) := by
  unfold V hostOps0
  after_results
  pointwise []
  have h1 : l.val % 64 < 32 → l.val % 64 = l.val % 32 := by omega
  have h2 : ¬ l.val % 64 < 32 → l.val % 64 - 32 = l.val % 32 := by omega
  split
  · rename_i h
    rw [h1 h]
    exact congrArg (fun z : EReal => -z) (sin_ref r ⟨l.val % 32, Nat.mod_lt _ (by decide)⟩).symm
  · rename_i h
    rw [h2 h]
    exact (sin_ref r ⟨l.val % 32, Nat.mod_lt _ (by decide)⟩).symm

end Cert.Kernel5Ideal.Ab

end
-- ==== Proof.AbOpen.lean ====
module

public import proofs.«01_k».proof.Proof.AbIdealFrame
public import proofs.«01_k».proof.Proof.Rope

@[expose] public section

set_option maxRecDepth 16384

noncomputable section

open Idealize.ShloMosaic Idealize.ShloMosaic.TcCoe Idealize.SL.Sem

/-! What the body of the input projections leaves in its blocks, column by column. -/

namespace Cert.Kernel5Ideal.Ab

open Cert.Kernel5Ideal Cert.Kernel5Ideal.Gen
open Cert.Rope (nrm rope turned)

theorem hz : (![0, 0] : Fin 2 → Nat) = fun _ => 0 := funext fun a => by fin_cases a <;> rfl

/-- The lanes whose rotation takes the pair's second half: the first 32 of each 64. -/
abbrev fiV : IVec S256x128 1 :=
  k0_pay9 (Scalar.select (Scalar.cmpi .eq 64#32 0#32) 1#32 64#32) k0_pay6 k0_pay7 k0_pay8

theorem fi_apply (r : Fin 256) (l : Fin 128) : fiV (ix2 r l) = if l.val % 64 < 32 then 1#1 else 0#1 := by
  pointwise [fiV, k0_pay9, k0_pay6, k0_pay7, k0_pay8]
  revert l
  decide +kernel

/-- One entry of the block of queries: a head has 128 normalised columns, 64 normalised and rotated ones, and 64 zeros. -/
def qAt (Q : FVec Ideal S256x1536 .f32) (Gn Gr : Vec Ideal S1x128 .f32) (C S : FVec Ideal S256x128 .f32) (FI : IVec S256x128 1)
    (r : Fin 256) (k : Fin 2048) : EReal :=
  if h : k.val % 256 < 128 then
    nrm (Ideal.ofBits FTy.f32 1124073472#32) (fun e : Fin 128 => Q (ix2 r ⟨k.val / 256 * 128 + e.val, by omega⟩))
      (fun e => Gn (ix2 0 e)) ⟨k.val % 256, h⟩ * Ideal.ofBits FTy.f32 1033096506#32
  else if h : k.val % 256 - 128 < 64 then
    turned (fun x => Q (ix2 r ⟨1024 + (k.val / 512 * 128 + x.val), by omega⟩)) (fun x => Gr (ix2 0 x)) (fun x => C (ix2 r x))
      (fun x => S (ix2 r x)) (fun x => FI (ix2 r x)) ⟨k.val / 256 % 2 * 64 + (k.val % 256 - 128), by omega⟩ *
      Ideal.ofBits FTy.f32 1033096506#32
  else 0

/-- The block of queries. -/
def qB (Q : FVec Ideal S256x1536 .f32) (Gn Gr : Vec Ideal S1x128 .f32) (C S : FVec Ideal S256x128 .f32) (FI : IVec S256x128 1) :
    Vec Ideal S256x2048 .bf16 := fun y => qAt Q Gn Gr C S FI ⟨(y 0).val, (y 0).isLt⟩ ⟨(y 1).val, (y 1).isLt⟩

theorem nope_eq (Q : FVec Ideal S256x1536 .f32) (Gn Gr : Vec Ideal S1x128 .f32) (C S : FVec Ideal S256x128 .f32)
    (FI : IVec S256x128 1) (r : Fin 256) (h : ℕ) (φ : Fin 128 → Fin 1536) (hφ : ∀ x, (φ x).val = 128 * h + x.val)
    (l : Fin 128) (k : Fin 2048) (hk : k.val = 256 * h + l.val) :
    nrm (Ideal.ofBits FTy.f32 1124073472#32) (fun x => Q (ix2 r (φ x))) (fun x => Gn (ix2 0 x)) l *
      Ideal.ofBits FTy.f32 1033096506#32 = qAt Q Gn Gr C S FI r k := by
  have hl := l.isLt
  unfold qAt
  rw [dif_pos (by omega)]
  have e1 : (fun e : Fin 128 => Q (ix2 r ⟨k.val / 256 * 128 + e.val, by omega⟩)) = fun x => Q (ix2 r (φ x)) :=
    funext fun x => congrArg (fun z => Q (ix2 r z)) (Fin.ext (by rw [hφ]; dsimp only; omega))
  have e2 : (⟨k.val % 256, by omega⟩ : Fin 128) = l := Fin.ext (by dsimp only; omega)
  rw [e1, e2]

theorem half_eq (Q : FVec Ideal S256x1536 .f32) (Gn Gr : Vec Ideal S1x128 .f32) (C S : FVec Ideal S256x128 .f32)
    (FI : IVec S256x128 1) (r : Fin 256) (p q : ℕ) (hq : q < 2) (φ : Fin 128 → Fin 1536)
    (hφ : ∀ x, (φ x).val = 1024 + (128 * p + x.val)) (l l' : Fin 128) (hl' : l.val < 64 → l'.val = q * 64 + l.val)
    (k : Fin 2048) (hk : k.val = 512 * p + (256 * q + 128) + l.val) :
    Scalar.select (IntOp.cmpi CmpIPredicate.slt (BitVec.ofNat 32 l.val) 64#32)
      (turned (fun x => Q (ix2 r (φ x))) (fun x => Gr (ix2 0 x)) (fun x => C (ix2 r x)) (fun x => S (ix2 r x))
        (fun x => FI (ix2 r x)) l' * Ideal.ofBits FTy.f32 1033096506#32) 0 = qAt Q Gn Gr C S FI r k := by
  have hl := l.isLt
  rw [Pair.sel_lo l.val hl]
  unfold qAt
  rw [dif_neg (by omega)]
  by_cases h : l.val < 64
  · rw [if_pos h, dif_pos (by omega)]
    have e1 : (fun x : Fin 128 => Q (ix2 r ⟨1024 + (k.val / 512 * 128 + x.val), by omega⟩)) = fun x => Q (ix2 r (φ x)) :=
      funext fun x => congrArg (fun z => Q (ix2 r z)) (Fin.ext (by rw [hφ]; dsimp only; omega))
    have e2 : (⟨k.val / 256 % 2 * 64 + (k.val % 256 - 128), by omega⟩ : Fin 128) = l' :=
      Fin.ext (by rw [hl' h]; dsimp only; omega)
    rw [e1, e2]
  · rw [if_neg h, dif_neg (by omega)]

/-- One entry of a block of normalised heads of 128 columns that start at column `b` of the projections. -/
def fAt (Y : FVec Ideal S256x2688 .f32) (G : Vec Ideal S1x128 .f32) (b n : ℕ) (hb : b + n * 128 ≤ 2688) (r : Fin 256)
    (k : Fin (n * 128)) : EReal :=
  nrm (Ideal.ofBits FTy.f32 1124073472#32) (fun e : Fin 128 => Y (ix2 r ⟨b + (k.val / 128 * 128 + e.val), by omega⟩))
    (fun e => G (ix2 0 e)) ⟨k.val % 128, Nat.mod_lt _ (by decide)⟩

theorem tile_eq (Y : FVec Ideal S256x2688 .f32) (G : Vec Ideal S1x128 .f32) (b n : ℕ) (hb : b + n * 128 ≤ 2688) (r : Fin 256)
    (h : ℕ) (φ : Fin 128 → Fin 2688) (hφ : ∀ x, (φ x).val = b + (128 * h + x.val)) (l : Fin 128) (k : Fin (n * 128))
    (hk : k.val = 128 * h + l.val) :
    nrm (Ideal.ofBits FTy.f32 1124073472#32) (fun x => Y (ix2 r (φ x))) (fun x => G (ix2 0 x)) l = fAt Y G b n hb r k := by
  have hl := l.isLt
  unfold fAt
  have e1 : (fun e : Fin 128 => Y (ix2 r ⟨b + (k.val / 128 * 128 + e.val), by omega⟩)) = fun x => Y (ix2 r (φ x)) :=
    funext fun x => congrArg (fun z => Y (ix2 r z)) (Fin.ext (by rw [hφ]; dsimp only; omega))
  have e2 : (⟨k.val % 128, Nat.mod_lt _ (by decide)⟩ : Fin 128) = l := Fin.ext (by dsimp only; omega)
  rw [e1, e2]

/-- The block of the forgetting heads' queries. -/
def fqB (Y : FVec Ideal S256x2688 .f32) (G : Vec Ideal S1x128 .f32) : Vec Ideal S256x1024 .bf16 := fun y =>
  fAt Y G 1024 8 (by decide) ⟨(y 0).val, (y 0).isLt⟩ ⟨(y 1).val, (y 1).isLt⟩ * Ideal.ofBits FTy.f32 1035273459#32

/-- The block of the forgetting heads' keys. -/
def fkB (Y : FVec Ideal S256x2688 .f32) (G : Vec Ideal S1x128 .f32) : Vec Ideal S256x256 .f32 := fun y =>
  fAt Y G 2048 2 (by decide) ⟨(y 0).val, (y 0).isLt⟩ ⟨(y 1).val, (y 1).isLt⟩

theorem qb_7 (Y : FVec Ideal S256x2688 .f32) (Ga : Vec Ideal S1x512 .f32) (Wq : Vec Ideal S512x1536 .bf16)
    (Gn Gr : Vec Ideal S1x128 .f32) (C S : FVec Ideal S256x128 .f32) (FI : IVec S256x128 1) (i : S256x128.Idx) :
    k0_pay11 (F := Ideal) Y Ga Wq Gn i = qB (k0_pay10 Y Ga Wq) Gn Gr C S FI (r0_7.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_7.idx (ix2 r l) = (ix2 r ⟨l.val, by omega⟩ : S256x2048.Idx) := by
    funext a; apply Fin.ext
    match a with
    | ⟨0, _⟩ => show 0 + 1 * r.val = r.val; omega
    | ⟨1, _⟩ => show 0 + 1 * l.val = l.val; omega
  rw [hi]
  unfold k0_pay11
  generalize k0_pay10 Y Ga Wq = Q
  pointwise []
  exact nope_eq Q Gn Gr C S FI r 0 (fun x => ⟨x.val, by omega⟩) (fun x => by dsimp only <;> omega) l ⟨l.val, by omega⟩ (by dsimp only <;> omega)

theorem qb_8 (Q : FVec Ideal S256x1536 .f32) (Gn Gr : Vec Ideal S1x128 .f32) (C S : FVec Ideal S256x128 .f32) (FI : IVec S256x128 1) (i : S256x128.Idx) :
    k0_pay12 (F := Ideal) Q Gn i = qB Q Gn Gr C S FI (r0_8.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_8.idx (ix2 r l) = (ix2 r ⟨256 + l.val, by omega⟩ : S256x2048.Idx) := by
    funext a; apply Fin.ext
    match a with
    | ⟨0, _⟩ => show 0 + 1 * r.val = r.val; omega
    | ⟨1, _⟩ => show 256 + 1 * l.val = 256 + l.val; omega
  rw [hi]
  pointwise [k0_pay12]
  exact nope_eq Q Gn Gr C S FI r 1 (fun x => ⟨128 + x.val, by omega⟩) (fun x => by dsimp only <;> omega) l ⟨256 + l.val, by omega⟩ (by dsimp only <;> omega)

theorem qb_9 (Q : FVec Ideal S256x1536 .f32) (Gn Gr : Vec Ideal S1x128 .f32) (C S : FVec Ideal S256x128 .f32) (FI : IVec S256x128 1) (i : S256x128.Idx) :
    k0_pay13 (F := Ideal) Q Gn i = qB Q Gn Gr C S FI (r0_9.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_9.idx (ix2 r l) = (ix2 r ⟨512 + l.val, by omega⟩ : S256x2048.Idx) := by
    funext a; apply Fin.ext
    match a with
    | ⟨0, _⟩ => show 0 + 1 * r.val = r.val; omega
    | ⟨1, _⟩ => show 512 + 1 * l.val = 512 + l.val; omega
  rw [hi]
  pointwise [k0_pay13]
  exact nope_eq Q Gn Gr C S FI r 2 (fun x => ⟨256 + x.val, by omega⟩) (fun x => by dsimp only <;> omega) l ⟨512 + l.val, by omega⟩ (by dsimp only <;> omega)

theorem qb_10 (Q : FVec Ideal S256x1536 .f32) (Gn Gr : Vec Ideal S1x128 .f32) (C S : FVec Ideal S256x128 .f32) (FI : IVec S256x128 1) (i : S256x128.Idx) :
    k0_pay15 (F := Ideal) (k0_pay14 Q) Gn i = qB Q Gn Gr C S FI (r0_10.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_10.idx (ix2 r l) = (ix2 r ⟨768 + l.val, by omega⟩ : S256x2048.Idx) := by
    funext a; apply Fin.ext
    match a with
    | ⟨0, _⟩ => show 0 + 1 * r.val = r.val; omega
    | ⟨1, _⟩ => show 768 + 1 * l.val = 768 + l.val; omega
  rw [hi]
  pointwise [k0_pay15, k0_pay14]
  exact nope_eq Q Gn Gr C S FI r 3 (fun x => ⟨384 + x.val, by omega⟩) (fun x => by dsimp only <;> omega) l ⟨768 + l.val, by omega⟩ (by dsimp only <;> omega)

theorem qb_11 (Q : FVec Ideal S256x1536 .f32) (Gn Gr : Vec Ideal S1x128 .f32) (C S : FVec Ideal S256x128 .f32) (FI : IVec S256x128 1) (i : S256x128.Idx) :
    k0_pay16 (F := Ideal) Q Gn i = qB Q Gn Gr C S FI (r0_11.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_11.idx (ix2 r l) = (ix2 r ⟨1024 + l.val, by omega⟩ : S256x2048.Idx) := by
    funext a; apply Fin.ext
    match a with
    | ⟨0, _⟩ => show 0 + 1 * r.val = r.val; omega
    | ⟨1, _⟩ => show 1024 + 1 * l.val = 1024 + l.val; omega
  rw [hi]
  pointwise [k0_pay16]
  exact nope_eq Q Gn Gr C S FI r 4 (fun x => ⟨512 + x.val, by omega⟩) (fun x => by dsimp only <;> omega) l ⟨1024 + l.val, by omega⟩ (by dsimp only <;> omega)

theorem qb_12 (Q : FVec Ideal S256x1536 .f32) (Gn Gr : Vec Ideal S1x128 .f32) (C S : FVec Ideal S256x128 .f32) (FI : IVec S256x128 1) (i : S256x128.Idx) :
    k0_pay20 (F := Ideal) (k0_pay17 Q) (k0_pay18 Gn) (k0_pay19 Q) i = qB Q Gn Gr C S FI (r0_12.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_12.idx (ix2 r l) = (ix2 r ⟨1280 + l.val, by omega⟩ : S256x2048.Idx) := by
    funext a; apply Fin.ext
    match a with
    | ⟨0, _⟩ => show 0 + 1 * r.val = r.val; omega
    | ⟨1, _⟩ => show 1280 + 1 * l.val = 1280 + l.val; omega
  rw [hi]
  pointwise [k0_pay20, k0_pay17, k0_pay18, k0_pay19]
  exact nope_eq Q Gn Gr C S FI r 5 (fun x => ⟨640 + x.val, by omega⟩) (fun x => by dsimp only <;> omega) l ⟨1280 + l.val, by omega⟩ (by dsimp only <;> omega)

theorem qb_13 (Q : FVec Ideal S256x1536 .f32) (Gn Gr : Vec Ideal S1x128 .f32) (C S : FVec Ideal S256x128 .f32) (FI : IVec S256x128 1) (i : S256x128.Idx) :
    k0_pay21 (F := Ideal) Q Gn i = qB Q Gn Gr C S FI (r0_13.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_13.idx (ix2 r l) = (ix2 r ⟨1536 + l.val, by omega⟩ : S256x2048.Idx) := by
    funext a; apply Fin.ext
    match a with
    | ⟨0, _⟩ => show 0 + 1 * r.val = r.val; omega
    | ⟨1, _⟩ => show 1536 + 1 * l.val = 1536 + l.val; omega
  rw [hi]
  pointwise [k0_pay21]
  exact nope_eq Q Gn Gr C S FI r 6 (fun x => ⟨768 + x.val, by omega⟩) (fun x => by dsimp only <;> omega) l ⟨1536 + l.val, by omega⟩ (by dsimp only <;> omega)

theorem qb_14 (Q : FVec Ideal S256x1536 .f32) (Gn Gr : Vec Ideal S1x128 .f32) (C S : FVec Ideal S256x128 .f32) (FI : IVec S256x128 1) (i : S256x128.Idx) :
    k0_pay25 (F := Ideal) (k0_pay22 Q) (k0_pay23 Gn) (k0_pay24 Q) (Scalar.ofBits .f32 0x43000000#32) i = qB Q Gn Gr C S FI (r0_14.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_14.idx (ix2 r l) = (ix2 r ⟨1792 + l.val, by omega⟩ : S256x2048.Idx) := by
    funext a; apply Fin.ext
    match a with
    | ⟨0, _⟩ => show 0 + 1 * r.val = r.val; omega
    | ⟨1, _⟩ => show 1792 + 1 * l.val = 1792 + l.val; omega
  rw [hi]
  pointwise [k0_pay25, k0_pay22, k0_pay23, k0_pay24]
  exact nope_eq Q Gn Gr C S FI r 7 (fun x => ⟨896 + x.val, by omega⟩) (fun x => by dsimp only <;> omega) l ⟨1792 + l.val, by omega⟩ (by dsimp only <;> omega)

theorem qb_15 (Q : FVec Ideal S256x1536 .f32) (Gn Gr : Vec Ideal S1x128 .f32) (C S : FVec Ideal S256x128 .f32) (FI : IVec S256x128 1) (i : S256x128.Idx) :
    k0_pay29 (F := Ideal) C S k0_pay5 FI (k0_pay26 k0_pay5 Q Gr) (k0_pay27 k0_pay5 Q Gr) i = qB Q Gn Gr C S FI (r0_15.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_15.idx (ix2 r l) = (ix2 r ⟨128 + l.val, by omega⟩ : S256x2048.Idx) := by
    funext a; apply Fin.ext
    match a with
    | ⟨0, _⟩ => show 0 + 1 * r.val = r.val; omega
    | ⟨1, _⟩ => show 128 + 1 * l.val = 128 + l.val; omega
  rw [hi]
  pointwise [k0_pay29, k0_pay28, k0_pay26, k0_pay27, k0_pay5]
  exact half_eq Q Gn Gr C S FI r 0 0 (by decide) (fun x => ⟨1024 + x.val, by omega⟩) (fun x => by dsimp only <;> omega) l l (fun _ => by omega) ⟨128 + l.val, by omega⟩ (by dsimp only <;> omega)

theorem qb_16 (Q : FVec Ideal S256x1536 .f32) (Gn Gr : Vec Ideal S1x128 .f32) (C S : FVec Ideal S256x128 .f32) (FI : IVec S256x128 1) (i : S256x128.Idx) :
    k0_pay30 (F := Ideal) C S k0_pay5 FI (k0_pay26 k0_pay5 Q Gr) (k0_pay27 k0_pay5 Q Gr) i = qB Q Gn Gr C S FI (r0_16.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_16.idx (ix2 r l) = (ix2 r ⟨384 + l.val, by omega⟩ : S256x2048.Idx) := by
    funext a; apply Fin.ext
    match a with
    | ⟨0, _⟩ => show 0 + 1 * r.val = r.val; omega
    | ⟨1, _⟩ => show 384 + 1 * l.val = 384 + l.val; omega
  rw [hi]
  pointwise [k0_pay30, k0_pay28, k0_pay26, k0_pay27, k0_pay5]
  exact half_eq Q Gn Gr C S FI r 0 1 (by decide) (fun x => ⟨1024 + x.val, by omega⟩) (fun x => by dsimp only <;> omega) l ⟨(l.val + 128 - 64) % 128, Nat.mod_lt _ (by decide)⟩ (fun _ => by dsimp only <;> omega) ⟨384 + l.val, by omega⟩ (by dsimp only <;> omega)

theorem qb_17 (Q : FVec Ideal S256x1536 .f32) (Gn Gr : Vec Ideal S1x128 .f32) (C S : FVec Ideal S256x128 .f32) (FI : IVec S256x128 1) (i : S256x128.Idx) :
    k0_pay37 (F := Ideal) C S k0_pay5 FI (k0_pay31 Q) (k0_pay32 Gr) (k0_pay34 k0_pay5 Q) (k0_pay35 k0_pay5 Q) i = qB Q Gn Gr C S FI (r0_17.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_17.idx (ix2 r l) = (ix2 r ⟨640 + l.val, by omega⟩ : S256x2048.Idx) := by
    funext a; apply Fin.ext
    match a with
    | ⟨0, _⟩ => show 0 + 1 * r.val = r.val; omega
    | ⟨1, _⟩ => show 640 + 1 * l.val = 640 + l.val; omega
  rw [hi]
  pointwise [k0_pay37, k0_pay36, k0_pay31, k0_pay32, k0_pay33, k0_pay34, k0_pay35, k0_pay5]
  exact half_eq Q Gn Gr C S FI r 1 0 (by decide) (fun x => ⟨1152 + x.val, by omega⟩) (fun x => by dsimp only <;> omega) l l (fun _ => by omega) ⟨640 + l.val, by omega⟩ (by dsimp only <;> omega)

theorem qb_18 (Q : FVec Ideal S256x1536 .f32) (Gn Gr : Vec Ideal S1x128 .f32) (C S : FVec Ideal S256x128 .f32) (FI : IVec S256x128 1) (i : S256x128.Idx) :
    k0_pay38 (F := Ideal) C S k0_pay5 FI (k0_pay31 Q) (k0_pay32 Gr) (k0_pay34 k0_pay5 Q) (k0_pay35 k0_pay5 Q) i = qB Q Gn Gr C S FI (r0_18.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_18.idx (ix2 r l) = (ix2 r ⟨896 + l.val, by omega⟩ : S256x2048.Idx) := by
    funext a; apply Fin.ext
    match a with
    | ⟨0, _⟩ => show 0 + 1 * r.val = r.val; omega
    | ⟨1, _⟩ => show 896 + 1 * l.val = 896 + l.val; omega
  rw [hi]
  pointwise [k0_pay38, k0_pay36, k0_pay31, k0_pay32, k0_pay33, k0_pay34, k0_pay35, k0_pay5]
  exact half_eq Q Gn Gr C S FI r 1 1 (by decide) (fun x => ⟨1152 + x.val, by omega⟩) (fun x => by dsimp only <;> omega) l ⟨(l.val + 128 - 64) % 128, Nat.mod_lt _ (by decide)⟩ (fun _ => by dsimp only <;> omega) ⟨896 + l.val, by omega⟩ (by dsimp only <;> omega)

theorem qb_19 (Q : FVec Ideal S256x1536 .f32) (Gn Gr : Vec Ideal S1x128 .f32) (C S : FVec Ideal S256x128 .f32) (FI : IVec S256x128 1) (i : S256x128.Idx) :
    k0_pay45 (F := Ideal) C S k0_pay5 FI (k0_pay39 Q) (k0_pay40 Gr) (k0_pay42 k0_pay5 Q) (k0_pay43 k0_pay5 Q) i = qB Q Gn Gr C S FI (r0_19.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_19.idx (ix2 r l) = (ix2 r ⟨1152 + l.val, by omega⟩ : S256x2048.Idx) := by
    funext a; apply Fin.ext
    match a with
    | ⟨0, _⟩ => show 0 + 1 * r.val = r.val; omega
    | ⟨1, _⟩ => show 1152 + 1 * l.val = 1152 + l.val; omega
  rw [hi]
  pointwise [k0_pay45, k0_pay44, k0_pay39, k0_pay40, k0_pay41, k0_pay42, k0_pay43, k0_pay5]
  exact half_eq Q Gn Gr C S FI r 2 0 (by decide) (fun x => ⟨1280 + x.val, by omega⟩) (fun x => by dsimp only <;> omega) l l (fun _ => by omega) ⟨1152 + l.val, by omega⟩ (by dsimp only <;> omega)

theorem qb_20 (Q : FVec Ideal S256x1536 .f32) (Gn Gr : Vec Ideal S1x128 .f32) (C S : FVec Ideal S256x128 .f32) (FI : IVec S256x128 1) (i : S256x128.Idx) :
    k0_pay46 (F := Ideal) C S k0_pay5 FI (k0_pay39 Q) (k0_pay40 Gr) (k0_pay42 k0_pay5 Q) (k0_pay43 k0_pay5 Q) i = qB Q Gn Gr C S FI (r0_20.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_20.idx (ix2 r l) = (ix2 r ⟨1408 + l.val, by omega⟩ : S256x2048.Idx) := by
    funext a; apply Fin.ext
    match a with
    | ⟨0, _⟩ => show 0 + 1 * r.val = r.val; omega
    | ⟨1, _⟩ => show 1408 + 1 * l.val = 1408 + l.val; omega
  rw [hi]
  pointwise [k0_pay46, k0_pay44, k0_pay39, k0_pay40, k0_pay41, k0_pay42, k0_pay43, k0_pay5]
  exact half_eq Q Gn Gr C S FI r 2 1 (by decide) (fun x => ⟨1280 + x.val, by omega⟩) (fun x => by dsimp only <;> omega) l ⟨(l.val + 128 - 64) % 128, Nat.mod_lt _ (by decide)⟩ (fun _ => by dsimp only <;> omega) ⟨1408 + l.val, by omega⟩ (by dsimp only <;> omega)

theorem qb_21 (Q : FVec Ideal S256x1536 .f32) (Gn Gr : Vec Ideal S1x128 .f32) (C S : FVec Ideal S256x128 .f32) (FI : IVec S256x128 1) (i : S256x128.Idx) :
    k0_pay53 (F := Ideal) C S k0_pay5 FI (k0_pay47 Q) (k0_pay48 Gr) (k0_pay50 k0_pay5 Q) (k0_pay51 k0_pay5 Q) i = qB Q Gn Gr C S FI (r0_21.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_21.idx (ix2 r l) = (ix2 r ⟨1664 + l.val, by omega⟩ : S256x2048.Idx) := by
    funext a; apply Fin.ext
    match a with
    | ⟨0, _⟩ => show 0 + 1 * r.val = r.val; omega
    | ⟨1, _⟩ => show 1664 + 1 * l.val = 1664 + l.val; omega
  rw [hi]
  pointwise [k0_pay53, k0_pay52, k0_pay47, k0_pay48, k0_pay49, k0_pay50, k0_pay51, k0_pay5]
  exact half_eq Q Gn Gr C S FI r 3 0 (by decide) (fun x => ⟨1408 + x.val, by omega⟩) (fun x => by dsimp only <;> omega) l l (fun _ => by omega) ⟨1664 + l.val, by omega⟩ (by dsimp only <;> omega)

theorem qb_22 (Q : FVec Ideal S256x1536 .f32) (Gn Gr : Vec Ideal S1x128 .f32) (C S : FVec Ideal S256x128 .f32) (FI : IVec S256x128 1) (i : S256x128.Idx) :
    k0_pay54 (F := Ideal) C S k0_pay5 FI (k0_pay47 Q) (k0_pay48 Gr) (k0_pay50 k0_pay5 Q) (k0_pay51 k0_pay5 Q) i = qB Q Gn Gr C S FI (r0_22.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_22.idx (ix2 r l) = (ix2 r ⟨1920 + l.val, by omega⟩ : S256x2048.Idx) := by
    funext a; apply Fin.ext
    match a with
    | ⟨0, _⟩ => show 0 + 1 * r.val = r.val; omega
    | ⟨1, _⟩ => show 1920 + 1 * l.val = 1920 + l.val; omega
  rw [hi]
  pointwise [k0_pay54, k0_pay52, k0_pay47, k0_pay48, k0_pay49, k0_pay50, k0_pay51, k0_pay5]
  exact half_eq Q Gn Gr C S FI r 3 1 (by decide) (fun x => ⟨1408 + x.val, by omega⟩) (fun x => by dsimp only <;> omega) l ⟨(l.val + 128 - 64) % 128, Nat.mod_lt _ (by decide)⟩ (fun _ => by dsimp only <;> omega) ⟨1920 + l.val, by omega⟩ (by dsimp only <;> omega)

theorem fq_24 (Y : FVec Ideal S256x2688 .f32) (G : Vec Ideal S1x128 .f32) (i : S256x128.Idx) :
    k0_pay59 (F := Ideal) Y G i = fqB Y G (r0_24.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_24.idx (ix2 r l) = (ix2 r ⟨l.val, by omega⟩ : S256x1024.Idx) := by
    funext a; apply Fin.ext
    match a with
    | ⟨0, _⟩ => show 0 + 1 * r.val = r.val; omega
    | ⟨1, _⟩ => show 0 + 1 * l.val = l.val; omega
  rw [hi]
  pointwise [k0_pay59]
  exact congrArg (· * Ideal.ofBits FTy.f32 1035273459#32) (tile_eq Y G 1024 8 (by decide) r 0 (fun x => ⟨1024 + x.val, by omega⟩) (fun x => by dsimp only <;> omega) l ⟨l.val, by omega⟩ (by dsimp only <;> omega))

theorem fq_25 (Y : FVec Ideal S256x2688 .f32) (G : Vec Ideal S1x128 .f32) (i : S256x128.Idx) :
    k0_pay64 (F := Ideal) (k0_pay60 Y) (k0_pay61 G) (k0_pay62 Y) k0_pay63 i = fqB Y G (r0_25.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_25.idx (ix2 r l) = (ix2 r ⟨128 + l.val, by omega⟩ : S256x1024.Idx) := by
    funext a; apply Fin.ext
    match a with
    | ⟨0, _⟩ => show 0 + 1 * r.val = r.val; omega
    | ⟨1, _⟩ => show 128 + 1 * l.val = 128 + l.val; omega
  rw [hi]
  pointwise [k0_pay64, k0_pay60, k0_pay61, k0_pay62, k0_pay63]
  exact congrArg (· * Ideal.ofBits FTy.f32 1035273459#32) (tile_eq Y G 1024 8 (by decide) r 1 (fun x => ⟨1152 + x.val, by omega⟩) (fun x => by dsimp only <;> omega) l ⟨128 + l.val, by omega⟩ (by dsimp only <;> omega))

theorem fq_26 (Y : FVec Ideal S256x2688 .f32) (G : Vec Ideal S1x128 .f32) (i : S256x128.Idx) :
    k0_pay65 (F := Ideal) Y G i = fqB Y G (r0_26.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_26.idx (ix2 r l) = (ix2 r ⟨256 + l.val, by omega⟩ : S256x1024.Idx) := by
    funext a; apply Fin.ext
    match a with
    | ⟨0, _⟩ => show 0 + 1 * r.val = r.val; omega
    | ⟨1, _⟩ => show 256 + 1 * l.val = 256 + l.val; omega
  rw [hi]
  pointwise [k0_pay65]
  exact congrArg (· * Ideal.ofBits FTy.f32 1035273459#32) (tile_eq Y G 1024 8 (by decide) r 2 (fun x => ⟨1280 + x.val, by omega⟩) (fun x => by dsimp only <;> omega) l ⟨256 + l.val, by omega⟩ (by dsimp only <;> omega))

theorem fq_27 (Y : FVec Ideal S256x2688 .f32) (G : Vec Ideal S1x128 .f32) (i : S256x128.Idx) :
    k0_pay68 (F := Ideal) (k0_pay66 G) (k0_pay67 Y) i = fqB Y G (r0_27.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_27.idx (ix2 r l) = (ix2 r ⟨384 + l.val, by omega⟩ : S256x1024.Idx) := by
    funext a; apply Fin.ext
    match a with
    | ⟨0, _⟩ => show 0 + 1 * r.val = r.val; omega
    | ⟨1, _⟩ => show 384 + 1 * l.val = 384 + l.val; omega
  rw [hi]
  pointwise [k0_pay68, k0_pay66, k0_pay67]
  exact congrArg (· * Ideal.ofBits FTy.f32 1035273459#32) (tile_eq Y G 1024 8 (by decide) r 3 (fun x => ⟨1408 + x.val, by omega⟩) (fun x => by dsimp only <;> omega) l ⟨384 + l.val, by omega⟩ (by dsimp only <;> omega))

theorem fq_28 (Y : FVec Ideal S256x2688 .f32) (G : Vec Ideal S1x128 .f32) (i : S256x128.Idx) :
    k0_pay69 (F := Ideal) Y G i = fqB Y G (r0_28.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_28.idx (ix2 r l) = (ix2 r ⟨512 + l.val, by omega⟩ : S256x1024.Idx) := by
    funext a; apply Fin.ext
    match a with
    | ⟨0, _⟩ => show 0 + 1 * r.val = r.val; omega
    | ⟨1, _⟩ => show 512 + 1 * l.val = 512 + l.val; omega
  rw [hi]
  pointwise [k0_pay69]
  exact congrArg (· * Ideal.ofBits FTy.f32 1035273459#32) (tile_eq Y G 1024 8 (by decide) r 4 (fun x => ⟨1536 + x.val, by omega⟩) (fun x => by dsimp only <;> omega) l ⟨512 + l.val, by omega⟩ (by dsimp only <;> omega))

theorem fq_29 (Y : FVec Ideal S256x2688 .f32) (G : Vec Ideal S1x128 .f32) (i : S256x128.Idx) :
    k0_pay72 (F := Ideal) (k0_pay70 Y G) k0_pay71 i = fqB Y G (r0_29.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_29.idx (ix2 r l) = (ix2 r ⟨640 + l.val, by omega⟩ : S256x1024.Idx) := by
    funext a; apply Fin.ext
    match a with
    | ⟨0, _⟩ => show 0 + 1 * r.val = r.val; omega
    | ⟨1, _⟩ => show 640 + 1 * l.val = 640 + l.val; omega
  rw [hi]
  pointwise [k0_pay72, k0_pay70, k0_pay71]
  exact congrArg (· * Ideal.ofBits FTy.f32 1035273459#32) (tile_eq Y G 1024 8 (by decide) r 5 (fun x => ⟨1664 + x.val, by omega⟩) (fun x => by dsimp only <;> omega) l ⟨640 + l.val, by omega⟩ (by dsimp only <;> omega))

theorem fq_30 (Y : FVec Ideal S256x2688 .f32) (G : Vec Ideal S1x128 .f32) (i : S256x128.Idx) :
    k0_pay73 (F := Ideal) Y G i = fqB Y G (r0_30.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_30.idx (ix2 r l) = (ix2 r ⟨768 + l.val, by omega⟩ : S256x1024.Idx) := by
    funext a; apply Fin.ext
    match a with
    | ⟨0, _⟩ => show 0 + 1 * r.val = r.val; omega
    | ⟨1, _⟩ => show 768 + 1 * l.val = 768 + l.val; omega
  rw [hi]
  pointwise [k0_pay73]
  exact congrArg (· * Ideal.ofBits FTy.f32 1035273459#32) (tile_eq Y G 1024 8 (by decide) r 6 (fun x => ⟨1792 + x.val, by omega⟩) (fun x => by dsimp only <;> omega) l ⟨768 + l.val, by omega⟩ (by dsimp only <;> omega))

theorem fq_31 (Y : FVec Ideal S256x2688 .f32) (G : Vec Ideal S1x128 .f32) (i : S256x128.Idx) :
    k0_pay74 (F := Ideal) Y G i = fqB Y G (r0_31.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_31.idx (ix2 r l) = (ix2 r ⟨896 + l.val, by omega⟩ : S256x1024.Idx) := by
    funext a; apply Fin.ext
    match a with
    | ⟨0, _⟩ => show 0 + 1 * r.val = r.val; omega
    | ⟨1, _⟩ => show 896 + 1 * l.val = 896 + l.val; omega
  rw [hi]
  pointwise [k0_pay74]
  exact congrArg (· * Ideal.ofBits FTy.f32 1035273459#32) (tile_eq Y G 1024 8 (by decide) r 7 (fun x => ⟨1920 + x.val, by omega⟩) (fun x => by dsimp only <;> omega) l ⟨896 + l.val, by omega⟩ (by dsimp only <;> omega))

theorem fk_32 (Y : FVec Ideal S256x2688 .f32) (G : Vec Ideal S1x128 .f32) (i : S256x128.Idx) :
    k0_pay75 (F := Ideal) Y G i = fkB Y G (r0_32.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_32.idx (ix2 r l) = (ix2 r ⟨l.val, by omega⟩ : S256x256.Idx) := by
    funext a; apply Fin.ext
    match a with
    | ⟨0, _⟩ => show 0 + 1 * r.val = r.val; omega
    | ⟨1, _⟩ => show 0 + 1 * l.val = l.val; omega
  rw [hi]
  pointwise [k0_pay75]
  exact tile_eq Y G 2048 2 (by decide) r 0 (fun x => ⟨2048 + x.val, by omega⟩) (fun x => by dsimp only <;> omega) l ⟨l.val, by omega⟩ (by dsimp only <;> omega)

theorem fk_33 (Y : FVec Ideal S256x2688 .f32) (G : Vec Ideal S1x128 .f32) (i : S256x128.Idx) :
    k0_pay76 (F := Ideal) Y G i = fkB Y G (r0_33.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_33.idx (ix2 r l) = (ix2 r ⟨128 + l.val, by omega⟩ : S256x256.Idx) := by
    funext a; apply Fin.ext
    match a with
    | ⟨0, _⟩ => show 0 + 1 * r.val = r.val; omega
    | ⟨1, _⟩ => show 128 + 1 * l.val = 128 + l.val; omega
  rw [hi]
  pointwise [k0_pay76]
  exact tile_eq Y G 2048 2 (by decide) r 1 (fun x => ⟨2176 + x.val, by omega⟩) (fun x => by dsimp only <;> omega) l ⟨128 + l.val, by omega⟩ (by dsimp only <;> omega)

/-- What the body leaves in its block of queries. -/
theorem out0_14_eq (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (y : S256x2048.Idx) :
    out0_14 (F := Ideal) x g w ga wq gc gn gr gk gfq gfk bf cs sn y = qB (k0_pay10 (k0_pay2 x g w) ga wq) gn gr (k0_pay3 cs) (k0_pay4 sn) fiV y := by
  unfold out0_14 k0_pay103 k0_pay102 k0_pay101 k0_pay100 k0_pay99 k0_pay98 k0_pay97 k0_pay96 k0_pay95 k0_pay94 k0_pay93 k0_pay92 k0_pay91 k0_pay90 k0_pay89 k0_pay88 k0_pay87 k0_pay86 k0_pay85 k0_pay84
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  refine View.canon_apply_of_pieces (qB (k0_pay10 (k0_pay2 x g w) ga wq) gn gr (k0_pay3 cs) (k0_pay4 sn) fiV) _ ?_ y (cover0_14 _ _ _ _ _ _ _ _ _ _ _ _ _ _ _ _ y)
  intro pc hpc
  rcases List.mem_cons.mp hpc with rfl | hpc
  · exact fun i => qb_22 _ _ _ _ _ _ i
  rcases List.mem_cons.mp hpc with rfl | hpc
  · exact fun i => qb_21 _ _ _ _ _ _ i
  rcases List.mem_cons.mp hpc with rfl | hpc
  · exact fun i => qb_20 _ _ _ _ _ _ i
  rcases List.mem_cons.mp hpc with rfl | hpc
  · exact fun i => qb_19 _ _ _ _ _ _ i
  rcases List.mem_cons.mp hpc with rfl | hpc
  · exact fun i => qb_18 _ _ _ _ _ _ i
  rcases List.mem_cons.mp hpc with rfl | hpc
  · exact fun i => qb_17 _ _ _ _ _ _ i
  rcases List.mem_cons.mp hpc with rfl | hpc
  · exact fun i => qb_16 _ _ _ _ _ _ i
  rcases List.mem_cons.mp hpc with rfl | hpc
  · exact fun i => qb_15 _ _ _ _ _ _ i
  rcases List.mem_cons.mp hpc with rfl | hpc
  · exact fun i => qb_14 _ _ _ _ _ _ i
  rcases List.mem_cons.mp hpc with rfl | hpc
  · exact fun i => qb_13 _ _ _ _ _ _ i
  rcases List.mem_cons.mp hpc with rfl | hpc
  · exact fun i => qb_12 _ _ _ _ _ _ i
  rcases List.mem_cons.mp hpc with rfl | hpc
  · exact fun i => qb_11 _ _ _ _ _ _ i
  rcases List.mem_cons.mp hpc with rfl | hpc
  · exact fun i => qb_10 _ _ _ _ _ _ i
  rcases List.mem_cons.mp hpc with rfl | hpc
  · exact fun i => qb_9 _ _ _ _ _ _ i
  rcases List.mem_cons.mp hpc with rfl | hpc
  · exact fun i => qb_8 _ _ _ _ _ _ i
  rcases List.mem_cons.mp hpc with rfl | hpc
  · exact fun i => qb_7 _ _ _ _ _ _ _ _ i
  nomatch hpc

/-- What the body leaves in its block of forgetting heads' queries. -/
theorem out0_18_eq (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (y : S256x1024.Idx) :
    out0_18 (F := Ideal) x g w ga wq gc gn gr gk gfq gfk bf cs sn y = fqB (k0_pay2 x g w) gfq y := by
  unfold out0_18 k0_pay84
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  refine View.canon_apply_of_pieces (fqB (k0_pay2 x g w) gfq) _ ?_ y (cover0_18 _ _ _ _ _ _ _ _ y)
  intro pc hpc
  rcases List.mem_cons.mp hpc with rfl | hpc
  · exact fun i => fq_31 _ _ i
  rcases List.mem_cons.mp hpc with rfl | hpc
  · exact fun i => fq_30 _ _ i
  rcases List.mem_cons.mp hpc with rfl | hpc
  · exact fun i => fq_29 _ _ i
  rcases List.mem_cons.mp hpc with rfl | hpc
  · exact fun i => fq_28 _ _ i
  rcases List.mem_cons.mp hpc with rfl | hpc
  · exact fun i => fq_27 _ _ i
  rcases List.mem_cons.mp hpc with rfl | hpc
  · exact fun i => fq_26 _ _ i
  rcases List.mem_cons.mp hpc with rfl | hpc
  · exact fun i => fq_25 _ _ i
  rcases List.mem_cons.mp hpc with rfl | hpc
  · exact fun i => fq_24 _ _ i
  nomatch hpc

/-- What the body leaves in its block of forgetting heads' keys. -/
theorem out0_19_eq (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (y : S256x256.Idx) :
    out0_19 (F := Ideal) x g w ga wq gc gn gr gk gfq gfk bf cs sn y = fkB (k0_pay2 x g w) gfk y := by
  unfold out0_19 k0_pay84
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  refine View.canon_apply_of_pieces (fkB (k0_pay2 x g w) gfk) _ ?_ y (cover0_19 _ _ y)
  intro pc hpc
  rcases List.mem_cons.mp hpc with rfl | hpc
  · exact fun i => fk_33 _ _ i
  rcases List.mem_cons.mp hpc with rfl | hpc
  · exact fun i => fk_32 _ _ i
  nomatch hpc

/-- What the body leaves in its block of compressed keys and values. -/
theorem out0_15_apply (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (r : Fin 256) (k : Fin 512) :
    out0_15 (F := Ideal) x g w ga wq gc gn gr gk gfq gfk bf cs sn (ix2 r k) = nrm (Ideal.ofBits FTy.f32 1140850688#32) (fun e : Fin 512 => k0_pay2 x g w (ix2 r ⟨512 + e.val, by omega⟩)) (fun e => gc (ix2 0 e)) k := by
  unfold out0_15 k0_pay84
  rw [View.canon_unit_zero (S := S256x512) hz]
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  generalize k0_pay2 x g w = Y
  pointwise [k0_pay58, k0_pay55, k0_pay56, k0_pay57]
  rfl

/-- What the body leaves in its block of rotated keys. -/
theorem out0_16_apply (xb : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (r : Fin 256) (k : Fin 64) :
    out0_16 (F := Ideal) xb g w ga wq gc gn gr gk gfq gfk bf cs sn (ix2 r k) = turned (fun x => k0_pay2 xb g w (ix2 r ⟨2560 + x.val, by omega⟩)) (fun x => gk (ix2 0 x)) (fun x => cs (ix2 r x)) (fun x => sn (ix2 r x)) (fun x => fiV (ix2 r x)) ⟨k.val, by omega⟩ := by
  unfold out0_16 k0_pay105 k0_pay104 k0_pay88 k0_pay87 k0_pay86 k0_pay85 k0_pay84
  rw [View.canon_unit_zero (S := S256x64) hz]
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  pointwise [k0_pay81, k0_pay80, k0_pay78, k0_pay79, k0_pay5, k0_pay3, k0_pay4]

/-- What the body leaves in its block of padded rotated keys. -/
theorem out0_17_apply (xb : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (r : Fin 256) (k : Fin 128) :
    out0_17 (F := Ideal) xb g w ga wq gc gn gr gk gfq gfk bf cs sn (ix2 r k) = if k.val < 64 then turned (fun x => k0_pay2 xb g w (ix2 r ⟨2560 + x.val, by omega⟩)) (fun x => gk (ix2 0 x)) (fun x => cs (ix2 r x)) (fun x => sn (ix2 r x)) (fun x => fiV (ix2 r x)) k else 0 := by
  unfold out0_17 k0_pay105 k0_pay104 k0_pay88 k0_pay87 k0_pay86 k0_pay85 k0_pay84
  rw [View.canon_unit_zero (S := S256x128) hz]
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  pointwise [k0_pay82, k0_pay80, k0_pay78, k0_pay79, k0_pay5, k0_pay3, k0_pay4]
  exact Pair.sel_lo _ k.isLt _ _

/-- What the body leaves in its block of forgetting heads' values. -/
theorem out0_20_apply (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (r : Fin 256) (k : Fin 256) :
    out0_20 (F := Ideal) x g w ga wq gc gn gr gk gfq gfk bf cs sn (ix2 r k) = k0_pay2 x g w (ix2 r ⟨2304 + k.val, by omega⟩) := by
  unfold out0_20 k0_pay84
  rw [View.canon_unit_zero (S := S256x256) hz]
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  generalize k0_pay2 x g w = Y
  pointwise [k0_pay77]

/-- What the body leaves in its block of gates. -/
theorem out0_21_apply (x : Vec Ideal S256x2048 .f32) (g : Vec Ideal S1x2048 .f32) (w : Vec Ideal S2048x2688 .bf16)
    (ga : Vec Ideal S1x512 .f32) (wq : Vec Ideal S512x1536 .bf16) (gc : Vec Ideal S1x512 .f32)
    (gn gr gk gfq gfk bf : Vec Ideal S1x128 .f32) (cs sn : Vec Ideal S256x128 .f32) (r : Fin 256) (k : Fin 8) :
    out0_21 (F := Ideal) x g w ga wq gc gn gr gk gfq gfk bf cs sn (ix2 r k) = min (k0_pay2 x g w (ix2 r ⟨2560 + (64 + k.val), by omega⟩) + bf (ix2 0 ⟨64 + k.val, by omega⟩)) 0 - Ideal.log (1 + Ideal.exp (0 - FloatOps.absf (F := Ideal) (φ := .f32) (k0_pay2 x g w (ix2 r ⟨2560 + (64 + k.val), by omega⟩) + bf (ix2 0 ⟨64 + k.val, by omega⟩)))) := by
  unfold out0_21 k0_pay104 k0_pay84
  rw [View.canon_unit_zero (S := S256x8) hz]
  simp only [View.ld_unit_zero (S := S256x2048) hz, View.ld_unit_zero (S := S1x2048) hz, View.ld_unit_zero (S := S2048x2688) hz,
    View.ld_unit_zero (S := S1x512) hz, View.ld_unit_zero (S := S512x1536) hz, View.ld_unit_zero (S := S1x128) hz,
    View.ld_unit_zero (S := S256x128) hz]
  generalize k0_pay2 x g w = Y
  pointwise [k0_pay1, k0_pay78, k0_pay83]

/-- One projection of the block. -/
theorem proj_apply (x : Vec Ideal S256x2048 .f32) (g : Vec Ideal S1x2048 .f32) (w : Vec Ideal S2048x2688 .bf16)
    (r : Fin 256) (k : Fin 2688) : k0_pay2 (F := Ideal) x g w (ix2 r k) =
      ∑ d, x (ix2 r d) * Ideal.rsqrt (Ideal.div (∑ e, x (ix2 r e) * x (ix2 r e)) (Ideal.ofBits FTy.f32 1157627904#32) +
        Ideal.ofBits FTy.f32 897988541#32) * g (ix2 0 d) * w (ix2 d k) := by
  pointwise [k0_pay2]

/-- One query of the block before its norm. -/
theorem up_apply (Y : FVec Ideal S256x2688 .f32) (ga : Vec Ideal S1x512 .f32) (wq : Vec Ideal S512x1536 .bf16)
    (r : Fin 256) (k : Fin 1536) : k0_pay10 (F := Ideal) Y ga wq (ix2 r k) =
      ∑ d, nrm (Ideal.ofBits FTy.f32 1140850688#32) (fun e : Fin 512 => Y (ix2 r ⟨e.val, by omega⟩)) (fun e => ga (ix2 0 e)) d *
        wq (ix2 d k) := by
  pointwise [k0_pay10, nrm]

end Cert.Kernel5Ideal.Ab

end
-- ==== Proof.AbValue.lean ====
module

public import proofs.«01_k».proof.Proof.AbIdealFrame
public import Idealize.ShloMosaic.Lib.Pipeline.Value

@[expose] public section

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 14).cut (grid0.coords t) ((dats m 0 c).after 14 t) = _
  rw [after0_14]

/-- The index map sends distinct grid points to distinct block indices (decided over the 36 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S9216x2048.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]

/-- The index map sends distinct grid points to distinct block indices (decided over the 36 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S9216x512.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 16).cut (grid0.coords t) ((dats m 0 c).after 16 t) = _
  rw [after0_16]

/-- The index map sends distinct grid points to distinct block indices (decided over the 36 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S9216x64.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 17).cut (grid0.coords t) ((dats m 0 c).after 17 t) = _
  rw [after0_17]

/-- The index map sends distinct grid points to distinct block indices (decided over the 36 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S9216x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 18).cut (grid0.coords t) ((dats m 0 c).after 18 t) = _
  rw [after0_18]

/-- The index map sends distinct grid points to distinct block indices (decided over the 36 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S9216x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 19).cut (grid0.coords t) ((dats m 0 c).after 19 t) = _
  rw [after0_19]

/-- The index map sends distinct grid points to distinct block indices (decided over the 36 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S9216x256.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 20).cut (grid0.coords t) ((dats m 0 c).after 20 t) = _
  rw [after0_20]

/-- The index map sends distinct grid points to distinct block indices (decided over the 36 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S9216x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 21).cut (grid0.coords t) ((dats m 0 c).after 21 t) = _
  rw [after0_21]

/-- The index map sends distinct grid points to distinct block indices (decided over the 36 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S9216x8.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v83_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v83_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v83_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v83_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v83_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v83_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v83_6) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v83_7) = (dats m 0 c).arrAt 21 cfg0.N :=
  (h c).1 21

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 263760 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v83_0) = (dats m 0 c).arrAt 14 cfg0.N
      ∧ r.2.mem ((c : Thread nD τ).loc main_v83_1) = (dats m 0 c).arrAt 15 cfg0.N
      ∧ r.2.mem ((c : Thread nD τ).loc main_v83_2) = (dats m 0 c).arrAt 16 cfg0.N
      ∧ r.2.mem ((c : Thread nD τ).loc main_v83_3) = (dats m 0 c).arrAt 17 cfg0.N
      ∧ r.2.mem ((c : Thread nD τ).loc main_v83_4) = (dats m 0 c).arrAt 18 cfg0.N
      ∧ r.2.mem ((c : Thread nD τ).loc main_v83_5) = (dats m 0 c).arrAt 19 cfg0.N
      ∧ r.2.mem ((c : Thread nD τ).loc main_v83_6) = (dats m 0 c).arrAt 20 cfg0.N
      ∧ r.2.mem ((c : Thread nD τ).loc main_v83_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel5Ideal.Value

end
-- ==== Proof.AbAlg.lean ====
module

public import proofs.«01_k».proof.Defs
public import proofs.«01_k».proof.Proof.AbHost
public import proofs.«01_k».proof.Proof.AbOpen
public import proofs.«01_k».proof.Proof.AbValue
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Kernel5Ideal.Ab

open Cert.Kernel5Ideal Cert.Kernel5Ideal.Gen
open Cert.Rope (nrm rope turned turned_eq)
open Cert.Reference5Ideal.Ab (prj qup)

variable (m : (ℓ : Loc nD τ sig) → Buf (Elt Ideal) ℓ)

/-- The row of the array that row `r` of point `t`'s block is. -/
def row (t : Fin cfg0.N) (r : Fin 256) : Fin 9216 :=
  ⟨t.val * 256 + r.val, by have := lt_of_lt_of_eq t.isLt (show cfg0.N = 36 from N_0); have := r.isLt; omega⟩

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = 0 ∧ win0_11.index t 1 = 0 :=
  (by decide +kernel : ∀ t : Fin grid0.N, _)
theorem idx12 : ∀ t : Fin cfg0.N, win0_12.index t 0 = t.val ∧ win0_12.index t 1 = 0 :=
  (by decide +kernel : ∀ t : Fin grid0.N, _)
theorem idx13 : ∀ t : Fin cfg0.N, win0_13.index t 0 = t.val ∧ win0_13.index t 1 = 0 :=
  (by decide +kernel : ∀ t : Fin grid0.N, _)
theorem idx14 : ∀ t : Fin cfg0.N, win0_14.index t 0 = t.val ∧ win0_14.index t 1 = 0 :=
  (by decide +kernel : ∀ t : Fin grid0.N, _)
theorem idx15 : ∀ t : Fin cfg0.N, win0_15.index t 0 = t.val ∧ win0_15.index t 1 = 0 :=
  (by decide +kernel : ∀ t : Fin grid0.N, _)
theorem idx16 : ∀ t : Fin cfg0.N, win0_16.index t 0 = t.val ∧ win0_16.index t 1 = 0 :=
  (by decide +kernel : ∀ t : Fin grid0.N, _)
theorem idx17 : ∀ t : Fin cfg0.N, win0_17.index t 0 = t.val ∧ win0_17.index t 1 = 0 :=
  (by decide +kernel : ∀ t : Fin grid0.N, _)
theorem idx18 : ∀ t : Fin cfg0.N, win0_18.index t 0 = t.val ∧ win0_18.index t 1 = 0 :=
  (by decide +kernel : ∀ t : Fin grid0.N, _)
theorem idx19 : ∀ t : Fin cfg0.N, win0_19.index t 0 = t.val ∧ win0_19.index t 1 = 0 :=
  (by decide +kernel : ∀ t : Fin grid0.N, _)
theorem idx20 : ∀ t : Fin cfg0.N, win0_20.index t 0 = t.val ∧ win0_20.index t 1 = 0 :=
  (by decide +kernel : ∀ t : Fin grid0.N, _)
theorem idx21 : ∀ t : Fin cfg0.N, win0_21.index t 0 = t.val ∧ win0_21.index t 1 = 0 :=
  (by decide +kernel : ∀ t : Fin grid0.N, _)

theorem blk0 (c : Dev nD) (t : Fin cfg0.N) (r : Fin 256) (d : Fin 2048) :
    (iblk m c 0 t : Vec Ideal S256x2048 .f32) (ix2 r d) = X m c (ix2 (row t r) d) := by
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [(idx0 t).1]; omega
  | ⟨1, _⟩ => show win0_0.index t 1 * 2048 + 1 * d.val = d.val; rw [(idx0 t).2]; omega

theorem blk1 (c : Dev nD) (t : Fin cfg0.N) (d : Fin 2048) :
    (iblk m c 1 t : Vec Ideal S1x2048 .f32) (ix2 0 d) = Gm m c (ix1 d) := by
  rw [← mix_apply]
  unfold iblk
  rw [View.read_apply]
  show V m c main_v58 _ = _
  congr 1
  funext a
  apply Fin.ext
  match a with
  | ⟨0, _⟩ => show win0_1.index t 0 * 1 + 1 * 0 = 0; rw [(idx1 t).1]
  | ⟨1, _⟩ => show win0_1.index t 1 * 2048 + 1 * d.val = d.val; rw [(idx1 t).2]; omega

theorem blk2 (c : Dev nD) (t : Fin cfg0.N) (r : Fin 2048) (d : Fin 2688) :
    (iblk m c 2 t : Vec Ideal S2048x2688 .bf16) (ix2 r d) = (V m c main_v39 : Vec Ideal S2048x2688 .bf16) (ix2 r d) := by
  unfold iblk
  rw [View.read_apply]
  show V m c main_v39 _ = _
  congr 1
  funext a
  apply Fin.ext
  match a with
  | ⟨0, _⟩ => show win0_2.index t 0 * 2048 + 1 * r.val = r.val; rw [(idx2 t).1]; omega
  | ⟨1, _⟩ => show win0_2.index t 1 * 2688 + 1 * d.val = d.val; rw [(idx2 t).2]; omega

theorem blk3 (c : Dev nD) (t : Fin cfg0.N) (d : Fin 512) :
    (iblk m c 3 t : Vec Ideal S1x512 .f32) (ix2 0 d) = Ga m c (ix1 d) := by
  rw [← ga_apply]
  unfold iblk
  rw [View.read_apply]
  show V m c main_v62 _ = _
  congr 1
  funext a
  apply Fin.ext
  match a with
  | ⟨0, _⟩ => show win0_3.index t 0 * 1 + 1 * 0 = 0; rw [(idx3 t).1]
  | ⟨1, _⟩ => show win0_3.index t 1 * 512 + 1 * d.val = d.val; rw [(idx3 t).2]; omega

theorem blk4 (c : Dev nD) (t : Fin cfg0.N) (r : Fin 512) (d : Fin 1536) :
    (iblk m c 4 t : Vec Ideal S512x1536 .bf16) (ix2 r d) = (V m c main_v46 : Vec Ideal S512x1536 .bf16) (ix2 r d) := by
  unfold iblk
  rw [View.read_apply]
  show V m c main_v46 _ = _
  congr 1
  funext a
  apply Fin.ext
  match a with
  | ⟨0, _⟩ => show win0_4.index t 0 * 512 + 1 * r.val = r.val; rw [(idx4 t).1]; omega
  | ⟨1, _⟩ => show win0_4.index t 1 * 1536 + 1 * d.val = d.val; rw [(idx4 t).2]; omega

theorem blk5 (c : Dev nD) (t : Fin cfg0.N) (d : Fin 512) :
    (iblk m c 5 t : Vec Ideal S1x512 .f32) (ix2 0 d) = Gc m c (ix1 d) := by
  rw [← gc_apply]
  unfold iblk
  rw [View.read_apply]
  show V m c main_v66 _ = _
  congr 1
  funext a
  apply Fin.ext
  match a with
  | ⟨0, _⟩ => show win0_5.index t 0 * 1 + 1 * 0 = 0; rw [(idx5 t).1]
  | ⟨1, _⟩ => show win0_5.index t 1 * 512 + 1 * d.val = d.val; rw [(idx5 t).2]; omega

theorem blk6 (c : Dev nD) (t : Fin cfg0.N) (d : Fin 128) :
    (iblk m c 6 t : Vec Ideal S1x128 .f32) (ix2 0 d) = Gn m c (ix1 d) := by
  rw [← gn_apply]
  unfold iblk
  rw [View.read_apply]
  show V m c main_v70 _ = _
  congr 1
  funext a
  apply Fin.ext
  match a with
  | ⟨0, _⟩ => show win0_6.index t 0 * 1 + 1 * 0 = 0; rw [(idx6 t).1]
  | ⟨1, _⟩ => show win0_6.index t 1 * 128 + 1 * d.val = d.val; rw [(idx6 t).2]; omega

theorem blk7 (c : Dev nD) (t : Fin cfg0.N) (d : Fin 128) :
    (iblk m c 7 t : Vec Ideal S1x128 .f32) (ix2 0 d) = Gr m c (ix1 ⟨d.val % 64, Nat.mod_lt _ (by decide)⟩) := by
  rw [← gr_apply]
  unfold iblk
  rw [View.read_apply]
  show V m c main_v74 _ = _
  congr 1
  funext a
  apply Fin.ext
  match a with
  | ⟨0, _⟩ => show win0_7.index t 0 * 1 + 1 * 0 = 0; rw [(idx7 t).1]
  | ⟨1, _⟩ => show win0_7.index t 1 * 128 + 1 * d.val = d.val; rw [(idx7 t).2]; omega

theorem blk8 (c : Dev nD) (t : Fin cfg0.N) (d : Fin 128) :
    (iblk m c 8 t : Vec Ideal S1x128 .f32) (ix2 0 d) = (V m c main_v54 : Vec Ideal S1x128 .f32) (ix2 0 d) := by
  unfold iblk
  rw [View.read_apply]
  show V m c main_v54 _ = _
  congr 1
  funext a
  apply Fin.ext
  match a with
  | ⟨0, _⟩ => show win0_8.index t 0 * 1 + 1 * 0 = 0; rw [(idx8 t).1]
  | ⟨1, _⟩ => show win0_8.index t 1 * 128 + 1 * d.val = d.val; rw [(idx8 t).2]; omega

theorem blk9 (c : Dev nD) (t : Fin cfg0.N) (d : Fin 128) :
    (iblk m c 9 t : Vec Ideal S1x128 .f32) (ix2 0 d) = Gfq m c (ix1 d) := by
  rw [← gfq_apply]
  unfold iblk
  rw [View.read_apply]
  show V m c main_v78 _ = _
  congr 1
  funext a
  apply Fin.ext
  match a with
  | ⟨0, _⟩ => show win0_9.index t 0 * 1 + 1 * 0 = 0; rw [(idx9 t).1]
  | ⟨1, _⟩ => show win0_9.index t 1 * 128 + 1 * d.val = d.val; rw [(idx9 t).2]; omega

theorem blk10 (c : Dev nD) (t : Fin cfg0.N) (d : Fin 128) :
    (iblk m c 10 t : Vec Ideal S1x128 .f32) (ix2 0 d) = Gfk m c (ix1 d) := by
  rw [← gfk_apply]
  unfold iblk
  rw [View.read_apply]
  show V m c main_v82 _ = _
  congr 1
  funext a
  apply Fin.ext
  match a with
  | ⟨0, _⟩ => show win0_10.index t 0 * 1 + 1 * 0 = 0; rw [(idx10 t).1]
  | ⟨1, _⟩ => show win0_10.index t 1 * 128 + 1 * d.val = d.val; rw [(idx10 t).2]; omega

theorem blk11 (c : Dev nD) (t : Fin cfg0.N) (d : Fin 128) :
    (iblk m c 11 t : Vec Ideal S1x128 .f32) (ix2 0 d) = (V m c main_v51 : Vec Ideal S1x128 .f32) (ix2 0 d) := by
  unfold iblk
  rw [View.read_apply]
  show V m c main_v51 _ = _
  congr 1
  funext a
  apply Fin.ext
  match a with
  | ⟨0, _⟩ => show win0_11.index t 0 * 1 + 1 * 0 = 0; rw [(idx11 t).1]
  | ⟨1, _⟩ => show win0_11.index t 1 * 128 + 1 * d.val = d.val; rw [(idx11 t).2]; omega

theorem blk12 (c : Dev nD) (t : Fin cfg0.N) (r : Fin 256) (d : Fin 128) :
    (iblk m c 12 t : Vec Ideal S256x128 .f32) (ix2 r d) = (V m c main_v27 : Vec Ideal S9216x128 .f32) (ix2 (row t r) d) := by
  unfold iblk
  rw [View.read_apply]
  show V m c main_v27 _ = _
  congr 1
  funext a
  apply Fin.ext
  match a with
  | ⟨0, _⟩ => show win0_12.index t 0 * 256 + 1 * r.val = t.val * 256 + r.val; rw [(idx12 t).1]; omega
  | ⟨1, _⟩ => show win0_12.index t 1 * 128 + 1 * d.val = d.val; rw [(idx12 t).2]; omega

theorem blk13 (c : Dev nD) (t : Fin cfg0.N) (r : Fin 256) (d : Fin 128) :
    (iblk m c 13 t : Vec Ideal S256x128 .f32) (ix2 r d) = (V m c main_v32 : Vec Ideal S9216x128 .f32) (ix2 (row t r) d) := by
  unfold iblk
  rw [View.read_apply]
  show V m c main_v32 _ = _
  congr 1
  funext a
  apply Fin.ext
  match a with
  | ⟨0, _⟩ => show win0_13.index t 0 * 256 + 1 * r.val = t.val * 256 + r.val; rw [(idx13 t).1]; omega
  | ⟨1, _⟩ => show win0_13.index t 1 * 128 + 1 * d.val = d.val; rw [(idx13 t).2]; omega

/-- The projections of point `t`'s block. -/
abbrev Yt (c : Dev nD) (t : Fin cfg0.N) : FVec Ideal S256x2688 .f32 :=
  k0_pay2 (F := Ideal) (iblk m c 0 t) (iblk m c 1 t) (iblk m c 2 t)

/-- The upward projections of point `t`'s block. -/
abbrev Qt (c : Dev nD) (t : Fin cfg0.N) : FVec Ideal S256x1536 .f32 :=
  k0_pay10 (F := Ideal) (Yt m c t) (iblk m c 3 t) (iblk m c 4 t)

/-- Row `r` of the reference's projections. -/
abbrev P (c : Dev nD) (r : Fin 9216) : Fin 2632 → EReal := prj (X m c) (Gm m c) (W m c) r

theorem win_col (c : Dev nD) (d : Fin 2048) (k : Fin 2688) (k' : Fin 2632)
    (h : k.val < 1024 ∧ k'.val = k.val ∨ 1024 ≤ k.val ∧ k.val < 2560 ∧ k'.val = k.val + 64 ∨
      2560 ≤ k.val ∧ k.val < 2624 ∧ k'.val + 1536 = k.val ∨ 2624 ≤ k.val ∧ k'.val = k.val) :
    (V m c main_v39 : Vec Ideal S2048x2688 .bf16) (ix2 d k) = W m c (ix2 d k') := by
  have hk' := k'.isLt
  have e := win_apply m c d ⟨k.val, by omega⟩
  refine e.trans ?_
  dsimp only
  split_ifs <;> exact congrArg (fun z => W m c (ix2 d z)) (Fin.ext (by dsimp only; omega))

/-- One projection of a block is the array's. -/
theorem y_blk (c : Dev nD) (t : Fin cfg0.N) (r : Fin 256) (k : Fin 2688) (k' : Fin 2632)
    (h : k.val < 1024 ∧ k'.val = k.val ∨ 1024 ≤ k.val ∧ k.val < 2560 ∧ k'.val = k.val + 64 ∨
      2560 ≤ k.val ∧ k.val < 2624 ∧ k'.val + 1536 = k.val ∨ 2624 ≤ k.val ∧ k'.val = k.val) :
    Yt m c t (ix2 r k) = P m c (row t r) k' := by
  refine (proj_apply _ _ _ r k).trans ?_
  unfold P prj
  simp only [blk0, blk1, blk2, win_col m c _ k k' h]

theorem wqu_col (c : Dev nD) (d : Fin 512) (k k' : Fin 1536)
    (h : k.val < 1024 ∧ k'.val = k.val / 128 * 192 + k.val % 128 ∨
      1024 ≤ k.val ∧ k'.val = (k.val - 1024) / 64 * 192 + (128 + (k.val - 1024) % 64)) :
    (V m c main_v46 : Vec Ideal S512x1536 .bf16) (ix2 d k) = U m c (ix2 d k') := by
  refine (wqu_apply m c d k).trans ?_
  split_ifs <;> exact congrArg (fun z => U m c (ix2 d z)) (Fin.ext (by dsimp only; omega))

/-- One upward projection of a block is the array's. -/
theorem q_blk (c : Dev nD) (t : Fin cfg0.N) (r : Fin 256) (k k' : Fin 1536)
    (h : k.val < 1024 ∧ k'.val = k.val / 128 * 192 + k.val % 128 ∨
      1024 ≤ k.val ∧ k'.val = (k.val - 1024) / 64 * 192 + (128 + (k.val - 1024) % 64)) :
    Qt m c t (ix2 r k) = qup (P m c (row t r)) (Ga m c) (U m c) k' := by
  refine (up_apply _ _ _ r k).trans ?_
  unfold qup
  have e1 : (fun e : Fin 512 => Yt m c t (ix2 r ⟨e.val, by omega⟩)) = fun e : Fin 512 => P m c (row t r) ⟨e.val, by omega⟩ :=
    funext fun e => y_blk m c t r _ _ (Or.inl ⟨by dsimp only; omega, rfl⟩)
  have e2 : (fun e : Fin 512 => (iblk m c 3 t : Vec Ideal S1x512 .f32) (ix2 0 e)) = fun e => Ga m c (ix1 e) :=
    funext fun e => blk3 m c t e
  rw [e1, e2]
  simp only [blk4, wqu_col m c _ k k' h]

/-- The cosines of the rows of point `t`'s block. -/
theorem cos_blk (c : Dev nD) (t : Fin cfg0.N) (r : Fin 256) (l : Fin 128) :
    (k0_pay3 (F := Ideal) (iblk m c 12 t)) (ix2 r l) =
      Reference5Ideal.Read.val_main_v44 (F := Ideal) (ix2 (row t r) ⟨l.val % 32, Nat.mod_lt _ (by decide)⟩) := by
  have h : ∀ v : Vec Ideal S256x128 .f32, k0_pay3 (F := Ideal) v (ix2 r l) = v (ix2 r l) := fun v => by pointwise [k0_pay3]
  rw [h, blk12, cos_apply]

/-- The sines of the rows of point `t`'s block. -/
theorem sin_blk (c : Dev nD) (t : Fin cfg0.N) (r : Fin 256) (l : Fin 128) :
    (k0_pay4 (F := Ideal) (iblk m c 13 t)) (ix2 r l) =
      if l.val % 64 < 32 then -Reference5Ideal.Read.val_main_v45 (F := Ideal) (ix2 (row t r) ⟨l.val % 32, Nat.mod_lt _ (by decide)⟩)
      else Reference5Ideal.Read.val_main_v45 (F := Ideal) (ix2 (row t r) ⟨l.val % 32, Nat.mod_lt _ (by decide)⟩) := by
  have h : ∀ v : Vec Ideal S256x128 .f32, k0_pay4 (F := Ideal) v (ix2 r l) = v (ix2 r l) := fun v => by pointwise [k0_pay4]
  rw [h, blk13, sin_apply]

/-- An entry of result 0 after the run is the entry of the block that holds its row. -/
theorem arr14 (c : Dev nD) (r : Fin 9216) (k : Fin 2048) : ∃ (t : Fin cfg0.N) (s : Fin 256), row t s = r ∧
    ((dats m 0 c).arrAt 14 cfg0.N : Vec Ideal S9216x2048 .bf16) (ix2 r k) =
      out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks14 m c ⟨r.val / 256, ht⟩ (flush0_14 _)) (ix2 (⟨r.val % 256, Nat.mod_lt _ (by decide)⟩ : Fin 256) k)
  rw [Value.flushed14] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_14.index ⟨r.val / 256, ht⟩ 0 * 256 + 1 * (r.val % 256); rw [(idx14 _).1]; dsimp only; omega
    | ⟨1, _⟩ => show k.val = win0_14.index ⟨r.val / 256, ht⟩ 1 * 2048 + 1 * k.val; rw [(idx14 _).2]; omega

/-- An entry of result 1 after the run is the entry of the block that holds its row. -/
theorem arr15 (c : Dev nD) (r : Fin 9216) (k : Fin 512) : ∃ (t : Fin cfg0.N) (s : Fin 256), row t s = r ∧
    ((dats m 0 c).arrAt 15 cfg0.N : Vec Ideal S9216x512 .f32) (ix2 r k) =
      out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks15 m c ⟨r.val / 256, ht⟩ (flush0_15 _)) (ix2 (⟨r.val % 256, Nat.mod_lt _ (by decide)⟩ : Fin 256) k)
  rw [Value.flushed15] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_15.index ⟨r.val / 256, ht⟩ 0 * 256 + 1 * (r.val % 256); rw [(idx15 _).1]; dsimp only; omega
    | ⟨1, _⟩ => show k.val = win0_15.index ⟨r.val / 256, ht⟩ 1 * 512 + 1 * k.val; rw [(idx15 _).2]; omega

/-- An entry of result 2 after the run is the entry of the block that holds its row. -/
theorem arr16 (c : Dev nD) (r : Fin 9216) (k : Fin 64) : ∃ (t : Fin cfg0.N) (s : Fin 256), row t s = r ∧
    ((dats m 0 c).arrAt 16 cfg0.N : Vec Ideal S9216x64 .f32) (ix2 r k) =
      out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks16 m c ⟨r.val / 256, ht⟩ (flush0_16 _)) (ix2 (⟨r.val % 256, Nat.mod_lt _ (by decide)⟩ : Fin 256) k)
  rw [Value.flushed16] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_16.index ⟨r.val / 256, ht⟩ 0 * 256 + 1 * (r.val % 256); rw [(idx16 _).1]; dsimp only; omega
    | ⟨1, _⟩ => show k.val = win0_16.index ⟨r.val / 256, ht⟩ 1 * 64 + 1 * k.val; rw [(idx16 _).2]; omega

/-- An entry of result 3 after the run is the entry of the block that holds its row. -/
theorem arr17 (c : Dev nD) (r : Fin 9216) (k : Fin 128) : ∃ (t : Fin cfg0.N) (s : Fin 256), row t s = r ∧
    ((dats m 0 c).arrAt 17 cfg0.N : Vec Ideal S9216x128 .bf16) (ix2 r k) =
      out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks17 m c ⟨r.val / 256, ht⟩ (flush0_17 _)) (ix2 (⟨r.val % 256, Nat.mod_lt _ (by decide)⟩ : Fin 256) k)
  rw [Value.flushed17] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_17.index ⟨r.val / 256, ht⟩ 0 * 256 + 1 * (r.val % 256); rw [(idx17 _).1]; dsimp only; omega
    | ⟨1, _⟩ => show k.val = win0_17.index ⟨r.val / 256, ht⟩ 1 * 128 + 1 * k.val; rw [(idx17 _).2]; omega

/-- An entry of result 4 after the run is the entry of the block that holds its row. -/
theorem arr18 (c : Dev nD) (r : Fin 9216) (k : Fin 1024) : ∃ (t : Fin cfg0.N) (s : Fin 256), row t s = r ∧
    ((dats m 0 c).arrAt 18 cfg0.N : Vec Ideal S9216x1024 .bf16) (ix2 r k) =
      out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks18 m c ⟨r.val / 256, ht⟩ (flush0_18 _)) (ix2 (⟨r.val % 256, Nat.mod_lt _ (by decide)⟩ : Fin 256) k)
  rw [Value.flushed18] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_18.index ⟨r.val / 256, ht⟩ 0 * 256 + 1 * (r.val % 256); rw [(idx18 _).1]; dsimp only; omega
    | ⟨1, _⟩ => show k.val = win0_18.index ⟨r.val / 256, ht⟩ 1 * 1024 + 1 * k.val; rw [(idx18 _).2]; omega

/-- An entry of result 5 after the run is the entry of the block that holds its row. -/
theorem arr19 (c : Dev nD) (r : Fin 9216) (k : Fin 256) : ∃ (t : Fin cfg0.N) (s : Fin 256), row t s = r ∧
    ((dats m 0 c).arrAt 19 cfg0.N : Vec Ideal S9216x256 .f32) (ix2 r k) =
      out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks19 m c ⟨r.val / 256, ht⟩ (flush0_19 _)) (ix2 (⟨r.val % 256, Nat.mod_lt _ (by decide)⟩ : Fin 256) k)
  rw [Value.flushed19] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_19.index ⟨r.val / 256, ht⟩ 0 * 256 + 1 * (r.val % 256); rw [(idx19 _).1]; dsimp only; omega
    | ⟨1, _⟩ => show k.val = win0_19.index ⟨r.val / 256, ht⟩ 1 * 256 + 1 * k.val; rw [(idx19 _).2]; omega

/-- An entry of result 6 after the run is the entry of the block that holds its row. -/
theorem arr20 (c : Dev nD) (r : Fin 9216) (k : Fin 256) : ∃ (t : Fin cfg0.N) (s : Fin 256), row t s = r ∧
    ((dats m 0 c).arrAt 20 cfg0.N : Vec Ideal S9216x256 .f32) (ix2 r k) =
      out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks20 m c ⟨r.val / 256, ht⟩ (flush0_20 _)) (ix2 (⟨r.val % 256, Nat.mod_lt _ (by decide)⟩ : Fin 256) k)
  rw [Value.flushed20] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_20.index ⟨r.val / 256, ht⟩ 0 * 256 + 1 * (r.val % 256); rw [(idx20 _).1]; dsimp only; omega
    | ⟨1, _⟩ => show k.val = win0_20.index ⟨r.val / 256, ht⟩ 1 * 256 + 1 * k.val; rw [(idx20 _).2]; omega

/-- An entry of result 7 after the run is the entry of the block that holds its row. -/
theorem arr21 (c : Dev nD) (r : Fin 9216) (k : Fin 8) : ∃ (t : Fin cfg0.N) (s : Fin 256), row t s = r ∧
    ((dats m 0 c).arrAt 21 cfg0.N : Vec Ideal S9216x8 .f32) (ix2 r k) =
      out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 s k) := by
  have hr := r.isLt
  have ht : r.val / 256 < cfg0.N := by rw [show cfg0.N = 36 from N_0]; omega
  have h := congrFun (Value.blocks21 m c ⟨r.val / 256, ht⟩ (flush0_21 _)) (ix2 (⟨r.val % 256, Nat.mod_lt _ (by decide)⟩ : Fin 256) k)
  rw [Value.flushed21] at h
  refine ⟨⟨r.val / 256, ht⟩, ⟨r.val % 256, Nat.mod_lt _ (by decide)⟩, ?_, Eq.trans ?_ h⟩
  · apply Fin.ext; show r.val / 256 * 256 + r.val % 256 = r.val; omega
  · rw [View.read_apply]
    congr 1
    funext a
    apply Fin.ext
    match a with
    | ⟨0, _⟩ => show r.val = win0_21.index ⟨r.val / 256, ht⟩ 0 * 256 + 1 * (r.val % 256); rw [(idx21 _).1]; dsimp only; omega
    | ⟨1, _⟩ => show k.val = win0_21.index ⟨r.val / 256, ht⟩ 1 * 8 + 1 * k.val; rw [(idx21 _).2]; omega

/-- The queries after the run, at an index. -/
theorem result14 (c : Dev nD) (r : Fin 9216) (k : Fin 2048) :
    ((dats m 0 c).arrAt 14 cfg0.N : Vec Ideal S9216x2048 .bf16) (ix2 r k) =
      if h : k.val % 256 < 128 then
        nrm (Ideal.ofBits FTy.f32 1124073472#32) (fun e : Fin 128 => qup (P m c r) (Ga m c) (U m c) ⟨k.val / 256 * 192 + e.val, by omega⟩)
          (fun e => Gn m c (ix1 e)) ⟨k.val % 256, h⟩ * Ideal.ofBits FTy.f32 1033096506#32
      else if h : k.val % 256 - 128 < 64 then
        rope (nrm (Ideal.ofBits FTy.f32 1115684864#32) (fun e : Fin 64 => qup (P m c r) (Ga m c) (U m c) ⟨k.val / 256 * 192 + (128 + e.val), by omega⟩) (fun e => Gr m c (ix1 e))) (fun i => Reference5Ideal.Read.val_main_v44 (F := Ideal) (ix2 r i)) (fun i => Reference5Ideal.Read.val_main_v45 (F := Ideal) (ix2 r i)) ⟨k.val % 256 - 128, h⟩ * Ideal.ofBits FTy.f32 1033096506#32
      else 0 := by
  obtain ⟨t, s, hs, e⟩ := arr14 m c r k
  refine e.trans ((out0_14_eq _ _ _ _ _ _ _ _ _ _ _ _ _ _ _).trans ?_)
  show qAt (Qt m c t) (iblk m c 6 t) (iblk m c 7 t) (k0_pay3 (iblk m c 12 t)) (k0_pay4 (iblk m c 13 t)) fiV s k = _
  unfold qAt
  refine dite_congr rfl (fun h => ?_) fun h => dite_congr rfl (fun h2 => ?_) fun _ => rfl
  · have e1 : (fun e : Fin 128 => Qt m c t (ix2 s ⟨k.val / 256 * 128 + e.val, by omega⟩)) =
        fun e : Fin 128 => qup (P m c r) (Ga m c) (U m c) ⟨k.val / 256 * 192 + e.val, by omega⟩ := funext fun e => by
      rw [← hs]
      exact q_blk m c t s _ _ (Or.inl ⟨by dsimp only; omega, by dsimp only; omega⟩)
    have e2 : (fun e : Fin 128 => (iblk m c 6 t : Vec Ideal S1x128 .f32) (ix2 0 e)) = fun e => Gn m c (ix1 e) :=
      funext fun e => blk6 m c t e
    rw [e1, e2]
  · refine congrArg (· * Ideal.ofBits FTy.f32 1033096506#32) ?_
    refine (turned_eq _ _ _ _ _ (fun i => Reference5Ideal.Read.val_main_v44 (F := Ideal) (ix2 (row t s) i)) (fun i => Reference5Ideal.Read.val_main_v45 (F := Ideal) (ix2 (row t s) i)) (fun e => Gr m c (ix1 e))
      (fun l => fi_apply s l) (fun l => cos_blk m c t s l) (fun l => sin_blk m c t s l) (k.val / 256 % 2) (by omega)
      ⟨k.val % 256 - 128, h2⟩ _ rfl (fun x => ?_)).trans ?_
    · refine (blk7 m c t _).trans (congrArg (fun z => Gr m c (ix1 z)) (Fin.ext ?_))
      show (k.val / 256 % 2 * 64 + x.val) % 64 = x.val
      omega
    · rw [hs]
      refine congrArg (fun f : Fin 64 → EReal => rope (nrm (Ideal.ofBits FTy.f32 1115684864#32) f (fun e => Gr m c (ix1 e))) (fun i => Reference5Ideal.Read.val_main_v44 (F := Ideal) (ix2 r i)) (fun i => Reference5Ideal.Read.val_main_v45 (F := Ideal) (ix2 r i)) ⟨k.val % 256 - 128, h2⟩) (funext fun x => ?_)
      rw [← hs]
      exact q_blk m c t s _ _ (Or.inr ⟨by dsimp only; omega, by dsimp only; omega⟩)

/-- The compressed keys and values after the run, at an index. -/
theorem result15 (c : Dev nD) (r : Fin 9216) (k : Fin 512) :
    ((dats m 0 c).arrAt 15 cfg0.N : Vec Ideal S9216x512 .f32) (ix2 r k) =
      nrm (Ideal.ofBits FTy.f32 1140850688#32) (fun e : Fin 512 => P m c r ⟨512 + e.val, by omega⟩) (fun e => Gc m c (ix1 e)) k := by
  obtain ⟨t, s, hs, e⟩ := arr15 m c r k
  refine e.trans ((out0_15_apply _ _ _ _ _ _ _ _ _ _ _ _ _ _ s k).trans ?_)
  have e1 : (fun e : Fin 512 => Yt m c t (ix2 s ⟨512 + e.val, by omega⟩)) = fun e : Fin 512 => P m c r ⟨512 + e.val, by omega⟩ :=
    funext fun e => by
      rw [← hs]
      exact y_blk m c t s _ _ (Or.inl ⟨by dsimp only; omega, rfl⟩)
  have e2 : (fun e : Fin 512 => (iblk m c 5 t : Vec Ideal S1x512 .f32) (ix2 0 e)) = fun e => Gc m c (ix1 e) :=
    funext fun e => blk5 m c t e
  rw [e1, e2]

/-- The rotated key of a block's row. -/
theorem key_blk (c : Dev nD) (t : Fin cfg0.N) (s : Fin 256) (r : Fin 9216) (hs : row t s = r) (k : Fin 64) (l : Fin 128) (hl : l.val = k.val) :
    turned (fun x => Yt m c t (ix2 s ⟨2560 + x.val, by omega⟩)) (fun x => (iblk m c 8 t : Vec Ideal S1x128 .f32) (ix2 0 x))
      (fun x => (iblk m c 12 t : Vec Ideal S256x128 .f32) (ix2 s x)) (fun x => (iblk m c 13 t : Vec Ideal S256x128 .f32) (ix2 s x))
      (fun x => fiV (ix2 s x)) l =
      rope (nrm (Ideal.ofBits FTy.f32 1115684864#32) (fun e : Fin 64 => P m c r ⟨1024 + e.val, by omega⟩) (fun e => Gk m c (ix1 e))) (fun i => Reference5Ideal.Read.val_main_v44 (F := Ideal) (ix2 r i)) (fun i => Reference5Ideal.Read.val_main_v45 (F := Ideal) (ix2 r i)) k := by
  refine (turned_eq _ _ _ _ _ (fun i => Reference5Ideal.Read.val_main_v44 (F := Ideal) (ix2 (row t s) i)) (fun i => Reference5Ideal.Read.val_main_v45 (F := Ideal) (ix2 (row t s) i)) (fun e => Gk m c (ix1 e))
    (fun l => fi_apply s l) (fun l => (blk12 m c t s l).trans (cos_apply m c _ l)) (fun l => (blk13 m c t s l).trans (sin_apply m c _ l))
    0 (by decide) k l (by omega) (fun x => ?_)).trans ?_
  · refine (blk8 m c t _).trans (Eq.trans ?_ (gk_apply m c x))
    exact congrArg (fun z => (V m c main_v54 : Vec Ideal S1x128 .f32) (ix2 0 z)) (Fin.ext (by dsimp only; omega))
  · rw [hs]
    refine congrArg (fun f : Fin 64 → EReal => rope (nrm (Ideal.ofBits FTy.f32 1115684864#32) f (fun e => Gk m c (ix1 e))) (fun i => Reference5Ideal.Read.val_main_v44 (F := Ideal) (ix2 r i)) (fun i => Reference5Ideal.Read.val_main_v45 (F := Ideal) (ix2 r i)) k) (funext fun x => ?_)
    rw [← hs]
    exact y_blk m c t s _ _ (Or.inr (Or.inr (Or.inl ⟨by dsimp only; omega, by dsimp only; omega, by dsimp only; omega⟩)))

/-- The rotated keys after the run, at an index. -/
theorem result16 (c : Dev nD) (r : Fin 9216) (k : Fin 64) :
    ((dats m 0 c).arrAt 16 cfg0.N : Vec Ideal S9216x64 .f32) (ix2 r k) =
      rope (nrm (Ideal.ofBits FTy.f32 1115684864#32) (fun e : Fin 64 => P m c r ⟨1024 + e.val, by omega⟩) (fun e => Gk m c (ix1 e))) (fun i => Reference5Ideal.Read.val_main_v44 (F := Ideal) (ix2 r i)) (fun i => Reference5Ideal.Read.val_main_v45 (F := Ideal) (ix2 r i)) k := by
  obtain ⟨t, s, hs, e⟩ := arr16 m c r k
  exact e.trans ((out0_16_apply _ _ _ _ _ _ _ _ _ _ _ _ _ _ s k).trans (key_blk m c t s r hs k _ rfl))

/-- The padded rotated keys after the run, at an index. -/
theorem result17 (c : Dev nD) (r : Fin 9216) (k : Fin 128) :
    ((dats m 0 c).arrAt 17 cfg0.N : Vec Ideal S9216x128 .bf16) (ix2 r k) =
      if h : k.val < 64 then rope (nrm (Ideal.ofBits FTy.f32 1115684864#32) (fun e : Fin 64 => P m c r ⟨1024 + e.val, by omega⟩) (fun e => Gk m c (ix1 e))) (fun i => Reference5Ideal.Read.val_main_v44 (F := Ideal) (ix2 r i)) (fun i => Reference5Ideal.Read.val_main_v45 (F := Ideal) (ix2 r i)) ⟨k.val, h⟩ else 0 := by
  obtain ⟨t, s, hs, e⟩ := arr17 m c r k
  refine e.trans ((out0_17_apply _ _ _ _ _ _ _ _ _ _ _ _ _ _ s k).trans ?_)
  by_cases h : k.val < 64
  · rw [if_pos h, dif_pos h]
    exact key_blk m c t s r hs ⟨k.val, h⟩ k rfl
  · rw [if_neg h, dif_neg h]

/-- The forgetting heads' queries after the run, at an index. -/
theorem result18 (c : Dev nD) (r : Fin 9216) (k : Fin 1024) :
    ((dats m 0 c).arrAt 18 cfg0.N : Vec Ideal S9216x1024 .bf16) (ix2 r k) =
      nrm (Ideal.ofBits FTy.f32 1124073472#32) (fun e : Fin 128 => P m c r ⟨1088 + (k.val / 128 * 128 + e.val), by omega⟩)
        (fun e => Gfq m c (ix1 e)) ⟨k.val % 128, Nat.mod_lt _ (by decide)⟩ * Ideal.ofBits FTy.f32 1035273459#32 := by
  obtain ⟨t, s, hs, e⟩ := arr18 m c r k
  refine e.trans ((out0_18_eq _ _ _ _ _ _ _ _ _ _ _ _ _ _ _).trans ?_)
  show fAt (Yt m c t) (iblk m c 9 t) 1024 8 (by decide) s k * Ideal.ofBits FTy.f32 1035273459#32 = _
  unfold fAt
  have e1 : (fun e : Fin 128 => Yt m c t (ix2 s ⟨1024 + (k.val / 128 * 128 + e.val), by omega⟩)) =
      fun e : Fin 128 => P m c r ⟨1088 + (k.val / 128 * 128 + e.val), by omega⟩ := funext fun e => by
    rw [← hs]
    exact y_blk m c t s _ _ (Or.inr (Or.inl ⟨by dsimp only; omega, by dsimp only; omega, by dsimp only; omega⟩))
  have e2 : (fun e : Fin 128 => (iblk m c 9 t : Vec Ideal S1x128 .f32) (ix2 0 e)) = fun e => Gfq m c (ix1 e) :=
    funext fun e => blk9 m c t e
  rw [e1, e2]

/-- The forgetting heads' keys after the run, at an index. -/
theorem result19 (c : Dev nD) (r : Fin 9216) (k : Fin 256) :
    ((dats m 0 c).arrAt 19 cfg0.N : Vec Ideal S9216x256 .f32) (ix2 r k) =
      nrm (Ideal.ofBits FTy.f32 1124073472#32) (fun e : Fin 128 => P m c r ⟨2112 + (k.val / 128 * 128 + e.val), by omega⟩)
        (fun e => Gfk m c (ix1 e)) ⟨k.val % 128, Nat.mod_lt _ (by decide)⟩ := by
  obtain ⟨t, s, hs, e⟩ := arr19 m c r k
  refine e.trans ((out0_19_eq _ _ _ _ _ _ _ _ _ _ _ _ _ _ _).trans ?_)
  show fAt (Yt m c t) (iblk m c 10 t) 2048 2 (by decide) s k = _
  unfold fAt
  have e1 : (fun e : Fin 128 => Yt m c t (ix2 s ⟨2048 + (k.val / 128 * 128 + e.val), by omega⟩)) =
      fun e : Fin 128 => P m c r ⟨2112 + (k.val / 128 * 128 + e.val), by omega⟩ := funext fun e => by
    rw [← hs]
    exact y_blk m c t s _ _ (Or.inr (Or.inl ⟨by dsimp only; omega, by dsimp only; omega, by dsimp only; omega⟩))
  have e2 : (fun e : Fin 128 => (iblk m c 10 t : Vec Ideal S1x128 .f32) (ix2 0 e)) = fun e => Gfk m c (ix1 e) :=
    funext fun e => blk10 m c t e
  rw [e1, e2]

/-- The forgetting heads' values after the run, at an index. -/
theorem result20 (c : Dev nD) (r : Fin 9216) (k : Fin 256) :
    ((dats m 0 c).arrAt 20 cfg0.N : Vec Ideal S9216x256 .f32) (ix2 r k) = P m c r ⟨2368 + k.val, by omega⟩ := by
  obtain ⟨t, s, hs, e⟩ := arr20 m c r k
  refine e.trans ((out0_20_apply _ _ _ _ _ _ _ _ _ _ _ _ _ _ s k).trans ?_)
  rw [← hs]
  exact y_blk m c t s _ _ (Or.inr (Or.inl ⟨by dsimp only; omega, by dsimp only; omega, by dsimp only; omega⟩))

/-- The kernel's form of the logarithm of the logistic function is the reference's. -/
theorem lsig (z : EReal) : min z 0 - Ideal.log (1 + Ideal.exp (0 - FloatOps.absf (F := Ideal) (φ := .f32) z)) =
    -(max (-z) 0 + Ideal.log1p (Ideal.exp (-FloatOps.absf (F := Ideal) (φ := .f32) (-z)))) := by
  have ha : (FloatOps.absf (F := Ideal) (φ := .f32) (-z) : EReal) = FloatOps.absf (F := Ideal) (φ := .f32) z := by
    show max (-z) (-(-z)) = max z (-z)
    rw [neg_neg, max_comm]
  have hexp : ∀ w : EReal, 0 ≤ Ideal.exp w := fun w => by
    induction w with
    | bot => exact le_refl _
    | top => exact le_top
    | coe x => exact EReal.coe_nonneg.2 (Real.exp_pos x).le
  have hlog : ∀ w : EReal, 0 ≤ w → Ideal.log (1 + w) ≠ ⊥ := fun w hw => by
    induction w with
    | bot => exact absurd hw (by simp)
    | top => rw [show (1 : EReal) + ⊤ = ⊤ from rfl]; exact top_ne_bot
    | coe x =>
      have hx : 0 ≤ x := EReal.coe_nonneg.1 hw
      show (if 1 + x ≤ 0 then ⊥ else (Real.log (1 + x) : EReal)) ≠ ⊥
      rw [if_neg (by linarith)]
      exact EReal.coe_ne_bot _
  have hm : (max (-z) 0 : EReal) ≠ ⊥ := fun h => by
    have := le_max_right (-z) (0 : EReal)
    rw [h] at this
    exact absurd this (by simp)
  rw [ha, zero_sub]
  show _ = -(max (-z) 0 + Ideal.log (1 + Ideal.exp (-FloatOps.absf (F := Ideal) (φ := .f32) z)))
  rw [EReal.neg_add (Or.inl hm) (Or.inr (hlog _ (hexp _)))]
  congr 1
  rcases le_total z 0 with h | h
  · rw [min_eq_left h, max_eq_left (EReal.neg_nonneg.2 h), neg_neg]
  · rw [min_eq_right h, max_eq_right ((EReal.neg_le_neg_iff.2 h).trans_eq neg_zero), neg_zero]

/-- The gates after the run, at an index. -/
theorem result21 (c : Dev nD) (r : Fin 9216) (k : Fin 8) :
    ((dats m 0 c).arrAt 21 cfg0.N : Vec Ideal S9216x8 .f32) (ix2 r k) =
      -(max (-(P m c r ⟨2624 + k.val, by omega⟩ + B m c (ix1 k))) 0 +
        Ideal.log1p (Ideal.exp (-FloatOps.absf (F := Ideal) (φ := .f32) (-(P m c r ⟨2624 + k.val, by omega⟩ + B m c (ix1 k)))))) := by
  obtain ⟨t, s, hs, e⟩ := arr21 m c r k
  refine e.trans ((out0_21_apply _ _ _ _ _ _ _ _ _ _ _ _ _ _ s k).trans ?_)
  refine (lsig _).trans ?_
  have hy : Yt m c t (ix2 s ⟨2560 + (64 + k.val), by omega⟩) = P m c r ⟨2624 + k.val, by omega⟩ := by
    rw [← hs]
    exact y_blk m c t s _ _ (Or.inr (Or.inr (Or.inr ⟨by dsimp only; omega, by dsimp only; omega⟩)))
  have hb : (iblk m c 11 t : Vec Ideal S1x128 .f32) (ix2 0 ⟨64 + k.val, by omega⟩) = B m c (ix1 k) :=
    (blk11 m c t _).trans (bf_apply m c k)
  exact congrArg (fun z : EReal => -(max (-z) 0 + Ideal.log1p (Ideal.exp (-FloatOps.absf (F := Ideal) (φ := .f32) (-z)))))
    (congrArg₂ (fun a b : EReal => a + b) hy hb)

end Cert.Kernel5Ideal.Ab

namespace Cert.AbAlg

open Cert.Kernel5Ideal.Ab

variable (m : (ℓ : Loc Kernel5Ideal.nD Kernel5Ideal.τ Kernel5Ideal.sig) → Buf (Elt Ideal) ℓ)

/-- The kernel's queries are the reference's at the same arguments. -/
theorem eq14 (c : Dev Kernel5Ideal.nD) :
    ((Kernel5Ideal.Gen.dats m 0 c).arrAt 14 Kernel5Ideal.cfg0.N : Vec Ideal Kernel5Ideal.S9216x2048 .bf16) =
      Reference5Ideal.Read.val_main_v165 (F := Ideal) (X m c) (Gm m c) (W m c) (Ga m c) (U m c) (Gn m c) (Gr m c) := by
  funext j
  idx_vars j
  exact (result14 m c _ _).trans (Reference5Ideal.Ab.qmla_apply _ _ _ _ _ _ _ _ _).symm

/-- The kernel's compressed keys and values are the reference's at the same arguments. -/
theorem eq15 (c : Dev Kernel5Ideal.nD) :
    ((Kernel5Ideal.Gen.dats m 0 c).arrAt 15 Kernel5Ideal.cfg0.N : Vec Ideal Kernel5Ideal.S9216x512 .f32) =
      Reference5Ideal.Read.val_main_v178 (F := Ideal) (X m c) (Gm m c) (W m c) (Gc m c) := by
  funext j
  idx_vars j
  exact (result15 m c _ _).trans (Reference5Ideal.Ab.ckv_apply _ _ _ _ _ _).symm

/-- The kernel's rotated keys are the reference's at the same arguments. -/
theorem eq16 (c : Dev Kernel5Ideal.nD) :
    ((Kernel5Ideal.Gen.dats m 0 c).arrAt 16 Kernel5Ideal.cfg0.N : Vec Ideal Kernel5Ideal.S9216x64 .f32) =
      Reference5Ideal.Read.val_main_v131 (F := Ideal) (X m c) (Gm m c) (W m c) (Gk m c) := by
  funext j
  idx_vars j
  exact (result16 m c _ _).trans (Reference5Ideal.Ab.kr_apply _ _ _ _ _ _).symm

/-- The kernel's padded rotated keys are the reference's at the same arguments. -/
theorem eq17 (c : Dev Kernel5Ideal.nD) :
    ((Kernel5Ideal.Gen.dats m 0 c).arrAt 17 Kernel5Ideal.cfg0.N : Vec Ideal Kernel5Ideal.S9216x128 .bf16) =
      Reference5Ideal.Read.val_main_v179 (F := Ideal) (X m c) (Gm m c) (W m c) (Gk m c) := by
  funext j
  idx_vars j
  exact (result17 m c _ _).trans (Reference5Ideal.Ab.kp_apply _ _ _ _ _ _).symm

/-- The kernel's forgetting heads' queries are the reference's at the same arguments. -/
theorem eq18 (c : Dev Kernel5Ideal.nD) :
    ((Kernel5Ideal.Gen.dats m 0 c).arrAt 18 Kernel5Ideal.cfg0.N : Vec Ideal Kernel5Ideal.S9216x1024 .bf16) =
      Reference5Ideal.Read.val_main_v181 (F := Ideal) (X m c) (Gm m c) (W m c) (Gfq m c) := by
  funext j
  idx_vars j
  exact (result18 m c _ _).trans (Reference5Ideal.Ab.fq_apply _ _ _ _ _ _).symm

/-- The kernel's forgetting heads' keys are the reference's at the same arguments. -/
theorem eq19 (c : Dev Kernel5Ideal.nD) :
    ((Kernel5Ideal.Gen.dats m 0 c).arrAt 19 Kernel5Ideal.cfg0.N : Vec Ideal Kernel5Ideal.S9216x256 .f32) =
      Reference5Ideal.Read.val_main_v182 (F := Ideal) (X m c) (Gm m c) (W m c) (Gfk m c) := by
  funext j
  idx_vars j
  exact (result19 m c _ _).trans (Reference5Ideal.Ab.fk_apply _ _ _ _ _ _).symm

/-- The kernel's forgetting heads' values are the reference's at the same arguments. -/
theorem eq20 (c : Dev Kernel5Ideal.nD) :
    ((Kernel5Ideal.Gen.dats m 0 c).arrAt 20 Kernel5Ideal.cfg0.N : Vec Ideal Kernel5Ideal.S9216x256 .f32) =
      Reference5Ideal.Read.val_main_v19 (F := Ideal) (X m c) (Gm m c) (W m c)  := by
  funext j
  idx_vars j
  exact (result20 m c _ _).trans (Reference5Ideal.Ab.fv_apply _ _ _ _ _).symm

/-- The kernel's gates are the reference's at the same arguments. -/
theorem eq21 (c : Dev Kernel5Ideal.nD) :
    ((Kernel5Ideal.Gen.dats m 0 c).arrAt 21 Kernel5Ideal.cfg0.N : Vec Ideal Kernel5Ideal.S9216x8 .f32) =
      Reference5Ideal.Read.val_main_v186 (F := Ideal) (X m c) (Gm m c) (W m c) (B m c) := by
  funext j
  idx_vars j
  exact (result21 m c _ _).trans (Reference5Ideal.Ab.lf_apply _ _ _ _ _ _).symm

set_option maxHeartbeats 4000000 in
/-- At the ideal instance the input projections and their reference end with equal results. -/
theorem algebraic : @Cert.algebraic_Kernel5Ideal_Reference5Ideal Kernel5Ideal.Gen.facts Reference5Ideal.Gen.facts := by
  intro m g m' g' _ ha
  refine ⟨fun c => (Kernel5Ideal.Gen.dats m 0 c).arrAt 14 Kernel5Ideal.cfg0.N,
    fun c => (Kernel5Ideal.Gen.dats m 0 c).arrAt 15 Kernel5Ideal.cfg0.N,
    fun c => (Kernel5Ideal.Gen.dats m 0 c).arrAt 16 Kernel5Ideal.cfg0.N,
    fun c => (Kernel5Ideal.Gen.dats m 0 c).arrAt 17 Kernel5Ideal.cfg0.N,
    fun c => (Kernel5Ideal.Gen.dats m 0 c).arrAt 18 Kernel5Ideal.cfg0.N,
    fun c => (Kernel5Ideal.Gen.dats m 0 c).arrAt 19 Kernel5Ideal.cfg0.N,
    fun c => (Kernel5Ideal.Gen.dats m 0 c).arrAt 20 Kernel5Ideal.cfg0.N,
    fun c => (Kernel5Ideal.Gen.dats m 0 c).arrAt 21 Kernel5Ideal.cfg0.N, Kernel5Ideal.Value.run_blocks m g, ?_⟩
  refine (θ_run _ _ _).mono (fun r h c => ?_) (Reference5Ideal.Value.run (F := Ideal) m' g')
  obtain ⟨h0, h1, h2, h3, h4, h5, h6, h7, h8, h9, h10, h11⟩ := ha c
  obtain ⟨k0, k1, k2, k3, k4, k5, k6, k7, hr⟩ := h c
  refine ⟨k0.trans ?_, k1.trans ?_, k2.trans ?_, k3.trans ?_, k4.trans ?_, k5.trans ?_, k6.trans ?_, k7.trans ?_, hr⟩
  · refine (Reference5Ideal.Read.val_main_v165_eq _).trans ?_
    show Reference5Ideal.Read.val_main_v165 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg6)) (m' ((c.tc : Thread Reference5Ideal.nD Reference5Ideal.τ).loc Reference5Ideal.main_arg7)) = _
    rw [h0, h1, h2, h3, h4, h6, h7]
    exact (eq14 m c).symm
  · refine (Reference5Ideal.Read.val_main_v178_eq _).trans ?_
    show Reference5Ideal.Read.val_main_v178 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg5)) = _
    rw [h0, h1, h2, h5]
    exact (eq15 m c).symm
  · refine (Reference5Ideal.Read.val_main_v131_eq _).trans ?_
    show Reference5Ideal.Read.val_main_v131 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg8)) = _
    rw [h0, h1, h2, h8]
    exact (eq16 m c).symm
  · refine (Reference5Ideal.Read.val_main_v179_eq _).trans ?_
    show Reference5Ideal.Read.val_main_v179 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg8)) = _
    rw [h0, h1, h2, h8]
    exact (eq17 m c).symm
  · refine (Reference5Ideal.Read.val_main_v181_eq _).trans ?_
    show Reference5Ideal.Read.val_main_v181 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg9)) = _
    rw [h0, h1, h2, h9]
    exact (eq18 m c).symm
  · refine (Reference5Ideal.Read.val_main_v182_eq _).trans ?_
    show Reference5Ideal.Read.val_main_v182 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg10)) = _
    rw [h0, h1, h2, h10]
    exact (eq19 m c).symm
  · refine (Reference5Ideal.Read.val_main_v19_eq _).trans ?_
    show Reference5Ideal.Read.val_main_v19 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) = _
    rw [h0, h1, h2]
    exact (eq20 m c).symm
  · refine (Reference5Ideal.Read.val_main_v186_eq _).trans ?_
    show Reference5Ideal.Read.val_main_v186 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg11)) = _
    rw [h0, h1, h2, h11]
    exact (eq21 m c).symm

/-- The reference ends with its arguments unchanged. -/
theorem reference_frame : @Cert.quiescent_Reference5Ideal Reference5Ideal.Gen.facts := by
  intro m g _
  exact (θ_run _ _ _).mono (fun r h => ⟨fun c => (h c).2.2.2.2.2.2.2.2, sem_eq_zero_of_no_sems (by decide) r.2⟩)
    (Reference5Ideal.Value.run (F := Ideal) m g)

end Cert.AbAlg

end
-- ==== Proof.Erl.lean ====
module

public import Idealize.ShloMosaic.Lib.Pointwise
public import Idealize.ShloMosaic.Lib.IdealHost

@[expose] public section

noncomputable section

open Idealize.ShloMosaic

namespace Cert.Erl

/-- The word of one half read as a number. -/
theorem half_val : Ideal.ofBits .f32 0x3F000000#32 = ((1 / 2 : ℝ) : EReal) := by
  simp [Ideal.ofBits, Ideal.ieee, -EReal.coe_mul]; norm_num

/-- A finite factor that is not negative goes into a sum. -/
theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- A sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential is never negative. -/
theorem exp_nonneg (y : EReal) : 0 ≤ Ideal.exp y := by
  induction y with
  | bot => simp
  | coe r => rw [Ideal.exp_coe]; exact_mod_cast (Real.exp_pos r).le
  | top => simp

/-- One plus an exponential is not zero. -/
theorem one_add_exp_ne (y : EReal) : 1 + Ideal.exp y ≠ 0 := by
  have h : (0 : EReal) < 1 + Ideal.exp y := lt_of_lt_of_le (by norm_num : (0 : EReal) < 1) (le_add_of_nonneg_right (exp_nonneg y))
  exact h.ne'

end Cert.Erl
-- ==== Proof.FfnOpen.lean ====
module

public import proofs.«01_k».proof.Proof.Gen.Kernel3Ideal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

section
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1024x2048 .f32) (h2 : a2.IsWhole)
  (a3 : Memref sig .tc .vmem S1x2048 .f32) (h3 : a3.IsWhole)
  (a4 : Memref sig .tc .vmem S1x2048x256 .f32) (h4 : a4.IsWhole)
  (a5 : Memref sig .tc .vmem S1x2048x256 .f32) (h5 : a5.IsWhole)
  (a6 : Memref sig .tc .vmem S1x256x2048 .f32) (h6 : a6.IsWhole)
  (a7 : Memref sig .tc .vmem S1024x2048 .f32) (h7 : a7.IsWhole)
  (a8 : Memref sig .tc .vmem S1024x2048 .bf16) (h8 : a8.IsWhole)
  (x : Vec F S1024x2048 .f32) (g : Vec F S1x2048 .f32) (wg wu : Vec F S1x2048x256 .f32)
  (wd : Vec F S1x256x2048 .f32) (o : Vec F S1024x2048 .f32) (n : Vec F S1024x2048 .bf16)

/-- A point after the first of its row block adds one column block's contribution to what the output block held. -/
theorem out_B (hc : ¬cond0_0 i) :
    out0_B_5 c i a2 h2 a3 h3 a4 h4 a5 h5 a6 h6 a7 h7 a8 h8 hc x g wg wu wd o n = k0_pay2 n wg wu o wd := by
  unfold out0_B_5
  rw [View.read_writes_eq_canon _ _ _ (cover0_B_5 c i a2 h2 a3 h3 a4 h4 a5 h5 a6 h6 a7 h7 a8 h8 hc x g wg wu wd o n)]
  unfold kernelRun0_B
  dsimp only
  sl_unfold_words
  rw [View.canon_unit_zero (S := S1024x2048) hz]
  simp only [View.readAt_eq_ld, h2.read_unread, h3.read_unread, h4.read_unread, h5.read_unread, h6.read_unread,
    h7.read_unread, h8.read_unread, View.ld_unit_zero (S := S1024x2048) hz, View.ld_unit_zero (S := S1x2048) hz,
    View.ld_unit_zero (S := S1x2048x256) hz3, View.ld_unit_zero (S := S1x256x2048) hz3, shapeCast_self]

/-- The first point of a row block leaves the block of `x` plus the first column block's contribution. -/
theorem out_A (hc : cond0_0 i) :
    out0_A_5 c i a2 h2 a3 h3 a4 h4 a5 h5 a6 h6 a7 h7 a8 h8 hc x g wg wu wd = k0_pay2 (k0_pay1 x g) wg wu x wd := by
  unfold out0_A_5
  rw [View.read_writes_eq_canon _ _ _ (cover0_A_5 c i a2 h2 a3 h3 a4 h4 a5 h5 a6 h6 a7 h7 a8 h8 hc x g wg wu wd)]
  unfold kernelRun0_A
  dsimp only
  sl_unfold_words
  rw [View.canon_cons_unit_zero (S := S1024x2048) hz]
  simp only [View.readCov_unit_zero (S := S1024x2048) _ hz]
  simp only [View.readAt_eq_ld, h2.read_unread, h3.read_unread, h4.read_unread, h5.read_unread, h6.read_unread,
    h7.read_unread, h8.read_unread, View.ld_unit_zero (S := S1024x2048) hz, View.ld_unit_zero (S := S1x2048) hz,
    View.ld_unit_zero (S := S1x2048x256) hz3, View.ld_unit_zero (S := S1x256x2048) hz3, shapeCast_self]

/-- The first point of a row block leaves the normalised rows in the scratch. -/
theorem sout_A (hc : cond0_0 i) :
    sout0_A_0 c i a2 h2 a3 h3 a4 h4 a5 h5 a6 h6 a7 h7 a8 h8 hc x g wg wu wd = k0_pay1 x g := by
  unfold sout0_A_0
  rw [View.read_writes_eq_canon _ _ _ (scover0_A_0 c i a2 h2 a3 h3 a4 h4 a5 h5 a6 h6 a7 h7 a8 h8 hc x g wg wu wd)]
  unfold kernelRun0_A
  dsimp only
  sl_unfold_words
  rw [View.canon_unit_zero (S := S1024x2048) hz]
  simp only [View.readAt_eq_ld, h2.read_unread, h3.read_unread, h4.read_unread, h5.read_unread, h6.read_unread,
    h7.read_unread, h8.read_unread, View.ld_unit_zero (S := S1024x2048) hz, View.ld_unit_zero (S := S1x2048) hz,
    View.ld_unit_zero (S := S1x2048x256) hz3, View.ld_unit_zero (S := S1x256x2048) hz3, shapeCast_self]

end

/-- One entry of the normalised rows: the row scaled by the inverse root of its mean square, times the gain. -/
theorem norm_apply (x : Vec Ideal S1024x2048 .f32) (g : Vec Ideal S1x2048 .f32) (r : Fin 1024) (d : Fin 2048) :
    k0_pay1 (F := Ideal) x g (ix2 r d) = x (ix2 r d) *
        Ideal.rsqrt (Ideal.div (∑ e, x (ix2 r e) * x (ix2 r e)) (Ideal.ofBits FTy.f32 1157627904#32) +
            Ideal.ofBits FTy.f32 897988541#32) * g (ix2 0 d) := by
  pointwise [k0_pay1]

/-- One entry of what a point adds up: the block held before plus the gated columns times their rows of `wd`. -/
theorem step_apply (n : Vec Ideal S1024x2048 .bf16) (wg wu : Vec Ideal S1x2048x256 .f32)
    (wd : Vec Ideal S1x256x2048 .f32) (o : Vec Ideal S1024x2048 .f32) (r : Fin 1024) (k : Fin 2048) :
    k0_pay2 (F := Ideal) n wg wu o wd (ix2 r k) = o (ix2 r k) + ∑ f,
        (Ideal.div (∑ d, n (ix2 r d) * wg (ix3 0 d f)) (1 + Ideal.exp (0 - ∑ d, n (ix2 r d) * wg (ix3 0 d f))) *
              ∑ d, n (ix2 r d) * wu (ix3 0 d f)) * Ideal.ofBits FTy.f32 1056964608#32 * wd (ix3 0 f k) := by
  pointwise [k0_pay2]

end Cert.Kernel3Ideal.Ffn
-- ==== Proof.FfnValue.lean ====
module

public import proofs.«01_k».proof.Proof.FfnOpen
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The residual stream. -/
abbrev X (c : Dev nD) : Vec Ideal S9216x2048 .f32 := m ((c : Thread nD τ).loc main_arg0)
/-- The gains of the four layers. -/
abbrev Gn (c : Dev nD) : Vec Ideal S4x2048 .f32 := m ((c : Thread nD τ).loc main_arg1)
/-- The gate weights of the four layers. -/
abbrev Wg (c : Dev nD) : Vec Ideal S4x2048x4096 .f32 := m ((c : Thread nD τ).loc main_arg2)
/-- The up weights of the four layers. -/
abbrev Wu (c : Dev nD) : Vec Ideal S4x2048x4096 .f32 := m ((c : Thread nD τ).loc main_arg3)
/-- The down weights of the four layers. -/
abbrev Wd (c : Dev nD) : Vec Ideal S4x4096x2048 .f32 := m ((c : Thread nD τ).loc main_arg4)

/-- The normalised row `r` at column `d`, with the last layer's gain. -/
def nrm (x : Vec Ideal S9216x2048 .f32) (g : Vec Ideal S4x2048 .f32) (r : Fin 9216) (d : Fin 2048) : EReal :=
  x (ix2 r d) * Ideal.rsqrt (Ideal.div (∑ e, x (ix2 r e) * x (ix2 r e)) (Ideal.ofBits FTy.f32 1157627904#32) +
    Ideal.ofBits FTy.f32 897988541#32) * g (ix2 3 d)

/-- The projection of the normalised row `r` on column `f` of the last layer's weights. -/
def prj (x : Vec Ideal S9216x2048 .f32) (g : Vec Ideal S4x2048 .f32) (w : Vec Ideal S4x2048x4096 .f32)
    (r : Fin 9216) (f : Fin 4096) : EReal := ∑ d, nrm x g r d * w (ix3 3 d f)

/-- What hidden column `f` contributes to entry `(r, k)`. -/
def term (x : Vec Ideal S9216x2048 .f32) (g : Vec Ideal S4x2048 .f32) (wg wu : Vec Ideal S4x2048x4096 .f32)
    (wd : Vec Ideal S4x4096x2048 .f32) (r : Fin 9216) (k : Fin 2048) (f : Fin 4096) : EReal :=
  (Ideal.div (prj x g wg r f) (1 + Ideal.exp (0 - prj x g wg r f)) * prj x g wu r f) *
    Ideal.ofBits FTy.f32 1056964608#32 * wd (ix3 3 f k)

/-- The rows of point `t`'s row block. -/
def row (t : Fin cfg0.N) (r : Fin 1024) : Fin 9216 :=
  ⟨t.val / 16 * 1024 + r.val, by have := lt_of_lt_of_eq t.isLt (show cfg0.N = 144 from N_0); have := r.isLt; omega⟩

/-- The hidden columns of column block `s`. -/
def col (s : ℕ) (f : Fin 256) : Fin 4096 := ⟨(s * 256 + f.val) % 4096, Nat.mod_lt _ (by decide)⟩

theorem idx0 : ∀ t : Fin cfg0.N, win0_0.index t 0 = t.val / 16 ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 3 ∧ win0_2.index t 1 = 0 ∧ win0_2.index t 2 = t.val % 16 :=
  (by decide +kernel : ∀ t : Fin grid0.N, _)
theorem idx3 : ∀ t : Fin cfg0.N, win0_3.index t 0 = 3 ∧ win0_3.index t 1 = 0 ∧ win0_3.index t 2 = t.val % 16 :=
  (by decide +kernel : ∀ t : Fin grid0.N, _)
theorem idx4 : ∀ t : Fin cfg0.N, win0_4.index t 0 = 3 ∧ win0_4.index t 1 = t.val % 16 ∧ win0_4.index t 2 = 0 :=
  (by decide +kernel : ∀ t : Fin grid0.N, _)

/-- The host slices the last layer's gain out and keeps it as one row. -/
theorem gain_apply (c : Dev nD) (d : Fin 2048) :
    (V m c main_v2 : Vec Ideal S1x2048 .f32) (ix2 0 d) = Gn m c (ix2 3 d) := by
  have h : (V m c main_v2 : Vec Ideal S1x2048 .f32) =
      shapeCast S1x2048 (shapeCast S2048 (extractStridedSlice S1x2048 ![3, 0] (Gn m c) slices_S4x2048_S1x2048_3_0)
        shapeCasts_S1x2048_S2048) shapeCasts_S2048_S1x2048 := by
    unfold V hostOps0
    after_results
    rfl
  rw [h]
  pointwise []

theorem blk0 (c : Dev nD) (t : Fin cfg0.N) (r : Fin 1024) (d : Fin 2048) :
    (iblk m c 0 t : Vec Ideal S1024x2048 .f32) (ix2 r d) = X m c (ix2 (row t r) d) := by
  unfold iblk
  rw [View.read_apply]
  show V m c main_arg0 _ = _
  rw [V_main_arg0]
  congr 1
  funext a
  apply Fin.ext
  match a with
  | ⟨0, _⟩ => show win0_0.index t 0 * 1024 + 1 * r.val = t.val / 16 * 1024 + r.val; rw [(idx0 t).1]; omega
  | ⟨1, _⟩ => show win0_0.index t 1 * 2048 + 1 * d.val = d.val; rw [(idx0 t).2]; omega

theorem blk1 (c : Dev nD) (t : Fin cfg0.N) (d : Fin 2048) :
    (iblk m c 1 t : Vec Ideal S1x2048 .f32) (ix2 0 d) = Gn m c (ix2 3 d) := by
  rw [← gain_apply]
  unfold iblk
  rw [View.read_apply]
  show V m c main_v2 _ = _
  congr 1
  funext a
  apply Fin.ext
  match a with
  | ⟨0, _⟩ => show win0_1.index t 0 * 1 + 1 * 0 = 0; rw [(idx1 t).1]
  | ⟨1, _⟩ => show win0_1.index t 1 * 2048 + 1 * d.val = d.val; rw [(idx1 t).2]; omega

theorem blk2 (c : Dev nD) (t : Fin cfg0.N) (d : Fin 2048) (f : Fin 256) :
    (iblk m c 2 t : Vec Ideal S1x2048x256 .f32) (ix3 0 d f) = Wg m c (ix3 3 d (col (t.val % 16) f)) := by
  unfold iblk
  rw [View.read_apply]
  show V m c main_arg2 _ = _
  rw [V_main_arg2]
  congr 1
  funext a
  apply Fin.ext
  have := f.isLt
  match a with
  | ⟨0, _⟩ => show win0_2.index t 0 * 1 + 1 * 0 = 3; rw [(idx2 t).1]
  | ⟨1, _⟩ => show win0_2.index t 1 * 2048 + 1 * d.val = d.val; rw [(idx2 t).2.1]; omega
  | ⟨2, _⟩ => show win0_2.index t 2 * 256 + 1 * f.val = (t.val % 16 * 256 + f.val) % 4096; rw [(idx2 t).2.2]; omega

theorem blk3 (c : Dev nD) (t : Fin cfg0.N) (d : Fin 2048) (f : Fin 256) :
    (iblk m c 3 t : Vec Ideal S1x2048x256 .f32) (ix3 0 d f) = Wu m c (ix3 3 d (col (t.val % 16) f)) := by
  unfold iblk
  rw [View.read_apply]
  show V m c main_arg3 _ = _
  rw [V_main_arg3]
  congr 1
  funext a
  apply Fin.ext
  have := f.isLt
  match a with
  | ⟨0, _⟩ => show win0_3.index t 0 * 1 + 1 * 0 = 3; rw [(idx3 t).1]
  | ⟨1, _⟩ => show win0_3.index t 1 * 2048 + 1 * d.val = d.val; rw [(idx3 t).2.1]; omega
  | ⟨2, _⟩ => show win0_3.index t 2 * 256 + 1 * f.val = (t.val % 16 * 256 + f.val) % 4096; rw [(idx3 t).2.2]; omega

theorem blk4 (c : Dev nD) (t : Fin cfg0.N) (f : Fin 256) (k : Fin 2048) :
    (iblk m c 4 t : Vec Ideal S1x256x2048 .f32) (ix3 0 f k) = Wd m c (ix3 3 (col (t.val % 16) f) k) := by
  unfold iblk
  rw [View.read_apply]
  show V m c main_arg4 _ = _
  rw [V_main_arg4]
  congr 1
  funext a
  apply Fin.ext
  have := f.isLt
  match a with
  | ⟨0, _⟩ => show win0_4.index t 0 * 1 + 1 * 0 = 3; rw [(idx4 t).1]
  | ⟨1, _⟩ => show win0_4.index t 1 * 256 + 1 * f.val = (t.val % 16 * 256 + f.val) % 4096; rw [(idx4 t).2.1]; omega
  | ⟨2, _⟩ => show win0_4.index t 2 * 2048 + 1 * k.val = k.val; rw [(idx4 t).2.2]; omega

/-- What column block `s` contributes to entry `(r, k)`. -/
def part (c : Dev nD) (r : Fin 9216) (k : Fin 2048) (s : ℕ) : EReal :=
  ∑ f : Fin 256, term (X m c) (Gn m c) (Wg m c) (Wu m c) (Wd m c) r k (col s f)

/-- One point's step, on normalised rows: the block held before plus the point's column block. -/
theorem step_blk (c : Dev nD) (t : Fin cfg0.N) (n : Vec Ideal S1024x2048 .bf16) (o : Vec Ideal S1024x2048 .f32)
    (hn : ∀ r d, n (ix2 r d) = nrm (X m c) (Gn m c) (row t r) d) (r : Fin 1024) (k : Fin 2048) :
    k0_pay2 (F := Ideal) n (iblk m c 2 t) (iblk m c 3 t) o (iblk m c 4 t) (ix2 r k)
      = o (ix2 r k) + part m c (row t r) k (t.val % 16) := by
  rw [step_apply]
  unfold part term prj
  simp only [hn, blk2, blk3, blk4]

/-- The first point of a row block normalises the rows. -/
theorem norm_blk (c : Dev nD) (t : Fin cfg0.N) (r : Fin 1024) (d : Fin 2048) :
    k0_pay1 (F := Ideal) (iblk m c 0 t) (iblk m c 1 t) (ix2 r d) = nrm (X m c) (Gn m c) (row t r) d := by
  rw [norm_apply]
  unfold nrm
  simp only [blk0, blk1]

/-- After point `t` the scratch holds the normalised rows of its row block, and the output block the rows of `x`
    plus the contributions of the column blocks met so far. -/
theorem state (c : Dev nD) : ∀ (n : ℕ) (h : n < cfg0.N),
    (∀ r d, (outsAt0 m c n h).2 (ix2 r d) = nrm (X m c) (Gn m c) (row ⟨n, h⟩ r) d) ∧
    ∀ r k, (outsAt0 m c n h).1 (ix2 r k) = X m c (ix2 (row ⟨n, h⟩ r) k) +
      ∑ s ∈ Finset.range (n % 16 + 1), part m c (row ⟨n, h⟩ r) k s := by
  intro n
  induction n with
  | zero =>
    intro h
    rw [outsAt0_A m c ⟨0, h⟩ rfl]
    refine ⟨fun r d => ?_, fun r k => ?_⟩
    · dsimp only; rw [sout_A, norm_blk]
    · dsimp only; rw [out_A, step_blk m c ⟨0, h⟩ _ _ (norm_blk m c ⟨0, h⟩), blk0]
      simp
  | succ n ih =>
    intro h
    by_cases h0 : (n + 1) % 16 = 0
    · rw [outsAt0_A m c ⟨n + 1, h⟩ h0]
      refine ⟨fun r d => ?_, fun r k => ?_⟩
      · dsimp only; rw [sout_A, norm_blk]
      · dsimp only; rw [out_A, step_blk m c ⟨n + 1, h⟩ _ _ (norm_blk m c ⟨n + 1, h⟩), blk0]
        simp [h0]
    · obtain ⟨i2, i1⟩ := ih (Nat.lt_of_succ_lt h)
      have hr : ∀ r, row ⟨n, Nat.lt_of_succ_lt h⟩ r = row ⟨n + 1, h⟩ r := fun r => by
        apply Fin.ext; show n / 16 * 1024 + r.val = (n + 1) / 16 * 1024 + r.val; omega
      simp only [hr] at i1 i2
      rw [outsAt0_B m c ⟨n + 1, h⟩ h0]
      refine ⟨fun r d => i2 r d, fun r k => ?_⟩
      dsimp only
      rw [out_B]
      refine (step_blk m c ⟨n + 1, h⟩ _ _ i2 r k).trans ?_
      show (outsAt0 m c n _).1 (ix2 r k) + _ = _
      rw [i1, show (n + 1) % 16 = n % 16 + 1 from by omega, Finset.sum_range_succ _ (n % 16 + 1), add_assoc]

/-- The array after the run, at an index: the residual plus the contributions of all hidden columns. -/
theorem result_apply (c : Dev nD) (r : Fin 9216) (k : Fin 2048) :
    (Value.G5 m c : Vec Ideal S9216x2048 .f32) (ix2 r k) = X m c (ix2 r k) +
      ∑ f : Fin 4096, term (X m c) (Gn m c) (Wg m c) (Wu m c) (Wd m c) r k f := by
  have hN : cfg0.N = 144 := N_0
  have hr := r.isLt
  have hp : Value.pt5Of (ix2 r k) = 16 * (r.val / 1024) + 15 := by
    show 16 * (1 * (r.val / 1024 - 0) + 1 * (k.val / 2048 - 0)) + 15 = _
    have := k.isLt; omega
  have hlt : Value.pt5Of (ix2 r k) < cfg0.N := by rw [hp]; omega
  unfold Value.G5
  rw [dif_pos hlt, ← Value.outsAt0_sweep m c _ hlt]
  have hl : Value.loc5Of (ix2 r k) = ix2 (⟨r.val % 1024, Nat.mod_lt _ (by decide)⟩ : Fin 1024) k := by
    funext a; apply Fin.ext
    match a with
    | ⟨0, _⟩ => rfl
    | ⟨1, _⟩ => exact Nat.mod_eq_of_lt k.isLt
  have hrow : row ⟨Value.pt5Of (ix2 r k), hlt⟩ (⟨r.val % 1024, Nat.mod_lt _ (by decide)⟩ : Fin 1024) = r := by
    apply Fin.ext
    show Value.pt5Of (ix2 r k) / 16 * 1024 + r.val % 1024 = r.val
    rw [hp]; omega
  rw [hl, (state m c _ hlt).2, hrow, show Value.pt5Of (ix2 r k) % 16 + 1 = 16 from by rw [hp]; omega,
    Finset.sum_range,
    Fin.sum_univ_tiles (N := 4096) 16 256 (by norm_num) (term (X m c) (Gn m c) (Wg m c) (Wu m c) (Wd m c) r k)]
  refine congrArg (X m c (ix2 r k) + ·) (Finset.sum_congr rfl fun s _ => Finset.sum_congr rfl fun f _ => ?_)
  refine congrArg (term (X m c) (Gn m c) (Wg m c) (Wu m c) (Wd m c) r k) ?_
  apply Fin.ext
  show (s.val * 256 + f.val) % 4096 = s.val * 256 + f.val
  have := s.isLt; have := f.isLt; omega

end Cert.Kernel3Ideal.Ffn
-- ==== Proof.FfnRef.lean ====
module

public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Reference3Ideal.Read

/-- The normalised row `r` at column `d`, with the last layer's gain. -/
def nrm (x : Vec Ideal S9216x2048 .f32) (g : Vec Ideal S4x2048 .f32) (r : Fin 9216) (d : Fin 2048) : EReal :=
  x (ix2 r d) * Ideal.rsqrt (Ideal.div (∑ e, x (ix2 r e) * x (ix2 r e)) (Ideal.ofBits FTy.f32 1157627904#32) +
    Ideal.ofBits FTy.f32 897988541#32) * g (ix2 3 d)

/-- The projection of the normalised row `r` on column `f` of the last layer's weights. -/
def prj (x : Vec Ideal S9216x2048 .f32) (g : Vec Ideal S4x2048 .f32) (w : Vec Ideal S4x2048x4096 .f32)
    (r : Fin 9216) (f : Fin 4096) : EReal := ∑ d, nrm x g r d * w (ix3 3 d f)

/-- One entry of the reference's result. -/
theorem ref_apply (x : Vec Ideal S9216x2048 .f32) (g : Vec Ideal S4x2048 .f32) (wg wu : Vec Ideal S4x2048x4096 .f32)
    (wd : Vec Ideal S4x4096x2048 .f32) (r : Fin 9216) (k : Fin 2048) :
    val_main_v28 (F := Ideal) x g wg wu wd (ix2 r k) = x (ix2 r k) + Ideal.ofBits FTy.f32 1056964608#32 *
      ∑ f, prj x g wg r f * Ideal.div 1 (1 + Ideal.exp (-prj x g wg r f)) * prj x g wu r f * wd (ix3 3 f k) := by
  rw [← val_main_v28_eq]
  unfold prj nrm
  pointwise []

end Cert.Reference3Ideal.Ffn
-- ==== Proof.FfnAlg.lean ====
module

public import proofs.«01_k».proof.Defs
public import proofs.«01_k».proof.Proof.Erl
public import proofs.«01_k».proof.Proof.FfnValue
public import proofs.«01_k».proof.Proof.FfnRef
public import proofs.«01_k».proof.Proof.Gen.Reference3Ideal.Run

@[expose] public section

set_option maxRecDepth 16384

noncomputable section

open Idealize.ShloMosaic Idealize.ShloMosaic.TcCoe Idealize.SL.Sem

namespace Cert.FfnAlg

/-- The kernel's gated sum, its half taken in every term, is the reference's half of the sum. -/
theorem gated (G U w : Fin 4096 → EReal) :
    ∑ f, (Ideal.div (G f) (1 + Ideal.exp (0 - G f)) * U f) * Ideal.ofBits FTy.f32 1056964608#32 * w f
      = Ideal.ofBits FTy.f32 1056964608#32 * ∑ f, G f * Ideal.div 1 (1 + Ideal.exp (-G f)) * U f * w f := by
  rw [Erl.half_val, Erl.mul_sum _ _ (by exact_mod_cast (by norm_num : (0 : ℝ) ≤ 1 / 2)) (EReal.coe_ne_top _)]
  refine Finset.sum_congr rfl fun f _ => ?_
  rw [zero_sub, Ideal.mul_one_div (Erl.one_add_exp_ne _), mul_comm _ (((1 / 2 : ℝ) : EReal)), mul_assoc]

variable (m : (ℓ : Loc Kernel3Ideal.nD Kernel3Ideal.τ Kernel3Ideal.sig) → Buf (Elt Ideal) ℓ)

/-- The kernel's result array is the reference's at the same arguments. -/
theorem result_eq (c : Dev Kernel3Ideal.nD) :
    (Kernel3Ideal.Value.G5 m c : Vec Ideal Kernel3Ideal.S9216x2048 .f32) =
      Reference3Ideal.Read.val_main_v28 (F := Ideal) (Kernel3Ideal.Ffn.X m c) (Kernel3Ideal.Ffn.Gn m c)
        (Kernel3Ideal.Ffn.Wg m c) (Kernel3Ideal.Ffn.Wu m c) (Kernel3Ideal.Ffn.Wd m c) := by
  funext j
  idx_vars j
  refine (Kernel3Ideal.Ffn.result_apply m c _ _).trans (Eq.trans ?_ (Reference3Ideal.Ffn.ref_apply _ _ _ _ _ _ _).symm)
  refine congrArg (_ + ·) ?_
  exact gated (fun f => Kernel3Ideal.Ffn.prj (Kernel3Ideal.Ffn.X m c) (Kernel3Ideal.Ffn.Gn m c) (Kernel3Ideal.Ffn.Wg m c) _ f)
    (fun f => Kernel3Ideal.Ffn.prj (Kernel3Ideal.Ffn.X m c) (Kernel3Ideal.Ffn.Gn m c) (Kernel3Ideal.Ffn.Wu m c) _ f)
    (fun f => Kernel3Ideal.Ffn.Wd m c (ix3 3 f _))

/-- At the ideal instance the feed-forward kernel and its reference end with equal results. -/
theorem algebraic : @Cert.algebraic_Kernel3Ideal_Reference3Ideal Kernel3Ideal.Gen.facts Reference3Ideal.Gen.facts := by
  intro m g m' g' _ ha
  refine ⟨fun c => Kernel3Ideal.Value.G5 m c, Kernel3Ideal.Value.run m g, ?_⟩
  refine (θ_run _ _ _).mono (fun r h c => ?_) (Reference3Ideal.Value.run (F := Ideal) m' g')
  refine ⟨?_, (h c).2⟩
  refine (h c).1.trans ?_
  obtain ⟨h0, h1, h2, h3, h4⟩ := ha c
  rw [Reference3Ideal.Read.val_main_v28_eq, h0, h1, h2, h3, h4]
  exact (result_eq m c).symm

/-- The reference ends with its arguments unchanged. -/
theorem reference_frame : @Cert.quiescent_Reference3Ideal Reference3Ideal.Gen.facts := by
  intro m g _
  exact (θ_run _ _ _).mono (fun r h => ⟨fun c => (h c).2, sem_eq_zero_of_no_sems (by decide) r.2⟩)
    (Reference3Ideal.Value.run (F := Ideal) m g)

end Cert.FfnAlg
-- ==== Proof.Heads.lean ====
module

public import Idealize.ShloMosaic.Lib.Pipeline
public import Idealize.ShloMosaic.Lib.Pipeline.ValueKit.Tiles
public import Idealize.ShloMosaic.Lib.Pipeline.ReadBack
public import Idealize.ShloMosaic.Lib.Pointwise
public import Idealize.ShloMosaic.Lib.Tactic

@[expose] public section

noncomputable section

open Idealize.ShloMosaic

/-! Buffers that hold one matrix per head: stores and loads of a head's matrix, read at an index. -/

namespace Cert.Heads

section
variable {Val : EltTy → Type} [∀ e, Nonempty (Val e)] {H A B : ℕ} {e : EltTy}

/-- A store of head `o`'s matrix, read at that head. -/
theorem canon_hit {h : Fin H} {o : ℕ} (ho : h.val = o) (inb) (w) (L : List (View.Piece Val ⟨3, ![H, A, B]⟩ e))
    (r : Fin A) (l : Fin B) :
    View.canon (⟨Rect.unit (s := ⟨3, ![H, A, B]⟩) ![o, 0, 0] ![1, A, B] inb, w⟩ :: L) (ix3 h r l) = w (ix3 (0 : Fin 1) r l) := by
  have hi : (Rect.unit (s := ⟨3, ![H, A, B]⟩) ![o, 0, 0] ![1, A, B] inb).emb (ix3 (0 : Fin 1) r l) = ix3 h r l := by
    funext a
    apply Fin.ext
    match a with
    | ⟨0, _⟩ => show o + 1 * 0 = h.val; omega
    | ⟨1, _⟩ => show 0 + 1 * r.val = r.val; omega
    | ⟨2, _⟩ => show 0 + 1 * l.val = l.val; omega
  rw [← hi]
  exact View.canon_cons_emb _ w L _

/-- A store of head `o`'s matrix, read at another head, leaves what the earlier stores left. -/
theorem canon_miss {h : Fin H} {o : ℕ} (ho : h.val ≠ o) (inb) (w) (L : List (View.Piece Val ⟨3, ![H, A, B]⟩ e))
    (r : Fin A) (l : Fin B) :
    View.canon (⟨Rect.unit (s := ⟨3, ![H, A, B]⟩) ![o, 0, 0] ![1, A, B] inb, w⟩ :: L) (ix3 h r l) = View.canon L (ix3 h r l) := by
  refine View.canon_cons_of_not_mem _ _ fun hm => ho ?_
  have := (Rect.mem_set_unit (inb := inb).1 hm) 0
  have h1 : o ≤ h.val ∧ h.val < o + 1 := this
  omega

/-- Head `h`'s matrix. -/
def hd (X : (⟨3, ![H, A, B]⟩ : Shape).Idx → Val e) (h : Fin H) : (⟨3, ![1, A, B]⟩ : Shape).Idx → Val e :=
  fun i => X (ix3 h (i 1) (i 2))

/-- A load of head `o`'s matrix. -/
theorem ld_hd {o : ℕ} (inb) (X : (⟨3, ![H, A, B]⟩ : Shape).Idx → Val e) :
    View.ld X (Rect.unit (s := ⟨3, ![H, A, B]⟩) ![o, 0, 0] ![1, A, B] inb) = hd X ⟨o, inb 0⟩ := by
  funext i
  refine View.ld_unit_apply_of _ _ _ _ _ _ fun a => ?_
  match a with
  | ⟨0, _⟩ => show o = o + (i 0).val; have : (i 0).val < 1 := (i 0).isLt; omega
  | ⟨1, _⟩ => show (i 1).val = 0 + (i 1).val; omega
  | ⟨2, _⟩ => show (i 2).val = 0 + (i 2).val; omega

/-- Row `h` of a block of one matrix. -/
def row (h : Fin A) (X : (⟨3, ![1, A, B]⟩ : Shape).Idx → Val e) : (⟨3, ![1, 1, B]⟩ : Shape).Idx → Val e :=
  fun i => X (ix3 (0 : Fin 1) h (i 2))

/-- A load of row `o`. -/
theorem ld_row {o : ℕ} (inb) (X : (⟨3, ![1, A, B]⟩ : Shape).Idx → Val e) :
    View.ld X (Rect.unit (s := ⟨3, ![1, A, B]⟩) ![0, o, 0] ![1, 1, B] inb) = row ⟨o, inb 1⟩ X := by
  funext i
  refine View.ld_unit_apply_of _ _ _ _ _ _ fun a => ?_
  match a with
  | ⟨0, _⟩ => show 0 = 0 + (i 0).val; have : (i 0).val < 1 := (i 0).isLt; omega
  | ⟨1, _⟩ => show o = o + (i 1).val; have : (i 1).val < 1 := (i 1).isLt; omega
  | ⟨2, _⟩ => show (i 2).val = 0 + (i 2).val; omega

/-- The columns of a matrix from `o` on, `B` of them. -/
def cols {W : ℕ} (B o : ℕ) (h : o + B ≤ W) (X : (⟨2, ![A, W]⟩ : Shape).Idx → Val e) : (⟨2, ![A, B]⟩ : Shape).Idx → Val e :=
  fun i => X (ix2 (i 0) ⟨o + (i 1).val, by have : (i 1).val < B := (i 1).isLt; omega⟩)

/-- A load of `B` columns from `o` on. -/
theorem ld_cols {W o : ℕ} (inb) (X : (⟨2, ![A, W]⟩ : Shape).Idx → Val e) :
    View.ld X (Rect.unit (s := ⟨2, ![A, W]⟩) ![0, o] ![A, B] inb) = cols B o (inb 1) X := by
  funext i
  refine View.ld_unit_apply_of _ _ _ _ _ _ fun a => ?_
  match a with
  | ⟨0, _⟩ => show (i 0).val = 0 + (i 0).val; omega
  | ⟨1, _⟩ => rfl

/-- A store of `B` columns from `o` on, read at column `o + l`. -/
theorem canon_col_hit {W o : ℕ} (inb) (w) (L : List (View.Piece Val ⟨2, ![A, W]⟩ e)) (r : Fin A) (l : Fin B)
    (j : Fin W) (hj : j.val = o + l.val) :
    View.canon (⟨Rect.unit (s := ⟨2, ![A, W]⟩) ![0, o] ![A, B] inb, w⟩ :: L) (ix2 r j) = w (ix2 r l) := by
  have hi : (Rect.unit (s := ⟨2, ![A, W]⟩) ![0, o] ![A, B] inb).emb (ix2 r l) = ix2 r j := by
    funext a
    apply Fin.ext
    match a with
    | ⟨0, _⟩ => show 0 + 1 * r.val = r.val; omega
    | ⟨1, _⟩ => show o + 1 * l.val = j.val; omega
  rw [← hi]
  exact View.canon_cons_emb _ w L _

/-- A store of `B` columns from `o` on, read at a column outside them. -/
theorem canon_col_miss {W o : ℕ} (inb) (w) (L : List (View.Piece Val ⟨2, ![A, W]⟩ e)) (r : Fin A)
    (j : Fin W) (hj : j.val < o ∨ o + B ≤ j.val) :
    View.canon (⟨Rect.unit (s := ⟨2, ![A, W]⟩) ![0, o] ![A, B] inb, w⟩ :: L) (ix2 r j) = View.canon L (ix2 r j) := by
  refine View.canon_cons_of_not_mem _ _ fun hm => ?_
  have := (Rect.mem_set_unit (inb := inb).1 hm) 1
  have h1 : o ≤ j.val ∧ j.val < o + B := this
  omega

end

end Cert.Heads

end
-- ==== Proof.FlashOpen.lean ====
module

public import proofs.«01_k».proof.Proof.Gen.KernelIdeal.Value
public import proofs.«01_k».proof.Proof.Heads

@[expose] public section

set_option maxRecDepth 16384

noncomputable section

open Idealize.ShloMosaic Idealize.ShloMosaic.TcCoe Idealize.SL.Sem
open Idealize.ShloMosaic.Pipeline (Dat)

/-! What each case of the latent attention's body leaves in the running maximum, the running sums and the output. -/

namespace Cert.KernelIdeal.Flash

open Cert.KernelIdeal Cert.KernelIdeal.Gen Cert.Heads

section
variable {F : FTy → Type} [FloatOps F] [Named F]

/-- Head `h`'s columns of a block of queries or keys. -/
abbrev qh (X : Vec F S512x512 .bf16) (h : Fin 2) : Vec F S512x256 .bf16 := cols 256 (256 * h.val) (by omega) X
/-- Head `h`'s columns of a block of values. -/
abbrev vh (X : Vec F S512x256 .bf16) (h : Fin 2) : Vec F S512x128 .bf16 := cols 128 (128 * h.val) (by omega) X

variable (c : Dev nD) (i : grid0.Coords)
  (a4 : Memref sig .tc .vmem S512x512 .bf16) (h4 : a4.IsWhole)
  (a5 : Memref sig .tc .vmem S512x512 .bf16) (h5 : a5.IsWhole)
  (a6 : Memref sig .tc .vmem S512x256 .bf16) (h6 : a6.IsWhole)
  (a7 : Memref sig .tc .vmem S512x256 .bf16) (h7 : a7.IsWhole)
  (a8 : Memref sig .tc .vmem S2x512x128 .f32) (h8 : a8.IsWhole)
  (a9 : Memref sig .tc .vmem S2x512x256 .f32) (h9 : a9.IsWhole)
  (q k : Vec F S512x512 .bf16) (v : Vec F S512x256 .bf16)
  (ms : Vec F S2x512x128 .f32) (ac : Vec F S2x512x256 .f32)

/-- At the first block, when it is the diagonal one: the running maximum. -/
theorem m_A (hc0 hc1 hc2 hc3) (h : Fin 2) (r : Fin 512) (l : Fin 128) :
    sout0_A_0 c i a4 h4 a5 h5 a6 h6 a7 h7 a8 h8 a9 h9 hc0 hc1 hc2 hc3 q k v (ix3 h r l) = k0_pay27 (qh k h) (qh q h) (hd k0_pay1 h) (ix3 0 r l) := by
  unfold sout0_A_0
  rw [View.read_writes_eq_canon _ _ _ (scover0_A_0 c i a4 h4 a5 h5 a6 h6 a7 h7 a8 h8 a9 h9 hc0 hc1 hc2 hc3 q k v)]
  unfold kernelRun0_A
  dsimp only
  sl_unfold_words
  simp only [View.readAt_eq_ld, h4.read_unread, h5.read_unread, h6.read_unread,
    h7.read_unread, h8.read_unread, h9.read_unread, shapeCast_self]
  simp (disch := decide) only [View.readCov_cons_toLoadRect, View.readCov_skip, View.readCov_fill]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the first block, when it is the diagonal one: the running sums. -/
theorem a_A (hc0 hc1 hc2 hc3) (h : Fin 2) (r : Fin 512) (l : Fin 256) :
    sout0_A_1 c i a4 h4 a5 h5 a6 h6 a7 h7 a8 h8 a9 h9 hc0 hc1 hc2 hc3 q k v (ix3 h r l) = k0_pay26 (qh k h) (vh v h) (qh q h) (hd k0_pay1 h) (hd k0_pay2 h) (ix3 0 r l) := by
  unfold sout0_A_1
  rw [View.read_writes_eq_canon _ _ _ (scover0_A_1 c i a4 h4 a5 h5 a6 h6 a7 h7 a8 h8 a9 h9 hc0 hc1 hc2 hc3 q k v)]
  unfold kernelRun0_A
  dsimp only
  sl_unfold_words
  simp only [View.readAt_eq_ld, h4.read_unread, h5.read_unread, h6.read_unread,
    h7.read_unread, h8.read_unread, h9.read_unread, shapeCast_self]
  simp (disch := decide) only [View.readCov_cons_toLoadRect, View.readCov_skip, View.readCov_fill]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the first block, when every key is visible: the running maximum. -/
theorem m_D (hc0 hc1 hc2 hc3) (h : Fin 2) (r : Fin 512) (l : Fin 128) :
    sout0_D_0 c i a4 h4 a5 h5 a6 h6 a7 h7 a8 h8 a9 h9 hc0 hc1 hc2 hc3 q k v (ix3 h r l) = k0_pay20 (qh k h) (qh q h) (hd k0_pay1 h) (ix3 0 r l) := by
  unfold sout0_D_0
  rw [View.read_writes_eq_canon _ _ _ (scover0_D_0 c i a4 h4 a5 h5 a6 h6 a7 h7 a8 h8 a9 h9 hc0 hc1 hc2 hc3 q k v)]
  unfold kernelRun0_D
  dsimp only
  sl_unfold_words
  simp only [View.readAt_eq_ld, h4.read_unread, h5.read_unread, h6.read_unread,
    h7.read_unread, h8.read_unread, h9.read_unread, shapeCast_self]
  simp (disch := decide) only [View.readCov_cons_toLoadRect, View.readCov_skip, View.readCov_fill]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the first block, when every key is visible: the running sums. -/
theorem a_D (hc0 hc1 hc2 hc3) (h : Fin 2) (r : Fin 512) (l : Fin 256) :
    sout0_D_1 c i a4 h4 a5 h5 a6 h6 a7 h7 a8 h8 a9 h9 hc0 hc1 hc2 hc3 q k v (ix3 h r l) = k0_pay19 (qh k h) (vh v h) (qh q h) (hd k0_pay1 h) (hd k0_pay2 h) (ix3 0 r l) := by
  unfold sout0_D_1
  rw [View.read_writes_eq_canon _ _ _ (scover0_D_1 c i a4 h4 a5 h5 a6 h6 a7 h7 a8 h8 a9 h9 hc0 hc1 hc2 hc3 q k v)]
  unfold kernelRun0_D
  dsimp only
  sl_unfold_words
  simp only [View.readAt_eq_ld, h4.read_unread, h5.read_unread, h6.read_unread,
    h7.read_unread, h8.read_unread, h9.read_unread, shapeCast_self]
  simp (disch := decide) only [View.readCov_cons_toLoadRect, View.readCov_skip, View.readCov_fill]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the diagonal block: the running maximum. -/
theorem m_E (hc0 hc1 hc2 hc3) (h : Fin 2) (r : Fin 512) (l : Fin 128) :
    sout0_E_0 c i a4 h4 a5 h5 a6 h6 a7 h7 a8 h8 a9 h9 hc0 hc1 hc2 hc3 q k v ms ac (ix3 h r l) = k0_pay27 (qh k h) (qh q h) (hd ms h) (ix3 0 r l) := by
  unfold sout0_E_0
  rw [View.read_writes_eq_canon _ _ _ (scover0_E_0 c i a4 h4 a5 h5 a6 h6 a7 h7 a8 h8 a9 h9 hc0 hc1 hc2 hc3 q k v ms ac)]
  unfold kernelRun0_E
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the diagonal block: the running sums. -/
theorem a_E (hc0 hc1 hc2 hc3) (h : Fin 2) (r : Fin 512) (l : Fin 256) :
    sout0_E_1 c i a4 h4 a5 h5 a6 h6 a7 h7 a8 h8 a9 h9 hc0 hc1 hc2 hc3 q k v ms ac (ix3 h r l) = k0_pay26 (qh k h) (vh v h) (qh q h) (hd ms h) (hd ac h) (ix3 0 r l) := by
  unfold sout0_E_1
  rw [View.read_writes_eq_canon _ _ _ (scover0_E_1 c i a4 h4 a5 h5 a6 h6 a7 h7 a8 h8 a9 h9 hc0 hc1 hc2 hc3 q k v ms ac)]
  unfold kernelRun0_E
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At a block whose keys are all visible: the running maximum. -/
theorem m_F (hc0 hc1 hc2 hc3) (h : Fin 2) (r : Fin 512) (l : Fin 128) :
    sout0_F_0 c i a4 h4 a5 h5 a6 h6 a7 h7 a8 h8 a9 h9 hc0 hc1 hc2 hc3 q k v ms ac (ix3 h r l) = k0_pay20 (qh k h) (qh q h) (hd ms h) (ix3 0 r l) := by
  unfold sout0_F_0
  rw [View.read_writes_eq_canon _ _ _ (scover0_F_0 c i a4 h4 a5 h5 a6 h6 a7 h7 a8 h8 a9 h9 hc0 hc1 hc2 hc3 q k v ms ac)]
  unfold kernelRun0_F
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At a block whose keys are all visible: the running sums. -/
theorem a_F (hc0 hc1 hc2 hc3) (h : Fin 2) (r : Fin 512) (l : Fin 256) :
    sout0_F_1 c i a4 h4 a5 h5 a6 h6 a7 h7 a8 h8 a9 h9 hc0 hc1 hc2 hc3 q k v ms ac (ix3 h r l) = k0_pay19 (qh k h) (vh v h) (qh q h) (hd ms h) (hd ac h) (ix3 0 r l) := by
  unfold sout0_F_1
  rw [View.read_writes_eq_canon _ _ _ (scover0_F_1 c i a4 h4 a5 h5 a6 h6 a7 h7 a8 h8 a9 h9 hc0 hc1 hc2 hc3 q k v ms ac)]
  unfold kernelRun0_F
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the last block, when it is the diagonal one: the running maximum. -/
theorem m_G (hc0 hc1 hc2 hc3) (h : Fin 2) (r : Fin 512) (l : Fin 128) :
    sout0_G_0 c i a4 h4 a5 h5 a6 h6 a7 h7 a8 h8 a9 h9 hc0 hc1 hc2 hc3 q k v ms ac (ix3 h r l) = k0_pay27 (qh k h) (qh q h) (hd ms h) (ix3 0 r l) := by
  unfold sout0_G_0
  rw [View.read_writes_eq_canon _ _ _ (scover0_G_0 c i a4 h4 a5 h5 a6 h6 a7 h7 a8 h8 a9 h9 hc0 hc1 hc2 hc3 q k v ms ac)]
  unfold kernelRun0_G
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- At the last block, when it is the diagonal one: the running sums. -/
theorem a_G (hc0 hc1 hc2 hc3) (h : Fin 2) (r : Fin 512) (l : Fin 256) :
    sout0_G_1 c i a4 h4 a5 h5 a6 h6 a7 h7 a8 h8 a9 h9 hc0 hc1 hc2 hc3 q k v ms ac (ix3 h r l) = k0_pay26 (qh k h) (vh v h) (qh q h) (hd ms h) (hd ac h) (ix3 0 r l) := by
  unfold sout0_G_1
  rw [View.read_writes_eq_canon _ _ _ (scover0_G_1 c i a4 h4 a5 h5 a6 h6 a7 h7 a8 h8 a9 h9 hc0 hc1 hc2 hc3 q k v ms ac)]
  unfold kernelRun0_G
  dsimp only
  sl_unfold_words
  simp only [View.readAt_eq_ld, h4.read_unread, h5.read_unread, h6.read_unread,
    h7.read_unread, h8.read_unread, h9.read_unread, shapeCast_self]
  match h with
  | 0 => rw [canon_miss (h := 0) (o := 1) (by decide), canon_hit (h := 0) (o := 0) rfl]; simp only [ld_hd, ld_cols]; rfl
  | 1 => rw [canon_hit (h := 1) (o := 1) rfl]; simp only [ld_hd, ld_cols]; rfl

/-- After the last block, the quotient of the running sums. -/
theorem o_C (hc0 hc1 hc2 hc3) (h : Fin 2) (r : Fin 512) (l : Fin 128) :
    out0_C_3 c i a4 h4 a5 h5 a6 h6 a7 h7 a8 h8 a9 h9 hc0 hc1 hc2 hc3 q k v ms ac (ix2 r ⟨128 * h.val + l.val, by omega⟩) = k0_pay13 (hd ac h) (ix2 r l) := by
  unfold out0_C_3
  rw [View.read_writes_eq_canon _ _ _ (cover0_C_3 c i a4 h4 a5 h5 a6 h6 a7 h7 a8 h8 a9 h9 hc0 hc1 hc2 hc3 q k v ms ac)]
  unfold kernelRun0_C
  dsimp only
  sl_unfold_words
  simp only [View.readAt_eq_ld, h4.read_unread, h5.read_unread, h6.read_unread,
    h7.read_unread, h8.read_unread, h9.read_unread, shapeCast_self]
  match h with
  | 0 => rw [canon_col_miss _ _ _ _ _ (Or.inl (by show 128 * 0 + l.val < 128; omega)), canon_col_hit _ _ _ r l _ (by show 128 * 0 + l.val = 0 + l.val; omega)]; simp only [ld_hd, ld_cols]; rfl
  | 1 => rw [canon_col_hit _ _ _ r l _ (by show 128 * 1 + l.val = 128 + l.val; omega)]; simp only [ld_hd, ld_cols]; rfl

/-- After the last block, when it is the diagonal one, the quotient of the running sums. -/
theorem o_G (hc0 hc1 hc2 hc3) (h : Fin 2) (r : Fin 512) (l : Fin 128) :
    out0_G_3 c i a4 h4 a5 h5 a6 h6 a7 h7 a8 h8 a9 h9 hc0 hc1 hc2 hc3 q k v ms ac (ix2 r ⟨128 * h.val + l.val, by omega⟩) =
      k0_pay13 (k0_pay26 (qh k h) (vh v h) (qh q h) (hd ms h) (hd ac h)) (ix2 r l) := by
  unfold out0_G_3
  rw [View.read_writes_eq_canon _ _ _ (cover0_G_3 c i a4 h4 a5 h5 a6 h6 a7 h7 a8 h8 a9 h9 hc0 hc1 hc2 hc3 q k v ms ac)]
  unfold kernelRun0_G
  dsimp only
  sl_unfold_words
  simp only [View.readAt_eq_ld, h4.read_unread, h5.read_unread, h6.read_unread,
    h7.read_unread, h8.read_unread, h9.read_unread, shapeCast_self]
  simp (disch := decide) only [View.readCov_cons_toLoadRect, View.readCov_skip, View.readCov_fill]
  match h with
  | 0 => rw [canon_col_miss _ _ _ _ _ (Or.inl (by show 128 * 0 + l.val < 128; omega)), canon_col_hit _ _ _ r l _ (by show 128 * 0 + l.val = 0 + l.val; omega)]; simp only [ld_hd, ld_cols]; rfl
  | 1 => rw [canon_col_hit _ _ _ r l _ (by show 128 * 1 + l.val = 128 + l.val; omega)]; simp only [ld_hd, ld_cols]; rfl

end

end Cert.KernelIdeal.Flash

end
-- ==== Proof.Online.lean ====
module

public import proofs.«01_k».proof.Proof.Erl

@[expose] public section

noncomputable section

open Idealize.ShloMosaic Finset

namespace Cert.Online

/-- The greatest score of the first `j` blocks of keys. -/
def Mx {n : ℕ} (s : ℕ → Fin n → EReal) (j : ℕ) : EReal := (range j).sup fun b => univ.sup (s b)

/-- The values of the first `j` blocks weighted by the exponentials of their scores, taken off the greatest. -/
def Ac {n : ℕ} (s v : ℕ → Fin n → EReal) (j : ℕ) : EReal :=
  ∑ b ∈ range j, ∑ e, Ideal.exp (s b e - Mx s j) * v b e

variable {n : ℕ} (s v : ℕ → Fin n → EReal)

theorem Mx_zero : Mx s 0 = ⊥ := by simp [Mx]
theorem Ac_zero : Ac s v 0 = 0 := by simp [Ac]

theorem Mx_succ (j : ℕ) : Mx s (j + 1) = max (Mx s j) (univ.sup (s j)) := by
  unfold Mx
  rw [range_add_one, sup_insert, max_comm]

/-- No score above the greatest. -/
theorem le_Mx {j b : ℕ} (h : b < j) (e : Fin n) : s b e ≤ Mx s j :=
  (le_sup (f := s b) (mem_univ e)).trans (le_sup (f := fun b => univ.sup (s b)) (mem_range.2 h))

/-- Scores below infinity have their greatest below infinity. -/
theorem Mx_ne_top (hs : ∀ b e, s b e ≠ ⊤) (j : ℕ) : Mx s j ≠ ⊤ := by
  refine ne_of_lt ((Finset.sup_lt_iff (by simp)).2 fun b _ => (Finset.sup_lt_iff (by simp)).2 fun e _ => ?_)
  exact lt_top_iff_ne_top.2 (hs b e)

/-- Moving the offset from `M` up to `M'` multiplies by `exp (M - M')`. -/
theorem exp_shift {x M M' : EReal} (hx : x ≤ M) (hM : M ≤ M') (ht : M' ≠ ⊤) :
    Ideal.exp (M - M') * Ideal.exp (x - M) = Ideal.exp (x - M') := by
  induction x with
  | bot => simp [EReal.bot_sub]
  | top => exact absurd (top_le_iff.1 (hx.trans hM)) ht
  | coe x =>
    induction M with
    | bot => exact absurd hx (by simp)
    | top => exact absurd (top_le_iff.1 hM) ht
    | coe M =>
      induction M' with
      | bot => exact absurd hM (by simp)
      | top => exact absurd rfl ht
      | coe M' =>
        rw [← EReal.coe_sub, ← EReal.coe_sub, ← EReal.coe_sub, Ideal.exp_coe, Ideal.exp_coe, Ideal.exp_coe,
          ← EReal.coe_mul, ← Real.exp_add]
        congr 2; ring

/-- The exponential of a difference from a greater number is finite. -/
theorem exp_ne_top {x M : EReal} (hx : x ≤ M) (ht : M ≠ ⊤) : Ideal.exp (x - M) ≠ ⊤ := by
  induction x with
  | bot => simp [EReal.bot_sub]
  | top => exact absurd (top_le_iff.1 hx) ht
  | coe x =>
    induction M with
    | bot => exact absurd hx (by simp)
    | top => exact absurd rfl ht
    | coe M => rw [← EReal.coe_sub, Ideal.exp_coe]; exact EReal.coe_ne_top _

/-- One block more: what was held, moved to the new greatest score, plus the block's own terms. -/
theorem Ac_succ (hs : ∀ b e, s b e ≠ ⊤) (j : ℕ) :
    Ideal.exp (Mx s j - Mx s (j + 1)) * Ac s v j + ∑ e, Ideal.exp (s j e - Mx s (j + 1)) * v j e = Ac s v (j + 1) := by
  have hle : Mx s j ≤ Mx s (j + 1) := by rw [Mx_succ]; exact le_max_left _ _
  have ht := Mx_ne_top s hs (j + 1)
  unfold Ac
  rw [sum_range_succ _ j, Erl.mul_sum _ _ (Erl.exp_nonneg _) (exp_ne_top hle ht)]
  congr 1
  refine sum_congr rfl fun b hb => ?_
  rw [Erl.mul_sum _ _ (Erl.exp_nonneg _) (exp_ne_top hle ht)]
  refine sum_congr rfl fun e _ => ?_
  rw [← mul_assoc, exp_shift (le_Mx s (mem_range.1 hb) e) hle ht]

/-- A block whose scores are all minus infinity changes neither the greatest score -/
theorem Mx_skip {j : ℕ} (h : ∀ e, s j e = ⊥) : Mx s (j + 1) = Mx s j := by
  rw [Mx_succ, show s j = fun _ => ⊥ from funext h]
  simp

/-- nor the weighted values. -/
theorem Ac_skip {j : ℕ} (h : ∀ e, s j e = ⊥) : Ac s v (j + 1) = Ac s v j := by
  unfold Ac
  rw [sum_range_succ, Mx_skip s h]
  simp [h, EReal.bot_sub]

/-- The greatest of finitely many blocks of scores, one of them finite, is finite. -/
theorem Mx_coe (hs : ∀ b e, s b e ≠ ⊤) {j b : ℕ} (hb : b < j) {e : Fin n} (he : s b e ≠ ⊥) :
    ∃ M : ℝ, Mx s j = M := by
  have h1 := Mx_ne_top s hs j
  have h2 : Mx s j ≠ ⊥ := fun h => he (le_bot_iff.1 (h ▸ le_Mx s hb e))
  exact ⟨_, (EReal.coe_toReal h1 h2).symm⟩

/-- The sum of the weights is a positive real. -/
theorem L_coe (hs : ∀ b e, s b e ≠ ⊤) {j b : ℕ} (hb : b < j) {e : Fin n} (he : s b e ≠ ⊥) :
    ∃ L : ℝ, 0 < L ∧ Ac s (fun _ _ => 1) j = L := by
  obtain ⟨M, hM⟩ := Mx_coe s hs hb he
  have hterm : ∀ b e, b < j → ∃ y : ℝ, 0 ≤ y ∧ Ideal.exp (s b e - Mx s j) = y ∧ (s b e ≠ ⊥ → 0 < y) := by
    intro b e hb
    have h1 := hs b e
    generalize s b e = x at h1
    rw [hM]
    induction x with
    | bot => exact ⟨0, le_rfl, by simp [EReal.bot_sub], fun h => absurd rfl h⟩
    | top => exact absurd rfl h1
    | coe x => exact ⟨Real.exp (x - M), (Real.exp_pos _).le, by rw [← EReal.coe_sub, Ideal.exp_coe], fun _ => Real.exp_pos _⟩
  have hex : ∀ b e, ∃ y : ℝ, b < j → 0 ≤ y ∧ Ideal.exp (s b e - Mx s j) = y ∧ (s b e ≠ ⊥ → 0 < y) := by
    intro b e
    by_cases h : b < j
    · obtain ⟨y, hy⟩ := hterm b e h; exact ⟨y, fun _ => hy⟩
    · exact ⟨0, fun h' => absurd h' h⟩
  choose y hy using hex
  refine ⟨∑ b ∈ range j, ∑ e, y b e, ?_, ?_⟩
  · have hn : ∀ b ∈ range j, 0 ≤ ∑ e, y b e := fun b hb => sum_nonneg fun e _ => (hy b e (mem_range.1 hb)).1
    refine sum_pos' hn ⟨b, mem_range.2 hb, ?_⟩
    exact sum_pos' (fun e _ => (hy b e hb).1) ⟨e, mem_univ _, (hy b e hb).2.2 he⟩
  · unfold Ac
    rw [Erl.coe_sum]
    refine sum_congr rfl fun b hb => ?_
    rw [Erl.coe_sum]
    refine sum_congr rfl fun e _ => ?_
    rw [mul_one, (hy b e (mem_range.1 hb)).2.1]

/-- The quotient of the two running sums is the sum of the values weighted by the normalised exponentials. -/
theorem final (hs : ∀ b e, s b e ≠ ⊤) {j b : ℕ} (hb : b < j) {e : Fin n} (he : s b e ≠ ⊥) :
    Ideal.div (Ac s v j) (Ac s (fun _ _ => 1) j) =
      ∑ b ∈ range j, ∑ e, Ideal.div (Ideal.exp (s b e - Mx s j)) (Ac s (fun _ _ => 1) j) * v b e := by
  obtain ⟨L, hL, hLe⟩ := L_coe s hs hb he
  have hi : (0 : EReal) ≤ ((1 / L : ℝ) : EReal) := by exact_mod_cast (by positivity : (0 : ℝ) ≤ 1 / L)
  rw [hLe, Ideal.div_coe hL.ne', mul_comm]
  unfold Ac
  rw [Erl.mul_sum _ _ hi (EReal.coe_ne_top _)]
  refine sum_congr rfl fun b _ => ?_
  rw [Erl.mul_sum _ _ hi (EReal.coe_ne_top _)]
  refine sum_congr rfl fun e _ => ?_
  rw [Ideal.div_coe hL.ne', ← mul_assoc, mul_comm _ (Ideal.exp _)]

/-- The maximum folded from minus infinity is the supremum. -/
theorem fold_max (f : Fin n → EReal) : univ.fold max (Ideal.ofBits FTy.f32 0xFF800000#32) f = univ.sup f := by
  rw [show (Ideal.ofBits FTy.f32 0xFF800000#32 : EReal) = ⊥ by rfl]
  rfl

/-- A selection by the comparison of two small positions. -/
theorem sel_le (e r : ℕ) (he : e < 2 ^ 31) (hr : r < 2 ^ 31) (x y : EReal) :
    Scalar.select (IntOp.cmpi CmpIPredicate.sle (BitVec.ofNat 32 e) (BitVec.ofNat 32 r)) x y = if e ≤ r then x else y := by
  have h1 : BitVec.sle (BitVec.ofNat 32 e) (BitVec.ofNat 32 r) = decide (e ≤ r) := by
    have h1 : (BitVec.ofNat 32 e).toInt = e := by rw [BitVec.toInt_eq_toNat_of_lt (by rw [BitVec.toNat_ofNat]; omega), BitVec.toNat_ofNat]; omega
    have h2 : (BitVec.ofNat 32 r).toInt = r := by rw [BitVec.toInt_eq_toNat_of_lt (by rw [BitVec.toNat_ofNat]; omega), BitVec.toNat_ofNat]; omega
    rw [BitVec.sle, h1, h2]
    simp
  unfold Scalar.select IntOp.cmpi
  simp only [h1]
  by_cases h : e ≤ r <;> simp [h]

/-- Blocks that are the pieces of one row have its greatest entry. -/
theorem Mx_tiles {N J : ℕ} (f : Fin N → EReal)
    (hf : ∀ x : Fin N, ∃ j, j < J ∧ ∃ e, s j e = f x)
    (hb : ∀ j, j < J → ∀ e, ∃ x, s j e = f x) : Mx s J = univ.sup f := by
  apply le_antisymm
  · refine Finset.sup_le fun j hj => Finset.sup_le fun e _ => ?_
    obtain ⟨x, hx⟩ := hb j (mem_range.1 hj) e
    rw [hx]
    exact le_sup (mem_univ x)
  · refine Finset.sup_le fun x _ => ?_
    obtain ⟨j, hj, e, he⟩ := hf x
    rw [← he]
    exact le_Mx s hj e

/-- A row cut into blocks: the quotient of the running sums is the softmax-weighted sum over the whole row. -/
theorem softmax_tiles {N J : ℕ} (hN : J * n = N) (f g : Fin N → EReal)
    (hs : ∀ (j : Fin J) (e : Fin n) (h : j.val * n + e.val < N), s j.val e = f ⟨j.val * n + e.val, h⟩)
    (hv : ∀ (j : Fin J) (e : Fin n) (h : j.val * n + e.val < N), v j.val e = g ⟨j.val * n + e.val, h⟩)
    (ht : ∀ b e, s b e ≠ ⊤) {b : ℕ} (hb : b < J) {e : Fin n} (he : s b e ≠ ⊥) :
    Ideal.div (Ac s v J) (Ac s (fun _ _ => 1) J) =
      ∑ x, Ideal.div (Ideal.exp (f x - univ.sup f)) (∑ y, Ideal.exp (f y - univ.sup f)) * g x := by
  have hlt : ∀ (j : Fin J) (e : Fin n), j.val * n + e.val < N := fun j e => by
    have h1 := j.isLt
    have h2 := e.isLt
    calc j.val * n + e.val < (j.val + 1) * n := by rw [Nat.add_mul, Nat.one_mul]; omega
      _ ≤ J * n := Nat.mul_le_mul_right _ h1
      _ = N := hN
  have hM : Mx s J = univ.sup f := by
    refine Mx_tiles s f (fun x => ?_) (fun j hj e => ⟨_, hs ⟨j, hj⟩ e (hlt ⟨j, hj⟩ e)⟩)
    have hx := x.isLt
    have hj : x.val / n < J := Nat.div_lt_of_lt_mul (by rw [Nat.mul_comm]; omega)
    have hm : x.val % n < n := Nat.mod_lt _ (Nat.pos_of_ne_zero fun h => by subst h; omega)
    refine ⟨_, hj, ⟨_, hm⟩, (hs ⟨_, hj⟩ ⟨_, hm⟩ (hlt ⟨_, hj⟩ ⟨_, hm⟩)).trans (congrArg f (Fin.ext ?_))⟩
    show x.val / n * n + x.val % n = x.val
    rw [Nat.mul_comm]
    exact Nat.div_add_mod _ _
  have hL : Ac s (fun _ _ => 1) J = ∑ y, Ideal.exp (f y - univ.sup f) := by
    unfold Ac
    rw [hM, sum_range, Fin.sum_univ_tiles J n hN]
    refine sum_congr rfl fun j _ => sum_congr rfl fun e _ => ?_
    rw [hs j e (hlt j e), mul_one]
  rw [final s v ht hb he, hL, hM, sum_range]
  refine Eq.trans ?_ (Fin.sum_univ_tiles J n hN _).symm
  refine sum_congr rfl fun j _ => sum_congr rfl fun e _ => ?_
  rw [hs j e (hlt j e), hv j e (hlt j e)]

/-- The entry of a matrix at two positions given as numbers. -/
def at2 {n m : ℕ} (x : (⟨2, ![n, m]⟩ : Shape).Idx → EReal) (i j : ℕ) : EReal :=
  if h : i < n ∧ j < m then x (ix2 ⟨i, h.1⟩ ⟨j, h.2⟩) else 0

theorem at2_mk {n m : ℕ} (x : (⟨2, ![n, m]⟩ : Shape).Idx → EReal) (i : Fin n) (j : Fin m) : x (ix2 i j) = at2 x i.val j.val := by
  unfold at2
  rw [dif_pos ⟨i.isLt, j.isLt⟩]

theorem at2_of {n m : ℕ} (x : (⟨2, ![n, m]⟩ : Shape).Idx → EReal) (i : Fin n) (j : Fin m) {a b : ℕ} (ha : i.val = a) (hb : j.val = b) :
    x (ix2 i j) = at2 x a b := by
  rw [at2_mk x i j, ha, hb]

/-- A matrix of reals has a real at every position. -/
theorem at2_coe {n m : ℕ} (x : (⟨2, ![n, m]⟩ : Shape).Idx → EReal) (h : ∀ i, ∃ y : ℝ, x i = y) (i j : ℕ) : ∃ y : ℝ, at2 x i j = y := by
  unfold at2
  split
  · exact h _
  · exact ⟨0, by simp⟩

/-- A sum of products of reals is a real. -/
theorem dot_coe {d : ℕ} (f g : Fin d → EReal) (hf : ∀ i, ∃ y : ℝ, f i = y) (hg : ∀ i, ∃ y : ℝ, g i = y) : ∃ y : ℝ, ∑ i, f i * g i = y := by
  choose a ha using hf
  choose b hb using hg
  refine ⟨∑ i, a i * b i, ?_⟩
  rw [Erl.coe_sum]
  exact sum_congr rfl fun i _ => by rw [ha, hb, EReal.coe_mul]

/-- An entry whose absolute value is found below infinity is a real. -/
theorem real_of_lt {x : EReal}
    (h : FloatOps.cmpf (F := Ideal) (φ := .f32) .olt (max x (-x) : EReal) (Ideal.ofBits FTy.f32 0x7F800000#32) = 1#1) :
    ∃ y : ℝ, x = y := by
  have hi : (Ideal.ofBits FTy.f32 0x7F800000#32 : EReal) = ⊤ := by rfl
  rw [hi, Ideal.cmpf_def] at h
  induction x with
  | bot => simp [Ideal.cmp] at h
  | top => simp [Ideal.cmp] at h
  | coe x => exact ⟨x, rfl⟩

end Cert.Online
-- ==== Proof.FlashStep.lean ====
module

public import proofs.«01_k».proof.Proof.FlashOpen
public import proofs.«01_k».proof.Proof.Online

@[expose] public section

set_option maxRecDepth 16384

noncomputable section

open Idealize.ShloMosaic Idealize.ShloMosaic.TcCoe Idealize.SL.Sem

/-! One block of keys, for one head of the latent attention: the running maximum and sums go one block further. -/

namespace Cert.KernelIdeal.Flash

open Cert.KernelIdeal Cert.KernelIdeal.Gen Cert.Heads Cert.Online

/-- The score of query row `r` and key row `e`. -/
def sc (q k : Vec Ideal S512x256 .bf16) (r e : Fin 512) : EReal := ∑ d, q (ix2 r d) * k (ix2 e d)

/-- The score kept on and below the diagonal. -/
def scD (q k : Vec Ideal S512x256 .bf16) (r e : Fin 512) : EReal := if e.val ≤ r.val then sc q k r e else ⊥

/-- The values beside a column block of ones. -/
def v1 (v : Vec Ideal S512x128 .bf16) (e : Fin 512) (l : Fin 256) : EReal :=
  if h : l.val < 128 then v (ix2 e ⟨l.val, h⟩) else 1

theorem sel_eq (e r : Fin 512) (x : EReal) :
    Scalar.select (IntOp.cmpi CmpIPredicate.sle (BitVec.ofNat 32 e.val) (BitVec.ofNat 32 r.val)) x
      (Named.named (F := Ideal) (φ := .f32) κ "mask" 0xF149F2CA#32) = if e.val ≤ r.val then x else ⊥ :=
  sel_le _ _ (by omega) (by omega) _ _

variable (k q : Vec Ideal S512x256 .bf16) (v : Vec Ideal S512x128 .bf16) (mp : Vec Ideal S1x512x128 .f32)
  (ap : Vec Ideal S1x512x256 .f32) (S : Fin 512 → ℕ → Fin 512 → EReal) (W : Fin 256 → ℕ → Fin 512 → EReal) (j : ℕ)

theorem m_full (hm : ∀ r l, mp (ix3 0 r l) = Mx (S r) j) (hs : ∀ r e, sc q k r e = S r j e) (r : Fin 512) (l : Fin 128) :
    k0_pay20 (F := Ideal) k q mp (ix3 0 r l) = Mx (S r) (j + 1) := by
  unfold sc at hs
  pointwise [k0_pay20, k0_pay19, k0_pay18, k0_pay17, k0_pay16, k0_pay15]
  simp only [hm, hs, fold_max, Mx_succ]

theorem a_full (hm : ∀ r l, mp (ix3 0 r l) = Mx (S r) j) (ha : ∀ r l, ap (ix3 0 r l) = Ac (S r) (W l) j)
    (hs : ∀ r e, sc q k r e = S r j e) (hv : ∀ e l, v1 v e l = W l j e) (ht : ∀ r b e, S r b e ≠ ⊤) (r : Fin 512) (l : Fin 256) :
    k0_pay19 (F := Ideal) k v q mp ap (ix3 0 r l) = Ac (S r) (W l) (j + 1) := by
  unfold sc at hs
  unfold v1 at hv
  pointwise [k0_pay20, k0_pay19, k0_pay18, k0_pay17, k0_pay16, k0_pay15]
  simp only [hm, ha, hs, fold_max, dite_eq_ite, ite_self, ← Mx_succ, hv, Ac_succ _ _ (ht r)]

theorem m_diag (hm : ∀ r l, mp (ix3 0 r l) = Mx (S r) j) (hs : ∀ r e, scD q k r e = S r j e) (r : Fin 512) (l : Fin 128) :
    k0_pay27 (F := Ideal) k q mp (ix3 0 r l) = Mx (S r) (j + 1) := by
  unfold scD sc at hs
  pointwise [k0_pay27, k0_pay26, k0_pay25, k0_pay24, k0_pay23, k0_pay22, k0_pay21]
  simp only [sel_eq, hm, hs, fold_max, Mx_succ]

theorem a_diag (hm : ∀ r l, mp (ix3 0 r l) = Mx (S r) j) (ha : ∀ r l, ap (ix3 0 r l) = Ac (S r) (W l) j)
    (hs : ∀ r e, scD q k r e = S r j e) (hv : ∀ e l, v1 v e l = W l j e) (ht : ∀ r b e, S r b e ≠ ⊤) (r : Fin 512) (l : Fin 256) :
    k0_pay26 (F := Ideal) k v q mp ap (ix3 0 r l) = Ac (S r) (W l) (j + 1) := by
  unfold scD sc at hs
  unfold v1 at hv
  pointwise [k0_pay27, k0_pay26, k0_pay25, k0_pay24, k0_pay23, k0_pay22, k0_pay21]
  simp only [sel_eq, hm, ha, hs, fold_max, dite_eq_ite, ite_self, ← Mx_succ, hv, Ac_succ _ _ (ht r)]

end Cert.KernelIdeal.Flash

end
-- ==== Proof.FlashValue.lean ====
module

public import proofs.«01_k».proof.Proof.FlashStep
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

/-! The latent attention's grid: what the scratch holds after every point, and the array the run leaves. -/

namespace Cert.KernelIdeal.Flash

open Cert.KernelIdeal Cert.KernelIdeal.Gen Cert.Heads Cert.Online

variable (m : (ℓ : Loc nD τ sig) → Buf (Elt Ideal) ℓ)

/-- The queries. -/
abbrev Q (c : Dev nD) : Vec Ideal S8192x2048 .bf16 := m ((c : Thread nD τ).loc main_arg0)
/-- The keys. -/
abbrev K (c : Dev nD) : Vec Ideal S8192x2048 .bf16 := m ((c : Thread nD τ).loc main_arg1)
/-- The values. -/
abbrev Vv (c : Dev nD) : Vec Ideal S8192x1024 .bf16 := m ((c : Thread nD τ).loc main_arg2)

/-- The score of query position `p` and key `e` of block `j`, in prompt `b` and head `h`, where the key is not after the query. -/
def Sc (q k : Vec Ideal S8192x2048 .bf16) (b h p j : ℕ) (e : Fin 512) : EReal :=
  if j * 512 + e.val ≤ p then
    ∑ d : Fin 256, at2 q (b * 2048 + p) (h * 256 + d.val) * at2 k (b * 2048 + (j * 512 + e.val)) (h * 256 + d.val)
  else ⊥

/-- Column `l` of the values of key `e` of block `j`, then ones. -/
def Wt (v : Vec Ideal S8192x1024 .bf16) (b h l j : ℕ) (e : Fin 512) : EReal :=
  if l < 128 then at2 v (b * 2048 + (j * 512 + e.val)) (h * 128 + l) else 1

theorem idx0 : ∀ t : Fin cfg0.N, win0_0.index t 0 = t.val / 64 * 4 + t.val / 4 % 4 ∧ win0_0.index t 1 = t.val / 16 % 4 :=
  (by decide +kernel : ∀ t : Fin grid0.N, _)
theorem idx1 : ∀ t : Fin cfg0.N, win0_1.index t 0 = t.val / 64 * 4 + min (t.val / 4 % 4) (t.val % 4) ∧ win0_1.index t 1 = t.val / 16 % 4 :=
  (by decide +kernel : ∀ t : Fin grid0.N, _)
theorem idx2 : ∀ t : Fin cfg0.N, win0_2.index t 0 = t.val / 64 * 4 + min (t.val / 4 % 4) (t.val % 4) ∧ win0_2.index t 1 = t.val / 16 % 4 :=
  (by decide +kernel : ∀ t : Fin grid0.N, _)
theorem idx3 : ∀ t : Fin cfg0.N, win0_3.index t 0 = t.val / 64 * 4 + t.val / 4 % 4 ∧ win0_3.index t 1 = t.val / 16 % 4 :=
  (by decide +kernel : ∀ t : Fin grid0.N, _)

theorem ptLt (t : Fin cfg0.N) : t.val < 256 := lt_of_lt_of_eq t.isLt (show cfg0.N = 256 from N_0)

theorem blk0 (c : Dev nD) (t : Fin cfg0.N) (r d : Fin 512) :
    (iblk m c 0 t : Vec Ideal S512x512 .bf16) (ix2 r d) =
      at2 (Q m c) ((t.val / 64 * 4 + t.val / 4 % 4) * 512 + r.val) (t.val / 16 % 4 * 512 + d.val) := by
  have := ptLt t
  rw [← at2_of (Q m c) ⟨(t.val / 64 * 4 + t.val / 4 % 4) * 512 + r.val, by omega⟩ ⟨t.val / 16 % 4 * 512 + d.val, by omega⟩ rfl rfl]
  unfold iblk
  rw [View.read_apply]
  show V m c main_arg0 _ = _
  rw [V_main_arg0]
  congr 1
  funext a
  apply Fin.ext
  match a with
  | ⟨0, _⟩ => show win0_0.index t 0 * 512 + 1 * r.val = (t.val / 64 * 4 + t.val / 4 % 4) * 512 + r.val; rw [(idx0 t).1]; omega
  | ⟨1, _⟩ => show win0_0.index t 1 * 512 + 1 * d.val = t.val / 16 % 4 * 512 + d.val; rw [(idx0 t).2]; omega

theorem blk1 (c : Dev nD) (t : Fin cfg0.N) (r d : Fin 512) :
    (iblk m c 1 t : Vec Ideal S512x512 .bf16) (ix2 r d) =
      at2 (K m c) ((t.val / 64 * 4 + min (t.val / 4 % 4) (t.val % 4)) * 512 + r.val) (t.val / 16 % 4 * 512 + d.val) := by
  have := ptLt t
  rw [← at2_of (K m c) ⟨(t.val / 64 * 4 + min (t.val / 4 % 4) (t.val % 4)) * 512 + r.val, by omega⟩ ⟨t.val / 16 % 4 * 512 + d.val, by omega⟩ rfl rfl]
  unfold iblk
  rw [View.read_apply]
  show V m c main_arg1 _ = _
  rw [V_main_arg1]
  congr 1
  funext a
  apply Fin.ext
  match a with
  | ⟨0, _⟩ => show win0_1.index t 0 * 512 + 1 * r.val = (t.val / 64 * 4 + min (t.val / 4 % 4) (t.val % 4)) * 512 + r.val; rw [(idx1 t).1]; omega
  | ⟨1, _⟩ => show win0_1.index t 1 * 512 + 1 * d.val = t.val / 16 % 4 * 512 + d.val; rw [(idx1 t).2]; omega

theorem blk2 (c : Dev nD) (t : Fin cfg0.N) (r : Fin 512) (d : Fin 256) :
    (iblk m c 2 t : Vec Ideal S512x256 .bf16) (ix2 r d) =
      at2 (Vv m c) ((t.val / 64 * 4 + min (t.val / 4 % 4) (t.val % 4)) * 512 + r.val) (t.val / 16 % 4 * 256 + d.val) := by
  have := ptLt t
  rw [← at2_of (Vv m c) ⟨(t.val / 64 * 4 + min (t.val / 4 % 4) (t.val % 4)) * 512 + r.val, by omega⟩ ⟨t.val / 16 % 4 * 256 + d.val, by omega⟩ rfl rfl]
  unfold iblk
  rw [View.read_apply]
  show V m c main_arg2 _ = _
  rw [V_main_arg2]
  congr 1
  funext a
  apply Fin.ext
  match a with
  | ⟨0, _⟩ => show win0_2.index t 0 * 512 + 1 * r.val = (t.val / 64 * 4 + min (t.val / 4 % 4) (t.val % 4)) * 512 + r.val; rw [(idx2 t).1]; omega
  | ⟨1, _⟩ => show win0_2.index t 1 * 256 + 1 * d.val = t.val / 16 % 4 * 256 + d.val; rw [(idx2 t).2]; omega

/-- The scores of row `r` of head `h` at point `t`. -/
abbrev St (c : Dev nD) (n : ℕ) (h : Fin 2) (r : Fin 512) : ℕ → Fin 512 → EReal :=
  Sc (Q m c) (K m c) (n / 64) (2 * (n / 16 % 4) + h.val) (n / 4 % 4 * 512 + r.val)
/-- The values of head `h` at point `t`. -/
abbrev Vt (c : Dev nD) (n : ℕ) (h : Fin 2) (l : Fin 256) : ℕ → Fin 512 → EReal :=
  Wt (Vv m c) (n / 64) (2 * (n / 16 % 4) + h.val) l.val

theorem hs_full (c : Dev nD) (t : Fin cfg0.N) (hle : t.val % 4 + 1 ≤ t.val / 4 % 4) (h : Fin 2) (r e : Fin 512) :
    sc (qh (iblk m c 0 t) h) (qh (iblk m c 1 t) h) r e = St m c t.val h r (t.val % 4) e := by
  unfold sc St Sc
  rw [if_pos (by omega)]
  refine Finset.sum_congr rfl fun d _ => ?_
  refine congrArg₂ (· * ·) ((blk0 m c t r ⟨256 * h.val + d.val, by omega⟩).trans ?_) ((blk1 m c t e ⟨256 * h.val + d.val, by omega⟩).trans ?_)
  · congr 1 <;> first | omega | (dsimp only; omega)
  · congr 1 <;> first | omega | (dsimp only; omega)

theorem hs_diag (c : Dev nD) (t : Fin cfg0.N) (he : t.val / 4 % 4 = t.val % 4) (h : Fin 2) (r e : Fin 512) :
    scD (qh (iblk m c 0 t) h) (qh (iblk m c 1 t) h) r e = St m c t.val h r (t.val % 4) e := by
  unfold scD sc St Sc
  refine if_congr (by omega) ?_ rfl
  refine Finset.sum_congr rfl fun d _ => ?_
  refine congrArg₂ (· * ·) ((blk0 m c t r ⟨256 * h.val + d.val, by omega⟩).trans ?_) ((blk1 m c t e ⟨256 * h.val + d.val, by omega⟩).trans ?_)
  · congr 1 <;> first | omega | (dsimp only; omega)
  · congr 1 <;> first | omega | (dsimp only; omega)

theorem hv_any (c : Dev nD) (t : Fin cfg0.N) (he : t.val % 4 ≤ t.val / 4 % 4) (h : Fin 2) (e : Fin 512) (l : Fin 256) :
    v1 (vh (iblk m c 2 t) h) e l = Vt m c t.val h l (t.val % 4) e := by
  unfold v1 Vt Wt
  by_cases hl : l.val < 128
  · rw [dif_pos hl, if_pos hl]
    refine (blk2 m c t e ⟨128 * h.val + l.val, by omega⟩).trans ?_
    congr 1 <;> first | omega | (dsimp only; omega)
  · rw [dif_neg hl, if_neg hl]

theorem st_skip (c : Dev nD) (n : ℕ) (hn : n / 4 % 4 < n % 4) (h : Fin 2) (r e : Fin 512) : St m c n h r (n % 4) e = ⊥ := by
  unfold St Sc
  rw [if_neg (by omega)]

/-- Real queries and keys have scores below infinity. -/
theorem sc_ne_top (q k : Vec Ideal S8192x2048 .bf16) (hq : ∀ i, ∃ y : ℝ, (q i : EReal) = y) (hk : ∀ i, ∃ y : ℝ, (k i : EReal) = y) (b h p j : ℕ) (e : Fin 512) :
    Sc q k b h p j e ≠ ⊤ := by
  unfold Sc
  split
  · obtain ⟨y, hy⟩ := dot_coe (fun d : Fin 256 => at2 q (b * 2048 + p) (h * 256 + d.val))
      (fun d => at2 k (b * 2048 + (j * 512 + e.val)) (h * 256 + d.val)) (fun _ => at2_coe q hq _ _) (fun _ => at2_coe k hk _ _)
    rw [hy]
    exact EReal.coe_ne_top y
  · exact bot_ne_top

theorem sc_ne_bot (q k : Vec Ideal S8192x2048 .bf16) (hq : ∀ i, ∃ y : ℝ, (q i : EReal) = y) (hk : ∀ i, ∃ y : ℝ, (k i : EReal) = y) (b h p : ℕ) :
    Sc q k b h p 0 0 ≠ ⊥ := by
  unfold Sc
  rw [if_pos (by simp)]
  obtain ⟨y, hy⟩ := dot_coe (fun d : Fin 256 => at2 q (b * 2048 + p) (h * 256 + d.val))
    (fun d => at2 k (b * 2048 + (0 * 512 + (0 : Fin 512).val)) (h * 256 + d.val)) (fun _ => at2_coe q hq _ _) (fun _ => at2_coe k hk _ _)
  rw [hy]
  exact EReal.coe_ne_bot y

theorem ms_init (r : Fin 512) (l : Fin 128) (h : Fin 2) : (k0_pay1 (F := Ideal)) (ix3 h r l) = (⊥ : EReal) := by
  pointwise [k0_pay1]
  rfl

theorem ac_init (r : Fin 512) (l : Fin 256) (h : Fin 2) : (k0_pay2 (F := Ideal)) (ix3 h r l) = (0 : EReal) := by
  pointwise [k0_pay2]

/-- After point `n` the scratch holds the running maximum and sums of the blocks of keys met so far, and after a last block the
    output block holds their quotient. -/
def Inv (c : Dev nD) (n : ℕ) (o : Vec Ideal S512x256 .bf16 × Vec Ideal S2x512x128 .f32 × Vec Ideal S2x512x256 .f32) : Prop :=
  (∀ h r l, o.2.1 (ix3 h r l) = Mx (St m c n h r) (n % 4 + 1)) ∧
    (∀ h r l, o.2.2 (ix3 h r l) = Ac (St m c n h r) (Vt m c n h l) (n % 4 + 1)) ∧
    (n % 4 = 3 → ∀ (h : Fin 2) (r : Fin 512) (l : Fin 128), o.1 (ix2 r ⟨128 * h.val + l.val, by omega⟩) =
      Ideal.div (Ac (St m c n h r) (Vt m c n h ⟨l.val, by omega⟩) 4) (Ac (St m c n h r) (fun _ _ => 1) 4))

/-- The quotient of the running sums after a last block. -/
theorem quo (c : Dev nD) (n : ℕ) (a : Vec Ideal S1x512x256 .f32) (h : Fin 2)
    (ha : ∀ r l, a (ix3 0 r l) = Ac (St m c n h r) (Vt m c n h l) (n % 4 + 1)) (h3 : n % 4 = 3) (r : Fin 512) (l : Fin 128) :
    k0_pay13 (F := Ideal) a (ix2 r l) =
      Ideal.div (Ac (St m c n h r) (Vt m c n h ⟨l.val, by omega⟩) 4) (Ac (St m c n h r) (fun _ _ => 1) 4) := by
  have hone : Vt m c n h ⟨128 + l.val, by omega⟩ = fun _ _ => 1 := by
    funext j e; unfold Vt Wt; rw [if_neg (by show ¬ 128 + l.val < 128; omega)]
  pointwise [k0_pay13]
  rw [ha, ha, hone, h3]

variable (hq : ∀ c i, ∃ y : ℝ, (Q m c i : EReal) = y) (hk : ∀ c i, ∃ y : ℝ, (K m c i : EReal) = y)
include hq hk

theorem ht (c : Dev nD) (n : ℕ) (h : Fin 2) (r : Fin 512) (b : ℕ) (e : Fin 512) : St m c n h r b e ≠ ⊤ :=
  sc_ne_top _ _ (hq c) (hk c) _ _ _ _ _

/-- The first block of keys, when it is the diagonal one. -/
theorem inv_A (c : Dev nD) (n : ℕ) (hn : n < cfg0.N) (h0 : n % 4 = 0) (h2 : n / 4 % 4 = n % 4) : Inv m c n (outsAt0 m c n hn) := by
  rw [outsAt0_A m c ⟨n, hn⟩ h0 (by dsimp only; omega) h2 (by dsimp only; omega)]
  refine ⟨fun h r l => ?_, fun h r l => ?_, fun h3 => absurd h3 (by omega)⟩
  · dsimp only
    rw [m_A]
    exact m_diag _ _ _ (St m c n h) (n % 4) (fun r l => (ms_init r l h).trans (by rw [h0, Mx_zero])) (hs_diag m c ⟨n, hn⟩ h2 h) r l
  · dsimp only
    rw [a_A]
    exact a_diag _ _ _ _ _ (St m c n h) (Vt m c n h) (n % 4) (fun r l => (ms_init r l h).trans (by rw [h0, Mx_zero]))
      (fun r l => (ac_init r l h).trans (by rw [h0, Ac_zero])) (hs_diag m c ⟨n, hn⟩ h2 h) (hv_any m c ⟨n, hn⟩ (by dsimp only; omega) h)
      (ht m hq hk c n h) r l

/-- The first block of keys, when every key is visible. -/
theorem inv_D (c : Dev nD) (n : ℕ) (hn : n < cfg0.N) (h0 : n % 4 = 0) (h1 : n % 4 + 1 ≤ n / 4 % 4) : Inv m c n (outsAt0 m c n hn) := by
  rw [outsAt0_D m c ⟨n, hn⟩ h0 h1 (by dsimp only; omega) (by dsimp only; omega)]
  refine ⟨fun h r l => ?_, fun h r l => ?_, fun h3 => absurd h3 (by omega)⟩
  · dsimp only
    rw [m_D]
    exact m_full _ _ _ (St m c n h) (n % 4) (fun r l => (ms_init r l h).trans (by rw [h0, Mx_zero])) (hs_full m c ⟨n, hn⟩ h1 h) r l
  · dsimp only
    rw [a_D]
    exact a_full _ _ _ _ _ (St m c n h) (Vt m c n h) (n % 4) (fun r l => (ms_init r l h).trans (by rw [h0, Mx_zero]))
      (fun r l => (ac_init r l h).trans (by rw [h0, Ac_zero])) (hs_full m c ⟨n, hn⟩ h1 h) (hv_any m c ⟨n, hn⟩ (by dsimp only; omega) h)
      (ht m hq hk c n h) r l

/-- The point before, seen from a point that is not the first of its row of blocks. -/
theorem inv_prev (c : Dev nD) (n : ℕ) (h0 : ¬(n + 1) % 4 = 0) (o) (hi : Inv m c n o) :
    (∀ h r l, o.2.1 (ix3 h r l) = Mx (St m c (n + 1) h r) ((n + 1) % 4)) ∧
    (∀ h r l, o.2.2 (ix3 h r l) = Ac (St m c (n + 1) h r) (Vt m c (n + 1) h l) ((n + 1) % 4)) := by
  have e1 : (n + 1) / 64 = n / 64 := by omega
  have e2 : (n + 1) / 16 = n / 16 := by omega
  have e3 : (n + 1) / 4 = n / 4 := by omega
  have e4 : (n + 1) % 4 = n % 4 + 1 := by omega
  obtain ⟨i1, i2, -⟩ := hi
  unfold St at i1
  unfold St Vt at i2 ⊢
  rw [e1, e2, e3, e4]
  exact ⟨i1, i2⟩

/-- After every point. -/
theorem state (c : Dev nD) : ∀ (n : ℕ) (hn : n < cfg0.N), Inv m c n (outsAt0 m c n hn) := by
  intro n
  induction n with
  | zero => intro hn; exact inv_A m hq hk c 0 hn rfl rfl
  | succ n ih =>
    intro hn
    by_cases h0 : (n + 1) % 4 = 0
    · by_cases h1 : (n + 1) % 4 + 1 ≤ (n + 1) / 4 % 4
      · exact inv_D m hq hk c _ hn h0 h1
      · exact inv_A m hq hk c _ hn h0 (by omega)
    obtain ⟨pm, pa⟩ := inv_prev m hq hk c n h0 _ (ih (Nat.lt_of_succ_lt hn))
    have hm : ∀ h r l, hd (outsAt0 m c n (Nat.lt_of_succ_lt hn)).2.1 h (ix3 0 r l) = Mx (St m c (n + 1) h r) ((n + 1) % 4) :=
      fun h r l => pm h r l
    have ha : ∀ h r l, hd (outsAt0 m c n (Nat.lt_of_succ_lt hn)).2.2 h (ix3 0 r l) =
        Ac (St m c (n + 1) h r) (Vt m c (n + 1) h l) ((n + 1) % 4) := fun h r l => pa h r l
    have hT := ht m hq hk c (n + 1)
    by_cases h1 : (n + 1) % 4 + 1 ≤ (n + 1) / 4 % 4
    · have hs := hs_full m c ⟨n + 1, hn⟩ h1
      have hv := hv_any m c ⟨n + 1, hn⟩ (by dsimp only; omega)
      rw [outsAt0_F m c ⟨n + 1, hn⟩ h0 h1 (by dsimp only; omega) (by dsimp only; omega)]
      refine ⟨fun h r l => ?_, fun h r l => ?_, fun h3 => absurd h3 (by omega)⟩
      · dsimp only
        rw [m_F]
        exact m_full _ _ _ (St m c (n + 1) h) ((n + 1) % 4) (hm h) (hs h) r l
      · dsimp only
        rw [a_F]
        exact a_full _ _ _ _ _ (St m c (n + 1) h) (Vt m c (n + 1) h) ((n + 1) % 4) (hm h) (ha h) (hs h) (hv h) (hT h) r l
    by_cases h2 : (n + 1) / 4 % 4 = (n + 1) % 4
    · have hs := hs_diag m c ⟨n + 1, hn⟩ h2
      have hv := hv_any m c ⟨n + 1, hn⟩ (by dsimp only; omega)
      by_cases h3 : (n + 1) % 4 = 3
      · rw [outsAt0_G m c ⟨n + 1, hn⟩ h0 h1 h2 h3]
        refine ⟨fun h r l => ?_, fun h r l => ?_, fun h3 h r l => ?_⟩
        · dsimp only
          rw [m_G]
          exact m_diag _ _ _ (St m c (n + 1) h) ((n + 1) % 4) (hm h) (hs h) r l
        · dsimp only
          rw [a_G]
          exact a_diag _ _ _ _ _ (St m c (n + 1) h) (Vt m c (n + 1) h) ((n + 1) % 4) (hm h) (ha h) (hs h) (hv h) (hT h) r l
        · dsimp only
          rw [o_G]
          exact quo m c (n + 1) _ h
            (a_diag _ _ _ _ _ (St m c (n + 1) h) (Vt m c (n + 1) h) ((n + 1) % 4) (hm h) (ha h) (hs h) (hv h) (hT h)) h3 r l
      · rw [outsAt0_E m c ⟨n + 1, hn⟩ h0 h1 h2 h3]
        refine ⟨fun h r l => ?_, fun h r l => ?_, fun h3' => absurd h3' h3⟩
        · dsimp only
          rw [m_E]
          exact m_diag _ _ _ (St m c (n + 1) h) ((n + 1) % 4) (hm h) (hs h) r l
        · dsimp only
          rw [a_E]
          exact a_diag _ _ _ _ _ (St m c (n + 1) h) (Vt m c (n + 1) h) ((n + 1) % 4) (hm h) (ha h) (hs h) (hv h) (hT h) r l
    have hsk := st_skip m c (n + 1) (by omega)
    by_cases h3 : (n + 1) % 4 = 3
    · rw [outsAt0_C m c ⟨n + 1, hn⟩ h0 h1 h2 h3]
      have ha' : ∀ h r l, hd (outsAt0 m c n (Nat.lt_of_succ_lt hn)).2.2 h (ix3 0 r l) =
          Ac (St m c (n + 1) h r) (Vt m c (n + 1) h l) ((n + 1) % 4 + 1) := fun h r l => (ha h r l).trans (Ac_skip _ _ (hsk h r)).symm
      refine ⟨fun h r l => (pm h r l).trans (Mx_skip _ (hsk h r)).symm, fun h r l => ha' h r l, fun _ h r l => ?_⟩
      dsimp only
      rw [o_C]
      exact quo m c (n + 1) _ h (ha' h) h3 r l
    · rw [outsAt0_B m c ⟨n + 1, hn⟩ h0 h1 h2 h3]
      exact ⟨fun h r l => (pm h r l).trans (Mx_skip _ (hsk h r)).symm, fun h r l => (pa h r l).trans (Ac_skip _ _ (hsk h r)).symm,
        fun h3' => absurd h3' h3⟩

end Cert.KernelIdeal.Flash

end
-- ==== Proof.FlashRef.lean ====
module

public import proofs.«01_k».proof.Proof.Gen.ReferenceIdeal.Read
public import proofs.«01_k».proof.Proof.Online

@[expose] public section

set_option maxRecDepth 16384

noncomputable section

open Idealize.ShloMosaic Idealize.ShloMosaic.TcCoe Idealize.SL.Sem

/-! The plain latent attention, entry by entry. -/

namespace Cert.ReferenceIdeal.Flash

open Cert.ReferenceIdeal Cert.ReferenceIdeal.Gen Cert.ReferenceIdeal.Read Cert.Online

variable (q k : Vec Ideal S8192x2048 .bf16) (v : Vec Ideal S8192x1024 .bf16)

/-- The score of query position `p` and key position `s` of prompt `b`, kept where the key is not after the query. -/
def score (b : Fin 4) (h : Fin 8) (p s : Fin 2048) : EReal :=
  if s.val ≤ p.val then
    ∑ d : Fin 256, q (ix2 ⟨b.val * 2048 + p.val, by omega⟩ ⟨h.val * 256 + d.val, by omega⟩) *
      k (ix2 ⟨b.val * 2048 + s.val, by omega⟩ ⟨h.val * 256 + d.val, by omega⟩)
  else ⊥

theorem score_eq (b : Fin 4) (h : Fin 8) (p s : Fin 2048) :
    val_main_v13 (F := Ideal) q k (ix4 b h p s) = score q k b h p s := by
  pointwise [val_main_v0, val_main_v1, val_main_v2, val_main_v3, val_main_v6, val_main_v7, val_main_v8, val_main_v9,
    val_main_v10, val_main_v11, val_main_v12, val_main_cst, val_main_call0_v0, val_main_call0_v1, val_main_call0_v2, val_main_v13]
  exact sel_le _ _ (by omega) (by omega) _ _

/-- A maximum over the last axis. -/
theorem reduce_max (x : FVec Ideal S4x8x2048x2048 .f32) (z : FVec Ideal S_ .f32) (b : Fin 4) (h : Fin 8) (p : Fin 2048) :
    Host.reduce (FloatOps.maximumf (F := Ideal) (φ := .f32)) x z reducesTo_S4x8x2048x2048_S4x8x2048_d3 h_S_ (ix3 b h p)
      = (Finset.univ.fold max (z (Shape.Idx.first h_S_)) fun s => x (ix4 b h p s) : EReal) := by
  rw [Host.reduce_eq_fold_single _ _ _ _ (by decide) _ _]
  congr 1
  funext s
  show x _ = x _
  congr 1
  funext a
  match a with
  | ⟨0, _⟩ => rfl
  | ⟨1, _⟩ => rfl
  | ⟨2, _⟩ => rfl
  | ⟨3, _⟩ => rfl

theorem max_val (b : Fin 4) (h : Fin 8) (p : Fin 2048) :
    val_main_v14 (F := Ideal) q k (ix3 b h p) = (Finset.univ.sup (score q k b h p) : EReal) := by
  unfold val_main_v14
  rw [reduce_max]
  simp only [score_eq, val_main_cst_0_apply]
  exact fold_max _

theorem max_eq (b : Fin 4) (h : Fin 8) (p : Fin 2048) :
    val_main_v16 (F := Ideal) q k (ix3 b h p) = Finset.univ.sup (score q k b h p) := by
  rw [val_main_v16_apply, max_val, val_main_v15_apply, val_main_cst_1_apply]
  generalize Finset.univ.sup (score q k b h p) = y
  exact max_eq_right (a := (⊥ : EReal)) bot_le

theorem exp_eq (b : Fin 4) (h : Fin 8) (p s : Fin 2048) :
    val_main_v20 (F := Ideal) q k (ix4 b h p s) = Ideal.exp (score q k b h p s - Finset.univ.sup (score q k b h p)) := by
  pointwise [val_main_v17, val_main_v18, val_main_v19, val_main_v20]
  rw [score_eq, max_eq]

theorem prob_eq (b : Fin 4) (h : Fin 8) (p s : Fin 2048) :
    val_main_v24 (F := Ideal) q k (ix4 b h p s) = Ideal.div (val_main_v20 (F := Ideal) q k (ix4 b h p s))
      (∑ x, val_main_v20 (F := Ideal) q k (ix4 b h p x)) := by
  pointwise [val_main_cst_2, val_main_v21, val_main_v22, val_main_v23, val_main_v24]

/-- One entry of the reference's result: the values of the prompt weighted by the softmax of the kept scores. -/
theorem out_eq (b : Fin 4) (h : Fin 8) (p : Fin 2048) (l : Fin 128) :
    val_main_v28 (F := Ideal) q k v (ix2 ⟨b.val * 2048 + p.val, by omega⟩ ⟨h.val * 128 + l.val, by omega⟩) =
      ∑ s : Fin 2048, Ideal.div (Ideal.exp (score q k b h p s - Finset.univ.sup (score q k b h p)))
        (∑ x, Ideal.exp (score q k b h p x - Finset.univ.sup (score q k b h p))) *
        v (ix2 ⟨b.val * 2048 + s.val, by omega⟩ ⟨h.val * 128 + l.val, by omega⟩) := by
  pointwise [val_main_v4, val_main_v5, val_main_v25, val_main_v26, val_main_v27, val_main_v28]
  simp only [prob_eq, exp_eq]
  exact Finset.sum_congr rfl fun s _ => mul_comm _ _

end Cert.ReferenceIdeal.Flash
end
-- ==== Proof.FlashAlg.lean ====
module

public import proofs.«01_k».proof.Defs
public import proofs.«01_k».proof.Proof.FlashValue
public import proofs.«01_k».proof.Proof.FlashRef
public import proofs.«01_k».proof.Proof.Gen.ReferenceIdeal.Run
public import proofs.«01_k».proof.Proof.Gen.Pre_finite_qk

@[expose] public section

set_option maxRecDepth 16384

noncomputable section

open Idealize.ShloMosaic Idealize.ShloMosaic.TcCoe Idealize.SL.Sem
open Idealize.ShloMosaic.Pipeline (Dat)

namespace Cert.FlashAlg

open Cert.KernelIdeal Cert.KernelIdeal.Gen Cert.KernelIdeal.Flash Cert.Online

variable (m : (ℓ : Loc nD τ sig) → Buf (Elt Ideal) ℓ)

/-- The array after the run: at every entry the quotient of its head's running sums over the prompt's four blocks of keys. -/
def G (c : Dev nD) : Vec Ideal S8192x1024 .bf16 := fun i =>
  Ideal.div (Ac (Sc (Q m c) (K m c) ((i 0).val / 2048) ((i 1).val / 128) ((i 0).val % 2048))
      (Wt (Vv m c) ((i 0).val / 2048) ((i 1).val / 128) ((i 1).val % 128)) 4)
    (Ac (Sc (Q m c) (K m c) ((i 0).val / 2048) ((i 1).val / 128) ((i 0).val % 2048)) (fun _ _ => 1) 4)

variable (hq : ∀ c i, ∃ y : ℝ, (Q m c i : EReal) = y) (hk : ∀ c i, ∃ y : ℝ, (K m c i : EReal) = y)

include hq hk in
/-- What a flushing point writes back is its block of `G`. -/
theorem flushed_eq (c : Dev nD) (t : Fin cfg0.N) (hf : (cfg0.win 3).flush t = true) :
    (dats m 0 c).flushed 3 t = ((cfg0.win 3).blk t).view.read (Elt Ideal) (G m c) := by
  rw [Value.flushed3]
  have h3 : t.val % 4 = 3 := (flush0_3 t).mp hf
  have hi := (state m hq hk c t.val t.isLt).2.2 h3
  obtain ⟨e0, e1⟩ := idx3 t
  have hN := ptLt t
  funext y
  have hy0 : (y 0).val < 512 := (y 0).isLt
  have hy1 : (y 1).val < 256 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 256 + 1 * (y 1).val := rfl
  rw [e0] at hb0
  rw [e1] at hb1
  have hx : (cfg0.win 3).xinj (grid0.coords t) y =
      ix2 (⟨(y 0).val, hy0⟩ : Fin 512) (⟨128 * ((y 1).val / 128) + (y 1).val % 128, by omega⟩ : Fin 256) := by
    funext a; apply Fin.ext
    match a with
    | ⟨0, _⟩ => rfl
    | ⟨1, _⟩ => show (y 1).val = 128 * ((y 1).val / 128) + (y 1).val % 128; omega
  show (outsAt0 m c t.val t.isLt).1 ((cfg0.win 3).xinj (grid0.coords t) y) = G m c (((cfg0.win 3).blk t).view.emb y)
  rw [hx]
  refine (hi ⟨(y 1).val / 128, by omega⟩ ⟨(y 0).val, hy0⟩ ⟨(y 1).val % 128, Nat.mod_lt _ (by decide)⟩).trans ?_
  unfold G St Vt
  have g1 : (((cfg0.win 3).blk t).view.emb y 0).val / 2048 = t.val / 64 := by rw [hb0]; omega
  have g2 : (((cfg0.win 3).blk t).view.emb y 0).val % 2048 = t.val / 4 % 4 * 512 + (y 0).val := by rw [hb0]; omega
  have g3 : (((cfg0.win 3).blk t).view.emb y 1).val / 128 = 2 * (t.val / 16 % 4) + (y 1).val / 128 := by rw [hb1]; omega
  have g4 : (((cfg0.win 3).blk t).view.emb y 1).val % 128 = (y 1).val % 128 := by rw [hb1]; omega
  rw [g1, g2, g3, g4]

/-- Every entry is in the block of some flushing point. -/
theorem covered (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨n, hn⟩ : ∃ n, n = (i 0).val / 2048 * 64 + (i 1).val / 256 * 16 + (i 0).val % 2048 / 512 * 4 + 3 := ⟨_, rfl⟩
  have hlt : n < cfg0.N := by rw [show cfg0.N = 256 from N_0]; omega
  refine ⟨⟨n, hlt⟩, (flush0_3 _).mpr (by dsimp only; omega), ?_⟩
  obtain ⟨e0, e1⟩ := idx3 ⟨n, hlt⟩
  dsimp only at e0 e1
  show i ∈ ((View.whole main_v0).slice (win0_3.rect ⟨n, hlt⟩)).set
  rw [View.set_slice_whole, Rect.mem_set_unit]
  intro a
  match a with
  | ⟨0, _⟩ => show win0_3.index ⟨n, hlt⟩ (0 : Fin 2) * 512 ≤ (i 0).val ∧ (i 0).val < win0_3.index ⟨n, hlt⟩ (0 : Fin 2) * 512 + 512; omega
  | ⟨1, _⟩ => show win0_3.index ⟨n, hlt⟩ (1 : Fin 2) * 256 ≤ (i 1).val ∧ (i 1).val < win0_3.index ⟨n, hlt⟩ (1 : Fin 2) * 256 + 256; omega

include hq hk in
/-- The array the run leaves. -/
theorem final_array (c : Dev nD) : (dats m 0 c).arrAt 3 cfg0.N = G m c :=
  (dats m 0 c).arrAt_eq_of_cover 3 _ (fun t hf => flushed_eq m hq hk c t hf) covered

include hq hk in
/-- The kernel's result array is the reference's at the same arguments. -/
theorem result_eq (c : Dev nD) : G m c = ReferenceIdeal.Read.val_main_v28 (F := Ideal) (Q m c) (K m c) (Vv m c) := by
  funext j
  obtain ⟨r, w, rfl⟩ : ∃ (r : Fin 8192) (w : Fin 1024), j = ix2 r w := ⟨j 0, j 1, by
    funext a
    match a with
    | ⟨0, _⟩ => rfl
    | ⟨1, _⟩ => rfl⟩
  have hr : r.val < 8192 := r.isLt
  have hw : w.val < 1024 := w.isLt
  have e := ReferenceIdeal.Flash.out_eq (Q m c) (K m c) (Vv m c) ⟨r.val / 2048, by omega⟩ ⟨w.val / 128, by omega⟩
    ⟨r.val % 2048, by omega⟩ ⟨w.val % 128, by omega⟩
  have hj : (ix2 (⟨r.val / 2048 * 2048 + r.val % 2048, by omega⟩ : Fin 8192) (⟨w.val / 128 * 128 + w.val % 128, by omega⟩ : Fin 1024)) = ix2 r w := by
    congr 1 <;> (apply Fin.ext; dsimp only; omega)
  rw [← hj]
  refine Eq.trans ?_ e.symm
  rw [hj]
  refine softmax_tiles _ _ (N := 2048) (by norm_num) _ _ (fun j e h => ?_) (fun j e h => ?_)
    (fun b e => sc_ne_top _ _ (hq c) (hk c) _ _ _ _ _) (by norm_num : 0 < 4) (sc_ne_bot _ _ (hq c) (hk c) _ _ _)
  · unfold Sc ReferenceIdeal.Flash.score
    refine if_congr Iff.rfl (Finset.sum_congr rfl fun d _ => congrArg₂ (· * ·) ?_ ?_) rfl
    · symm; apply at2_of <;> rfl
    · symm; apply at2_of <;> rfl
  · unfold Wt
    rw [if_pos (Nat.mod_lt _ (by decide))]
    symm; apply at2_of <;> rfl

/-- The precondition: every query and key is a real. -/
theorem reals (hp : Cert.Pre_KernelIdeal_finite_qk (hPre_finite_qk := Cert.Pre_finite_qk.Gen.facts) m) :
    (∀ c i, ∃ y : ℝ, (Q m c i : EReal) = y) ∧ (∀ c i, ∃ y : ℝ, (K m c i : EReal) = y) := by
  refine ⟨fun c i => ?_, fun c i => ?_⟩
  · have h := congrFun (hp c).1 i
    exact real_of_lt h
  · have h := congrFun (hp c).2 i
    exact real_of_lt h

/-- At the ideal instance, on real queries and keys, the latent attention kernel and its reference end with equal results. -/
theorem algebraic : @Cert.algebraic_KernelIdeal_ReferenceIdeal_pre_finite_qk KernelIdeal.Gen.facts ReferenceIdeal.Gen.facts Cert.Pre_finite_qk.Gen.facts := by
  intro m g m' g' hp ha
  obtain ⟨hq, hk⟩ := reals m hp
  refine ⟨fun c => G m c, ?_, ?_⟩
  · refine (θ_run _ _ _).mono (fun r h c => ?_) (Value.run_blocks m g)
    exact ⟨(h c).1.trans (final_array m hq hk c), (h c).2⟩
  refine (θ_run _ _ _).mono (fun r h c => ?_) (ReferenceIdeal.Value.run (F := Ideal) m' g')
  refine ⟨?_, (h c).2⟩
  refine (h c).1.trans ?_
  obtain ⟨h0, h1, h2⟩ := ha c
  rw [ReferenceIdeal.Read.val_main_v28_eq, h0, h1, h2]
  exact (result_eq m hq hk c).symm

/-- The reference ends with its arguments unchanged. -/
theorem reference_frame : @Cert.quiescent_ReferenceIdeal ReferenceIdeal.Gen.facts := by
  intro m g _
  exact (θ_run _ _ _).mono (fun r h => ⟨fun c => (h c).2, sem_eq_zero_of_no_sems (by decide) r.2⟩)
    (ReferenceIdeal.Value.run (F := Ideal) m g)

/-- The reference ends with its arguments unchanged under the precondition. -/
theorem reference_frame_pre : @Cert.quiescent_ReferenceIdeal_pre_finite_qk ReferenceIdeal.Gen.facts Cert.Pre_finite_qk.Gen.facts := by
  intro m g _
  exact (θ_run _ _ _).mono (fun r h => ⟨fun c => (h c).2, sem_eq_zero_of_no_sems (by decide) r.2⟩)
    (ReferenceIdeal.Value.run (F := Ideal) m g)

end Cert.FlashAlg

end
-- ==== Proof.FoxOpen.lean ====
module

public import proofs.«01_k».proof.Proof.Gen.Kernel2Ideal.Value
public import proofs.«01_k».proof.Proof.Heads

@[expose] public section

set_option maxRecDepth 16384
set_option maxHeartbeats 2000000

noncomputable section

open Idealize.ShloMosaic Idealize.ShloMosaic.TcCoe Idealize.SL.Sem
open Idealize.ShloMosaic.Pipeline (Dat)

/-! What each case of the forgetting attention's body leaves in the running maximum, the running sums and the output. -/

namespace Cert.Kernel2Ideal.Fox

open Cert.Kernel2Ideal Cert.Kernel2Ideal.Gen Cert.Heads

section
variable {F : FTy → Type} [FloatOps F] [Named F]

/-- Head `h`'s columns of a block of queries. -/
abbrev qh (X : Vec F S512x1024 .bf16) (h : Fin 8) : Vec F S512x128 .bf16 := cols 128 (128 * h.val) (by omega) X
/-- The columns of a block of keys or values that head `h` reads. -/
abbrev kh (X : Vec F S512x256 .f32) (h : Fin 8) : Vec F S512x128 .f32 := cols 128 (128 * (h.val / 4)) (by omega) X
/-- Head `h`'s column of the queries' forgetting sums. -/
abbrev fqh (X : Vec F S512x8 .f32) (h : Fin 8) : Vec F S512x1 .f32 := cols 1 h.val (by omega) X
/-- Head `h`'s row of the keys' forgetting sums. -/
abbrev fkh (X : Vec F S1x8x512 .f32) (h : Fin 8) : Vec F S1x1x512 .f32 := row h X

/-- The running maximum after a block of visible keys. -/
def mF (k : Vec F S512x128 .f32) (q : Vec F S512x128 .bf16) (fq : Vec F S512x1 .f32) (fk : Vec F S1x1x512 .f32)
    (ms : Vec F S1x512x128 .f32) : Vec F S1x512x128 .f32 := k0_pay17 (k0_pay15 k q fq fk ms)
/-- The running sums after a block of visible keys. -/
def aF (k v : Vec F S512x128 .f32) (q : Vec F S512x128 .bf16) (fq : Vec F S512x1 .f32) (fk : Vec F S1x1x512 .f32)
    (ms : Vec F S1x512x128 .f32) (ac : Vec F S1x512x256 .f32) : Vec F S1x512x256 .f32 := k0_pay16 k v q fq fk ms ac
/-- The running maximum after the diagonal block. -/
def mD (k : Vec F S512x128 .f32) (q : Vec F S512x128 .bf16) (fq : Vec F S512x1 .f32) (fk : Vec F S1x1x512 .f32)
    (ms : Vec F S1x512x128 .f32) : Vec F S1x512x128 .f32 := k0_pay63 (k0_pay60 k q fq fk ms)
/-- The running sums after the diagonal block. -/
def aD (k v : Vec F S512x128 .f32) (q : Vec F S512x128 .bf16) (fq : Vec F S512x1 .f32) (fk : Vec F S1x1x512 .f32)
    (ms : Vec F S1x512x128 .f32) (ac : Vec F S1x512x256 .f32) : Vec F S1x512x256 .f32 := k0_pay62 (k0_pay61 k v q fq fk ms ac)
/-- The quotient of the running sums. -/
def oF (ac : Vec F S1x512x256 .f32) : Vec F S512x128 .bf16 := k0_pay7 ac

/-- Two matrices side by side. -/
def cat2 {φ : FTy} (x y : FVec F S512x128 φ) : FVec F S512x256 φ :=
  concatenate S512x256 1 [⟨S512x128, x⟩, ⟨S512x128, y⟩] concatenates_S512x128_S512x128_S512x256_d1
/-- Four matrices side by side. -/
def cat4 {φ : FTy} (x y z w : FVec F S512x128 φ) : FVec F S512x512 φ :=
  concatenate S512x512 1 [⟨S512x128, x⟩, ⟨S512x128, y⟩, ⟨S512x128, z⟩, ⟨S512x128, w⟩]
    concatenates_S512x128_S512x128_S512x128_S512x128_S512x512_d1
theorem cat2_eq {φ : FTy} (x y : FVec F S512x128 φ) (h) :
    concatenate S512x256 1 [⟨S512x128, x⟩, ⟨S512x128, y⟩] h = cat2 x y := rfl
theorem cat4_eq {φ : FTy} (x y z w : FVec F S512x128 φ) (h) :
    concatenate S512x512 1 [⟨S512x128, x⟩, ⟨S512x128, y⟩, ⟨S512x128, z⟩, ⟨S512x128, w⟩] h = cat4 x y z w := rfl

variable (c : Dev nD) (i : grid0.Coords)
  (a4 : Memref sig .tc .vmem S512x1024 .bf16) (h4 : a4.IsWhole)
  (a5 : Memref sig .tc .vmem S512x256 .f32) (h5 : a5.IsWhole)
  (a6 : Memref sig .tc .vmem S512x256 .f32) (h6 : a6.IsWhole)
  (a7 : Memref sig .tc .vmem S512x8 .f32) (h7 : a7.IsWhole)
  (a8 : Memref sig .tc .vmem S1x8x512 .f32) (h8 : a8.IsWhole)
  (a9 : Memref sig .tc .vmem S512x1024 .bf16) (h9 : a9.IsWhole)
  (a10 : Memref sig .tc .vmem S8x512x128 .f32) (h10 : a10.IsWhole)
  (a11 : Memref sig .tc .vmem S8x512x256 .f32) (h11 : a11.IsWhole)
  (q : Vec F S512x1024 .bf16) (k v : Vec F S512x256 .f32) (fq : Vec F S512x8 .f32) (fk : Vec F S1x8x512 .f32)
  (ms : Vec F S8x512x128 .f32) (ac : Vec F S8x512x256 .f32)

/-- At the first block, when it is the diagonal one: the running maximum. -/
theorem m_A (hc0 hc1 hc2 hc3) (h : Fin 8) (r : Fin 512) (l : Fin 128) :
    sout0_A_0 c i a4 h4 a5 h5 a6 h6 a7 h7 a8 h8 a9 h9 a10 h10 a11 h11 hc0 hc1 hc2 hc3 q k v fq fk (ix3 h r l) = mD (kh k h) (qh q h) (fqh fq h) (fkh fk h) (hd k0_pay1 h) (ix3 0 r l) := by
  unfold sout0_A_0
  rw [View.read_writes_eq_canon _ _ _ (scover0_A_0 c i a4 h4 a5 h5 a6 h6 a7 h7 a8 h8 a9 h9 a10 h10 a11 h11 hc0 hc1 hc2 hc3 q k v fq fk)]
  unfold kernelRun0_A
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  simp (disch := decide) only [View.readCov_cons_toLoadRect, View.readCov_skip, View.readCov_fill]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the first block, when it is the diagonal one: the running sums. -/
theorem a_A (hc0 hc1 hc2 hc3) (h : Fin 8) (r : Fin 512) (l : Fin 256) :
    sout0_A_1 c i a4 h4 a5 h5 a6 h6 a7 h7 a8 h8 a9 h9 a10 h10 a11 h11 hc0 hc1 hc2 hc3 q k v fq fk (ix3 h r l) = aD (kh k h) (kh v h) (qh q h) (fqh fq h) (fkh fk h) (hd k0_pay1 h) (hd k0_pay2 h) (ix3 0 r l) := by
  unfold sout0_A_1
  rw [View.read_writes_eq_canon _ _ _ (scover0_A_1 c i a4 h4 a5 h5 a6 h6 a7 h7 a8 h8 a9 h9 a10 h10 a11 h11 hc0 hc1 hc2 hc3 q k v fq fk)]
  unfold kernelRun0_A
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  simp (disch := decide) only [View.readCov_cons_toLoadRect, View.readCov_skip, View.readCov_fill]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the first block, when every key is visible: the running maximum. -/
theorem m_D (hc0 hc1 hc2 hc3) (h : Fin 8) (r : Fin 512) (l : Fin 128) :
    sout0_D_0 c i a4 h4 a5 h5 a6 h6 a7 h7 a8 h8 a9 h9 a10 h10 a11 h11 hc0 hc1 hc2 hc3 q k v fq fk (ix3 h r l) = mF (kh k h) (qh q h) (fqh fq h) (fkh fk h) (hd k0_pay1 h) (ix3 0 r l) := by
  unfold sout0_D_0
  rw [View.read_writes_eq_canon _ _ _ (scover0_D_0 c i a4 h4 a5 h5 a6 h6 a7 h7 a8 h8 a9 h9 a10 h10 a11 h11 hc0 hc1 hc2 hc3 q k v fq fk)]
  unfold kernelRun0_D
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  simp (disch := decide) only [View.readCov_cons_toLoadRect, View.readCov_skip, View.readCov_fill]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the first block, when every key is visible: the running sums. -/
theorem a_D (hc0 hc1 hc2 hc3) (h : Fin 8) (r : Fin 512) (l : Fin 256) :
    sout0_D_1 c i a4 h4 a5 h5 a6 h6 a7 h7 a8 h8 a9 h9 a10 h10 a11 h11 hc0 hc1 hc2 hc3 q k v fq fk (ix3 h r l) = aF (kh k h) (kh v h) (qh q h) (fqh fq h) (fkh fk h) (hd k0_pay1 h) (hd k0_pay2 h) (ix3 0 r l) := by
  unfold sout0_D_1
  rw [View.read_writes_eq_canon _ _ _ (scover0_D_1 c i a4 h4 a5 h5 a6 h6 a7 h7 a8 h8 a9 h9 a10 h10 a11 h11 hc0 hc1 hc2 hc3 q k v fq fk)]
  unfold kernelRun0_D
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  simp (disch := decide) only [View.readCov_cons_toLoadRect, View.readCov_skip, View.readCov_fill]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the diagonal block, not the first: the running maximum. -/
theorem m_E (hc0 hc1 hc2 hc3) (h : Fin 8) (r : Fin 512) (l : Fin 128) :
    sout0_E_0 c i a4 h4 a5 h5 a6 h6 a7 h7 a8 h8 a9 h9 a10 h10 a11 h11 hc0 hc1 hc2 hc3 q k v fq fk ms ac (ix3 h r l) = mD (kh k h) (qh q h) (fqh fq h) (fkh fk h) (hd ms h) (ix3 0 r l) := by
  unfold sout0_E_0
  rw [View.read_writes_eq_canon _ _ _ (scover0_E_0 c i a4 h4 a5 h5 a6 h6 a7 h7 a8 h8 a9 h9 a10 h10 a11 h11 hc0 hc1 hc2 hc3 q k v fq fk ms ac)]
  unfold kernelRun0_E
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the diagonal block, not the first: the running sums. -/
theorem a_E (hc0 hc1 hc2 hc3) (h : Fin 8) (r : Fin 512) (l : Fin 256) :
    sout0_E_1 c i a4 h4 a5 h5 a6 h6 a7 h7 a8 h8 a9 h9 a10 h10 a11 h11 hc0 hc1 hc2 hc3 q k v fq fk ms ac (ix3 h r l) = aD (kh k h) (kh v h) (qh q h) (fqh fq h) (fkh fk h) (hd ms h) (hd ac h) (ix3 0 r l) := by
  unfold sout0_E_1
  rw [View.read_writes_eq_canon _ _ _ (scover0_E_1 c i a4 h4 a5 h5 a6 h6 a7 h7 a8 h8 a9 h9 a10 h10 a11 h11 hc0 hc1 hc2 hc3 q k v fq fk ms ac)]
  unfold kernelRun0_E
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At a block of visible keys, not the first: the running maximum. -/
theorem m_F (hc0 hc1 hc2 hc3) (h : Fin 8) (r : Fin 512) (l : Fin 128) :
    sout0_F_0 c i a4 h4 a5 h5 a6 h6 a7 h7 a8 h8 a9 h9 a10 h10 a11 h11 hc0 hc1 hc2 hc3 q k v fq fk ms ac (ix3 h r l) = mF (kh k h) (qh q h) (fqh fq h) (fkh fk h) (hd ms h) (ix3 0 r l) := by
  unfold sout0_F_0
  rw [View.read_writes_eq_canon _ _ _ (scover0_F_0 c i a4 h4 a5 h5 a6 h6 a7 h7 a8 h8 a9 h9 a10 h10 a11 h11 hc0 hc1 hc2 hc3 q k v fq fk ms ac)]
  unfold kernelRun0_F
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At a block of visible keys, not the first: the running sums. -/
theorem a_F (hc0 hc1 hc2 hc3) (h : Fin 8) (r : Fin 512) (l : Fin 256) :
    sout0_F_1 c i a4 h4 a5 h5 a6 h6 a7 h7 a8 h8 a9 h9 a10 h10 a11 h11 hc0 hc1 hc2 hc3 q k v fq fk ms ac (ix3 h r l) = aF (kh k h) (kh v h) (qh q h) (fqh fq h) (fkh fk h) (hd ms h) (hd ac h) (ix3 0 r l) := by
  unfold sout0_F_1
  rw [View.read_writes_eq_canon _ _ _ (scover0_F_1 c i a4 h4 a5 h5 a6 h6 a7 h7 a8 h8 a9 h9 a10 h10 a11 h11 hc0 hc1 hc2 hc3 q k v fq fk ms ac)]
  unfold kernelRun0_F
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the diagonal block, the last: the running maximum. -/
theorem m_G (hc0 hc1 hc2 hc3) (h : Fin 8) (r : Fin 512) (l : Fin 128) :
    sout0_G_0 c i a4 h4 a5 h5 a6 h6 a7 h7 a8 h8 a9 h9 a10 h10 a11 h11 hc0 hc1 hc2 hc3 q k v fq fk ms ac (ix3 h r l) = mD (kh k h) (qh q h) (fqh fq h) (fkh fk h) (hd ms h) (ix3 0 r l) := by
  unfold sout0_G_0
  rw [View.read_writes_eq_canon _ _ _ (scover0_G_0 c i a4 h4 a5 h5 a6 h6 a7 h7 a8 h8 a9 h9 a10 h10 a11 h11 hc0 hc1 hc2 hc3 q k v fq fk ms ac)]
  unfold kernelRun0_G
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- At the diagonal block, the last: the running sums. -/
theorem a_G (hc0 hc1 hc2 hc3) (h : Fin 8) (r : Fin 512) (l : Fin 256) :
    sout0_G_1 c i a4 h4 a5 h5 a6 h6 a7 h7 a8 h8 a9 h9 a10 h10 a11 h11 hc0 hc1 hc2 hc3 q k v fq fk ms ac (ix3 h r l) = aD (kh k h) (kh v h) (qh q h) (fqh fq h) (fkh fk h) (hd ms h) (hd ac h) (ix3 0 r l) := by
  unfold sout0_G_1
  rw [View.read_writes_eq_canon _ _ _ (scover0_G_1 c i a4 h4 a5 h5 a6 h6 a7 h7 a8 h8 a9 h9 a10 h10 a11 h11 hc0 hc1 hc2 hc3 q k v fq fk ms ac)]
  unfold kernelRun0_G
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_miss (h := 0) (o := 7) (by decide), canon_miss (h := 0) (o := 6) (by decide), canon_miss (h := 0) (o := 5) (by decide), canon_miss (h := 0) (o := 4) (by decide), canon_miss (h := 0) (o := 3) (by decide), canon_miss (h := 0) (o := 2) (by decide), canon_miss (h := 0) (o := 1) (by decide), canon_hit (h := 0) (o := 0) rfl]; simp only [ld_hd, ld_cols, ld_row]; rfl
  | 1 => rw [canon_miss (h := 1) (o := 7) (by decide), canon_miss (h := 1) (o := 6) (by decide), canon_miss (h := 1) (o := 5) (by decide), canon_miss (h := 1) (o := 4) (by decide), canon_miss (h := 1) (o := 3) (by decide), canon_miss (h := 1) (o := 2) (by decide), canon_hit (h := 1) (o := 1) rfl]; simp only [ld_hd, ld_cols, ld_row]; rfl
  | 2 => rw [canon_miss (h := 2) (o := 7) (by decide), canon_miss (h := 2) (o := 6) (by decide), canon_miss (h := 2) (o := 5) (by decide), canon_miss (h := 2) (o := 4) (by decide), canon_miss (h := 2) (o := 3) (by decide), canon_hit (h := 2) (o := 2) rfl]; simp only [ld_hd, ld_cols, ld_row]; rfl
  | 3 => rw [canon_miss (h := 3) (o := 7) (by decide), canon_miss (h := 3) (o := 6) (by decide), canon_miss (h := 3) (o := 5) (by decide), canon_miss (h := 3) (o := 4) (by decide), canon_hit (h := 3) (o := 3) rfl]; simp only [ld_hd, ld_cols, ld_row]; rfl
  | 4 => rw [canon_miss (h := 4) (o := 7) (by decide), canon_miss (h := 4) (o := 6) (by decide), canon_miss (h := 4) (o := 5) (by decide), canon_hit (h := 4) (o := 4) rfl]; simp only [ld_hd, ld_cols, ld_row]; rfl
  | 5 => rw [canon_miss (h := 5) (o := 7) (by decide), canon_miss (h := 5) (o := 6) (by decide), canon_hit (h := 5) (o := 5) rfl]; simp only [ld_hd, ld_cols, ld_row]; rfl
  | 6 => rw [canon_miss (h := 6) (o := 7) (by decide), canon_hit (h := 6) (o := 6) rfl]; simp only [ld_hd, ld_cols, ld_row]; rfl
  | 7 => rw [canon_hit (h := 7) (o := 7) rfl]; simp only [ld_hd, ld_cols, ld_row]; rfl

/-- After the last block: the quotient of the running sums. -/
theorem o_C (hc0 hc1 hc2 hc3) (h : Fin 8) (r : Fin 512) (l : Fin 128) :
    out0_C_5 c i a4 h4 a5 h5 a6 h6 a7 h7 a8 h8 a9 h9 a10 h10 a11 h11 hc0 hc1 hc2 hc3 q k v fq fk ms ac (ix2 r ⟨128 * h.val + l.val, by omega⟩) =
      oF (hd ac h) (ix2 r l) := by
  unfold out0_C_5
  rw [View.read_writes_eq_canon _ _ _ (cover0_C_5 c i a4 h4 a5 h5 a6 h6 a7 h7 a8 h8 a9 h9 a10 h10 a11 h11 hc0 hc1 hc2 hc3 q k v fq fk ms ac)]
  unfold kernelRun0_C
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  match h with
  | 0 => rw [canon_col_miss _ _ _ _ _ (Or.inl (by show 128 * 0 + l.val < 896; omega)), canon_col_miss _ _ _ _ _ (Or.inl (by show 128 * 0 + l.val < 768; omega)), canon_col_miss _ _ _ _ _ (Or.inl (by show 128 * 0 + l.val < 640; omega)), canon_col_miss _ _ _ _ _ (Or.inl (by show 128 * 0 + l.val < 512; omega)), canon_col_miss _ _ _ _ _ (Or.inl (by show 128 * 0 + l.val < 384; omega)), canon_col_miss _ _ _ _ _ (Or.inl (by show 128 * 0 + l.val < 256; omega)), canon_col_miss _ _ _ _ _ (Or.inl (by show 128 * 0 + l.val < 128; omega)), canon_col_hit _ _ _ r l _ (by show 128 * 0 + l.val = 0 + l.val; omega)]; simp only [ld_hd, ld_cols, ld_row]; rfl
  | 1 => rw [canon_col_miss _ _ _ _ _ (Or.inl (by show 128 * 1 + l.val < 896; omega)), canon_col_miss _ _ _ _ _ (Or.inl (by show 128 * 1 + l.val < 768; omega)), canon_col_miss _ _ _ _ _ (Or.inl (by show 128 * 1 + l.val < 640; omega)), canon_col_miss _ _ _ _ _ (Or.inl (by show 128 * 1 + l.val < 512; omega)), canon_col_miss _ _ _ _ _ (Or.inl (by show 128 * 1 + l.val < 384; omega)), canon_col_miss _ _ _ _ _ (Or.inl (by show 128 * 1 + l.val < 256; omega)), canon_col_hit _ _ _ r l _ (by show 128 * 1 + l.val = 128 + l.val; omega)]; simp only [ld_hd, ld_cols, ld_row]; rfl
  | 2 => rw [canon_col_miss _ _ _ _ _ (Or.inl (by show 128 * 2 + l.val < 896; omega)), canon_col_miss _ _ _ _ _ (Or.inl (by show 128 * 2 + l.val < 768; omega)), canon_col_miss _ _ _ _ _ (Or.inl (by show 128 * 2 + l.val < 640; omega)), canon_col_miss _ _ _ _ _ (Or.inl (by show 128 * 2 + l.val < 512; omega)), canon_col_miss _ _ _ _ _ (Or.inl (by show 128 * 2 + l.val < 384; omega)), canon_col_hit _ _ _ r l _ (by show 128 * 2 + l.val = 256 + l.val; omega)]; simp only [ld_hd, ld_cols, ld_row]; rfl
  | 3 => rw [canon_col_miss _ _ _ _ _ (Or.inl (by show 128 * 3 + l.val < 896; omega)), canon_col_miss _ _ _ _ _ (Or.inl (by show 128 * 3 + l.val < 768; omega)), canon_col_miss _ _ _ _ _ (Or.inl (by show 128 * 3 + l.val < 640; omega)), canon_col_miss _ _ _ _ _ (Or.inl (by show 128 * 3 + l.val < 512; omega)), canon_col_hit _ _ _ r l _ (by show 128 * 3 + l.val = 384 + l.val; omega)]; simp only [ld_hd, ld_cols, ld_row]; rfl
  | 4 => rw [canon_col_miss _ _ _ _ _ (Or.inl (by show 128 * 4 + l.val < 896; omega)), canon_col_miss _ _ _ _ _ (Or.inl (by show 128 * 4 + l.val < 768; omega)), canon_col_miss _ _ _ _ _ (Or.inl (by show 128 * 4 + l.val < 640; omega)), canon_col_hit _ _ _ r l _ (by show 128 * 4 + l.val = 512 + l.val; omega)]; simp only [ld_hd, ld_cols, ld_row]; rfl
  | 5 => rw [canon_col_miss _ _ _ _ _ (Or.inl (by show 128 * 5 + l.val < 896; omega)), canon_col_miss _ _ _ _ _ (Or.inl (by show 128 * 5 + l.val < 768; omega)), canon_col_hit _ _ _ r l _ (by show 128 * 5 + l.val = 640 + l.val; omega)]; simp only [ld_hd, ld_cols, ld_row]; rfl
  | 6 => rw [canon_col_miss _ _ _ _ _ (Or.inl (by show 128 * 6 + l.val < 896; omega)), canon_col_hit _ _ _ r l _ (by show 128 * 6 + l.val = 768 + l.val; omega)]; simp only [ld_hd, ld_cols, ld_row]; rfl
  | 7 => rw [canon_col_hit _ _ _ r l _ (by show 128 * 7 + l.val = 896 + l.val; omega)]; simp only [ld_hd, ld_cols, ld_row]; rfl

/-- After the last block, when it is the diagonal one: the quotient of the running sums. -/
theorem o_G (hc0 hc1 hc2 hc3) (h : Fin 8) (r : Fin 512) (l : Fin 128) :
    out0_G_5 c i a4 h4 a5 h5 a6 h6 a7 h7 a8 h8 a9 h9 a10 h10 a11 h11 hc0 hc1 hc2 hc3 q k v fq fk ms ac (ix2 r ⟨128 * h.val + l.val, by omega⟩) =
      oF (aD (kh k h) (kh v h) (qh q h) (fqh fq h) (fkh fk h) (hd ms h) (hd ac h)) (ix2 r l) := by
  unfold out0_G_5
  rw [View.read_writes_eq_canon _ _ _ (cover0_G_5 c i a4 h4 a5 h5 a6 h6 a7 h7 a8 h8 a9 h9 a10 h10 a11 h11 hc0 hc1 hc2 hc3 q k v fq fk ms ac)]
  unfold kernelRun0_G
  dsimp only
  sl_unfold_words
  simp only [cat2_eq, cat4_eq, View.readAt_eq_ld, h4.read_unread, h5.read_unread, h6.read_unread,
    h7.read_unread, h8.read_unread, h9.read_unread, h10.read_unread, h11.read_unread, shapeCast_self]
  simp (disch := decide) only [View.readCov_cons_toLoadRect, View.readCov_skip, View.readCov_fill]
  match h with
  | 0 => rw [canon_col_miss _ _ _ _ _ (Or.inl (by show 128 * 0 + l.val < 896; omega)), canon_col_miss _ _ _ _ _ (Or.inl (by show 128 * 0 + l.val < 768; omega)), canon_col_miss _ _ _ _ _ (Or.inl (by show 128 * 0 + l.val < 640; omega)), canon_col_miss _ _ _ _ _ (Or.inl (by show 128 * 0 + l.val < 512; omega)), canon_col_miss _ _ _ _ _ (Or.inl (by show 128 * 0 + l.val < 384; omega)), canon_col_miss _ _ _ _ _ (Or.inl (by show 128 * 0 + l.val < 256; omega)), canon_col_miss _ _ _ _ _ (Or.inl (by show 128 * 0 + l.val < 128; omega)), canon_col_hit _ _ _ r l _ (by show 128 * 0 + l.val = 0 + l.val; omega)]; simp only [ld_hd, ld_cols, ld_row]; rfl
  | 1 => rw [canon_col_miss _ _ _ _ _ (Or.inl (by show 128 * 1 + l.val < 896; omega)), canon_col_miss _ _ _ _ _ (Or.inl (by show 128 * 1 + l.val < 768; omega)), canon_col_miss _ _ _ _ _ (Or.inl (by show 128 * 1 + l.val < 640; omega)), canon_col_miss _ _ _ _ _ (Or.inl (by show 128 * 1 + l.val < 512; omega)), canon_col_miss _ _ _ _ _ (Or.inl (by show 128 * 1 + l.val < 384; omega)), canon_col_miss _ _ _ _ _ (Or.inl (by show 128 * 1 + l.val < 256; omega)), canon_col_hit _ _ _ r l _ (by show 128 * 1 + l.val = 128 + l.val; omega)]; simp only [ld_hd, ld_cols, ld_row]; rfl
  | 2 => rw [canon_col_miss _ _ _ _ _ (Or.inl (by show 128 * 2 + l.val < 896; omega)), canon_col_miss _ _ _ _ _ (Or.inl (by show 128 * 2 + l.val < 768; omega)), canon_col_miss _ _ _ _ _ (Or.inl (by show 128 * 2 + l.val < 640; omega)), canon_col_miss _ _ _ _ _ (Or.inl (by show 128 * 2 + l.val < 512; omega)), canon_col_miss _ _ _ _ _ (Or.inl (by show 128 * 2 + l.val < 384; omega)), canon_col_hit _ _ _ r l _ (by show 128 * 2 + l.val = 256 + l.val; omega)]; simp only [ld_hd, ld_cols, ld_row]; rfl
  | 3 => rw [canon_col_miss _ _ _ _ _ (Or.inl (by show 128 * 3 + l.val < 896; omega)), canon_col_miss _ _ _ _ _ (Or.inl (by show 128 * 3 + l.val < 768; omega)), canon_col_miss _ _ _ _ _ (Or.inl (by show 128 * 3 + l.val < 640; omega)), canon_col_miss _ _ _ _ _ (Or.inl (by show 128 * 3 + l.val < 512; omega)), canon_col_hit _ _ _ r l _ (by show 128 * 3 + l.val = 384 + l.val; omega)]; simp only [ld_hd, ld_cols, ld_row]; rfl
  | 4 => rw [canon_col_miss _ _ _ _ _ (Or.inl (by show 128 * 4 + l.val < 896; omega)), canon_col_miss _ _ _ _ _ (Or.inl (by show 128 * 4 + l.val < 768; omega)), canon_col_miss _ _ _ _ _ (Or.inl (by show 128 * 4 + l.val < 640; omega)), canon_col_hit _ _ _ r l _ (by show 128 * 4 + l.val = 512 + l.val; omega)]; simp only [ld_hd, ld_cols, ld_row]; rfl
  | 5 => rw [canon_col_miss _ _ _ _ _ (Or.inl (by show 128 * 5 + l.val < 896; omega)), canon_col_miss _ _ _ _ _ (Or.inl (by show 128 * 5 + l.val < 768; omega)), canon_col_hit _ _ _ r l _ (by show 128 * 5 + l.val = 640 + l.val; omega)]; simp only [ld_hd, ld_cols, ld_row]; rfl
  | 6 => rw [canon_col_miss _ _ _ _ _ (Or.inl (by show 128 * 6 + l.val < 896; omega)), canon_col_hit _ _ _ r l _ (by show 128 * 6 + l.val = 768 + l.val; omega)]; simp only [ld_hd, ld_cols, ld_row]; rfl
  | 7 => rw [canon_col_hit _ _ _ r l _ (by show 128 * 7 + l.val = 896 + l.val; omega)]; simp only [ld_hd, ld_cols, ld_row]; rfl

end

end Cert.Kernel2Ideal.Fox

end
-- ==== Proof.FoxStep.lean ====
module

public import proofs.«01_k».proof.Proof.FoxOpen
public import proofs.«01_k».proof.Proof.Online

@[expose] public section

set_option maxHeartbeats 1000000
set_option maxRecDepth 16384

noncomputable section

open Idealize.ShloMosaic Idealize.ShloMosaic.TcCoe Idealize.SL.Sem

/-! One block of keys, for one head of the forgetting attention: the running maximum and sums go one block further. -/

namespace Cert.Kernel2Ideal.Fox

open Cert.Kernel2Ideal Cert.Kernel2Ideal.Gen Cert.Heads Cert.Online

/-- The score of query row `r` and key row `e`: their product, and the difference of their forgetting sums. -/
def sc (q : Vec Ideal S512x128 .bf16) (k : Vec Ideal S512x128 .f32) (fq : Vec Ideal S512x1 .f32) (fk : Vec Ideal S1x1x512 .f32)
    (r e : Fin 512) : EReal := ∑ d, q (ix2 r d) * k (ix2 e d) + (fq (ix2 r 0) - fk (ix3 0 0 e))

/-- The score kept on and below the diagonal. -/
def scD (q : Vec Ideal S512x128 .bf16) (k : Vec Ideal S512x128 .f32) (fq : Vec Ideal S512x1 .f32) (fk : Vec Ideal S1x1x512 .f32)
    (r e : Fin 512) : EReal := if e.val ≤ r.val then sc q k fq fk r e else ⊥

/-- The values beside a column block of ones. -/
def v1 (v : Vec Ideal S512x128 .f32) (e : Fin 512) (l : Fin 256) : EReal :=
  if h : l.val < 128 then v (ix2 e ⟨l.val, h⟩) else 1

theorem sel_eq (e r : Fin 512) (x : EReal) :
    Scalar.select (IntOp.cmpi CmpIPredicate.sle (BitVec.ofNat 32 e.val) (BitVec.ofNat 32 r.val)) x
      (Named.named (F := Ideal) (φ := .f32) κ "mask" 0xF149F2CA#32) = if e.val ≤ r.val then x else ⊥ :=
  sel_le _ _ (by omega) (by omega) _ _

variable (q : Vec Ideal S512x128 .bf16) (k v : Vec Ideal S512x128 .f32) (fq : Vec Ideal S512x1 .f32) (fk : Vec Ideal S1x1x512 .f32)
  (mp : Vec Ideal S1x512x128 .f32) (ap : Vec Ideal S1x512x256 .f32) (S : Fin 512 → ℕ → Fin 512 → EReal)
  (W : Fin 256 → ℕ → Fin 512 → EReal) (j : ℕ)

theorem m_full (hm : ∀ r l, mp (ix3 0 r l) = Mx (S r) j) (hs : ∀ r e, sc q k fq fk r e = S r j e) (r : Fin 512) (l : Fin 128) :
    mF (F := Ideal) k q fq fk mp (ix3 0 r l) = Mx (S r) (j + 1) := by
  unfold sc at hs
  pointwise [mF, aF, k0_pay17, k0_pay16, k0_pay15, k0_pay14, k0_pay13, k0_pay12, k0_pay11, k0_pay10]
  simp only [hm, hs, fold_max, Mx_succ]

theorem a_full (hm : ∀ r l, mp (ix3 0 r l) = Mx (S r) j) (ha : ∀ r l, ap (ix3 0 r l) = Ac (S r) (W l) j)
    (hs : ∀ r e, sc q k fq fk r e = S r j e) (hv : ∀ e l, v1 v e l = W l j e) (ht : ∀ r b e, S r b e ≠ ⊤) (r : Fin 512) (l : Fin 256) :
    aF (F := Ideal) k v q fq fk mp ap (ix3 0 r l) = Ac (S r) (W l) (j + 1) := by
  unfold sc at hs
  unfold v1 at hv
  pointwise [mF, aF, k0_pay17, k0_pay16, k0_pay15, k0_pay14, k0_pay13, k0_pay12, k0_pay11, k0_pay10]
  simp only [hm, ha, hs, fold_max, dite_eq_ite, ite_self, ← Mx_succ, hv, Ac_succ _ _ (ht r)]

theorem m_diag (hm : ∀ r l, mp (ix3 0 r l) = Mx (S r) j) (hs : ∀ r e, scD q k fq fk r e = S r j e) (r : Fin 512) (l : Fin 128) :
    mD (F := Ideal) k q fq fk mp (ix3 0 r l) = Mx (S r) (j + 1) := by
  unfold scD sc at hs
  pointwise [mD, aD, k0_pay63, k0_pay62, k0_pay61, k0_pay60, k0_pay59, k0_pay58, k0_pay57, k0_pay56, k0_pay55, k0_pay54]
  simp only [sel_eq, hm, hs, fold_max, Mx_succ]

theorem a_diag (hm : ∀ r l, mp (ix3 0 r l) = Mx (S r) j) (ha : ∀ r l, ap (ix3 0 r l) = Ac (S r) (W l) j)
    (hs : ∀ r e, scD q k fq fk r e = S r j e) (hv : ∀ e l, v1 v e l = W l j e) (ht : ∀ r b e, S r b e ≠ ⊤) (r : Fin 512) (l : Fin 256) :
    aD (F := Ideal) k v q fq fk mp ap (ix3 0 r l) = Ac (S r) (W l) (j + 1) := by
  unfold scD sc at hs
  unfold v1 at hv
  pointwise [mD, aD, k0_pay63, k0_pay62, k0_pay61, k0_pay60, k0_pay59, k0_pay58, k0_pay57, k0_pay56, k0_pay55, k0_pay54]
  simp only [sel_eq, hm, ha, hs, fold_max, dite_eq_ite, ite_self, ← Mx_succ, hv, Ac_succ _ _ (ht r)]

end Cert.Kernel2Ideal.Fox

end
-- ==== Proof.FoxValue.lean ====
module

public import proofs.«01_k».proof.Proof.FoxStep
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

/-! The forgetting attention's grid: what the scratch holds after every point, and the array the run leaves. -/

namespace Cert.Kernel2Ideal.Fox

open Cert.Kernel2Ideal Cert.Kernel2Ideal.Gen Cert.Heads Cert.Online

variable (m : (ℓ : Loc nD τ sig) → Buf (Elt Ideal) ℓ)

/-- The queries. -/
abbrev Q (c : Dev nD) : Vec Ideal S8192x1024 .bf16 := m ((c : Thread nD τ).loc main_arg0)
/-- The keys. -/
abbrev K (c : Dev nD) : Vec Ideal S8192x256 .f32 := m ((c : Thread nD τ).loc main_arg1)
/-- The values. -/
abbrev Vv (c : Dev nD) : Vec Ideal S8192x256 .f32 := m ((c : Thread nD τ).loc main_arg2)
/-- The queries' forgetting sums. -/
abbrev Fq (c : Dev nD) : Vec Ideal S8192x8 .f32 := m ((c : Thread nD τ).loc main_arg3)
/-- The keys' forgetting sums. -/
abbrev Fk (c : Dev nD) : Vec Ideal S4x8x2048 .f32 := m ((c : Thread nD τ).loc main_arg4)

/-- The entry at natural positions, and 0 outside. -/
def at3 (x : Vec Ideal S4x8x2048 .f32) (b h p : ℕ) : EReal :=
  if hh : b < 4 ∧ h < 8 ∧ p < 2048 then x (ix3 ⟨b, hh.1⟩ ⟨h, hh.2.1⟩ ⟨p, hh.2.2⟩) else 0

theorem at3_of (x : Vec Ideal S4x8x2048 .f32) (b : Fin 4) (h : Fin 8) (p : Fin 2048) {b' h' p' : ℕ} (hb : b.val = b') (hh : h.val = h')
    (hp : p.val = p') : x (ix3 b h p) = at3 x b' h' p' := by
  subst hb hh hp
  unfold at3
  rw [dif_pos ⟨b.isLt, h.isLt, p.isLt⟩]

theorem at3_coe (x : Vec Ideal S4x8x2048 .f32) (hx : ∀ i, ∃ y : ℝ, (x i : EReal) = y) (b h p : ℕ) : ∃ y : ℝ, at3 x b h p = y := by
  unfold at3
  split
  · exact hx _
  · exact ⟨0, by simp⟩

/-- The score of query position `p` and key `e` of block `j`, in prompt `b` and head `h`, where the key is not after the query. -/
def Sc (q : Vec Ideal S8192x1024 .bf16) (k : Vec Ideal S8192x256 .f32) (fq : Vec Ideal S8192x8 .f32) (fk : Vec Ideal S4x8x2048 .f32)
    (b h p j : ℕ) (e : Fin 512) : EReal :=
  if j * 512 + e.val ≤ p then
    ∑ d : Fin 128, at2 q (b * 2048 + p) (h * 128 + d.val) * at2 k (b * 2048 + (j * 512 + e.val)) (h / 4 * 128 + d.val) +
      (at2 fq (b * 2048 + p) h - at3 fk b h (j * 512 + e.val))
  else ⊥

/-- Column `l` of the values of key `e` of block `j`, then ones. -/
def Wt (v : Vec Ideal S8192x256 .f32) (b h l j : ℕ) (e : Fin 512) : EReal :=
  if l < 128 then at2 v (b * 2048 + (j * 512 + e.val)) (h / 4 * 128 + l) else 1

theorem idx0 : ∀ t : Fin cfg0.N, win0_0.index t 0 = t.val / 16 * 4 + t.val / 4 % 4 ∧ win0_0.index t 1 = 0 :=
  (by decide +kernel : ∀ t : Fin grid0.N, _)
theorem idx1 : ∀ t : Fin cfg0.N, win0_1.index t 0 = t.val / 16 * 4 + min (t.val / 4 % 4) (t.val % 4) ∧ win0_1.index t 1 = 0 :=
  (by decide +kernel : ∀ t : Fin grid0.N, _)
theorem idx2 : ∀ t : Fin cfg0.N, win0_2.index t 0 = t.val / 16 * 4 + min (t.val / 4 % 4) (t.val % 4) ∧ win0_2.index t 1 = 0 :=
  (by decide +kernel : ∀ t : Fin grid0.N, _)
theorem idx3 : ∀ t : Fin cfg0.N, win0_3.index t 0 = t.val / 16 * 4 + t.val / 4 % 4 ∧ win0_3.index t 1 = 0 :=
  (by decide +kernel : ∀ t : Fin grid0.N, _)
theorem idx4 : ∀ t : Fin cfg0.N, win0_4.index t 0 = t.val / 16 ∧ win0_4.index t 1 = 0 ∧ win0_4.index t 2 = min (t.val / 4 % 4) (t.val % 4) :=
  (by decide +kernel : ∀ t : Fin grid0.N, _)
theorem idx5 : ∀ t : Fin cfg0.N, win0_5.index t 0 = t.val / 16 * 4 + t.val / 4 % 4 ∧ win0_5.index t 1 = 0 :=
  (by decide +kernel : ∀ t : Fin grid0.N, _)

theorem ptLt (t : Fin cfg0.N) : t.val < 64 := lt_of_lt_of_eq t.isLt (show cfg0.N = 64 from N_0)

theorem blk0 (c : Dev nD) (t : Fin cfg0.N) (r : Fin 512) (d : Fin 1024) :
    (iblk m c 0 t : Vec Ideal S512x1024 .bf16) (ix2 r d) = at2 (Q m c) ((t.val / 16 * 4 + t.val / 4 % 4) * 512 + r.val) d.val := by
  have := ptLt t
  rw [← at2_of (Q m c) ⟨(t.val / 16 * 4 + t.val / 4 % 4) * 512 + r.val, by omega⟩ d rfl rfl]
  unfold iblk
  rw [View.read_apply]
  show V m c main_arg0 _ = _
  rw [V_main_arg0]
  congr 1
  funext a
  apply Fin.ext
  match a with
  | ⟨0, _⟩ => show win0_0.index t 0 * 512 + 1 * r.val = (t.val / 16 * 4 + t.val / 4 % 4) * 512 + r.val; rw [(idx0 t).1]; omega
  | ⟨1, _⟩ => show win0_0.index t 1 * 1024 + 1 * d.val = d.val; rw [(idx0 t).2]; omega

theorem blk1 (c : Dev nD) (t : Fin cfg0.N) (r : Fin 512) (d : Fin 256) :
    (iblk m c 1 t : Vec Ideal S512x256 .f32) (ix2 r d) = at2 (K m c) ((t.val / 16 * 4 + min (t.val / 4 % 4) (t.val % 4)) * 512 + r.val) d.val := by
  have := ptLt t
  rw [← at2_of (K m c) ⟨(t.val / 16 * 4 + min (t.val / 4 % 4) (t.val % 4)) * 512 + r.val, by omega⟩ d rfl rfl]
  unfold iblk
  rw [View.read_apply]
  show V m c main_arg1 _ = _
  rw [V_main_arg1]
  congr 1
  funext a
  apply Fin.ext
  match a with
  | ⟨0, _⟩ => show win0_1.index t 0 * 512 + 1 * r.val = (t.val / 16 * 4 + min (t.val / 4 % 4) (t.val % 4)) * 512 + r.val; rw [(idx1 t).1]; omega
  | ⟨1, _⟩ => show win0_1.index t 1 * 256 + 1 * d.val = d.val; rw [(idx1 t).2]; omega

theorem blk2 (c : Dev nD) (t : Fin cfg0.N) (r : Fin 512) (d : Fin 256) :
    (iblk m c 2 t : Vec Ideal S512x256 .f32) (ix2 r d) = at2 (Vv m c) ((t.val / 16 * 4 + min (t.val / 4 % 4) (t.val % 4)) * 512 + r.val) d.val := by
  have := ptLt t
  rw [← at2_of (Vv m c) ⟨(t.val / 16 * 4 + min (t.val / 4 % 4) (t.val % 4)) * 512 + r.val, by omega⟩ d rfl rfl]
  unfold iblk
  rw [View.read_apply]
  show V m c main_arg2 _ = _
  rw [V_main_arg2]
  congr 1
  funext a
  apply Fin.ext
  match a with
  | ⟨0, _⟩ => show win0_2.index t 0 * 512 + 1 * r.val = (t.val / 16 * 4 + min (t.val / 4 % 4) (t.val % 4)) * 512 + r.val; rw [(idx2 t).1]; omega
  | ⟨1, _⟩ => show win0_2.index t 1 * 256 + 1 * d.val = d.val; rw [(idx2 t).2]; omega

theorem blk3 (c : Dev nD) (t : Fin cfg0.N) (r : Fin 512) (d : Fin 8) :
    (iblk m c 3 t : Vec Ideal S512x8 .f32) (ix2 r d) = at2 (Fq m c) ((t.val / 16 * 4 + t.val / 4 % 4) * 512 + r.val) d.val := by
  have := ptLt t
  rw [← at2_of (Fq m c) ⟨(t.val / 16 * 4 + t.val / 4 % 4) * 512 + r.val, by omega⟩ d rfl rfl]
  unfold iblk
  rw [View.read_apply]
  show V m c main_arg3 _ = _
  rw [V_main_arg3]
  congr 1
  funext a
  apply Fin.ext
  match a with
  | ⟨0, _⟩ => show win0_3.index t 0 * 512 + 1 * r.val = (t.val / 16 * 4 + t.val / 4 % 4) * 512 + r.val; rw [(idx3 t).1]; omega
  | ⟨1, _⟩ => show win0_3.index t 1 * 8 + 1 * d.val = d.val; rw [(idx3 t).2]; omega

theorem blk4 (c : Dev nD) (t : Fin cfg0.N) (h : Fin 8) (e : Fin 512) :
    (iblk m c 4 t : Vec Ideal S1x8x512 .f32) (ix3 0 h e) = at3 (Fk m c) (t.val / 16) h.val (min (t.val / 4 % 4) (t.val % 4) * 512 + e.val) := by
  have := ptLt t
  rw [← at3_of (Fk m c) ⟨t.val / 16, by omega⟩ h ⟨min (t.val / 4 % 4) (t.val % 4) * 512 + e.val, by omega⟩ rfl rfl rfl]
  unfold iblk
  rw [View.read_apply]
  show V m c main_arg4 _ = _
  rw [V_main_arg4]
  congr 1
  funext a
  apply Fin.ext
  match a with
  | ⟨0, _⟩ => show win0_4.index t 0 * 1 + 1 * 0 = t.val / 16; rw [(idx4 t).1]; omega
  | ⟨1, _⟩ => show win0_4.index t 1 * 8 + 1 * h.val = h.val; rw [(idx4 t).2.1]; omega
  | ⟨2, _⟩ => show win0_4.index t 2 * 512 + 1 * e.val = min (t.val / 4 % 4) (t.val % 4) * 512 + e.val; rw [(idx4 t).2.2]; omega

/-- The scores of row `r` of head `h` at point `n`. -/
abbrev St (c : Dev nD) (n : ℕ) (h : Fin 8) (r : Fin 512) : ℕ → Fin 512 → EReal :=
  Sc (Q m c) (K m c) (Fq m c) (Fk m c) (n / 16) h.val (n / 4 % 4 * 512 + r.val)
/-- The values of head `h` at point `n`. -/
abbrev Vt (c : Dev nD) (n : ℕ) (h : Fin 8) (l : Fin 256) : ℕ → Fin 512 → EReal :=
  Wt (Vv m c) (n / 16) h.val l.val

/-- A score of a point's block, before the mask. -/
theorem hs_dot (c : Dev nD) (t : Fin cfg0.N) (hle : t.val % 4 ≤ t.val / 4 % 4) (h : Fin 8) (r e : Fin 512) :
    sc (qh (iblk m c 0 t) h) (kh (iblk m c 1 t) h) (fqh (iblk m c 3 t) h) (fkh (iblk m c 4 t) h) r e =
      ∑ d : Fin 128, at2 (Q m c) (t.val / 16 * 2048 + (t.val / 4 % 4 * 512 + r.val)) (h.val * 128 + d.val) *
        at2 (K m c) (t.val / 16 * 2048 + (t.val % 4 * 512 + e.val)) (h.val / 4 * 128 + d.val) +
      (at2 (Fq m c) (t.val / 16 * 2048 + (t.val / 4 % 4 * 512 + r.val)) h.val - at3 (Fk m c) (t.val / 16) h.val (t.val % 4 * 512 + e.val)) := by
  unfold sc
  refine congrArg₂ (· + ·) (Finset.sum_congr rfl fun d _ => congrArg₂ (· * ·) ?_ ?_) (congrArg₂ (· - ·) ?_ ?_)
  · refine (blk0 m c t r ⟨128 * h.val + d.val, by omega⟩).trans ?_
    congr 1 <;> first | omega | (dsimp only; omega)
  · refine (blk1 m c t e ⟨128 * (h.val / 4) + d.val, by omega⟩).trans ?_
    congr 1 <;> first | omega | (dsimp only; omega)
  · refine (blk3 m c t r h).trans ?_
    congr 1 <;> first | omega | (dsimp only; omega)
  · refine (blk4 m c t h e).trans ?_
    congr 1 <;> first | omega | (dsimp only; omega)

theorem hs_full (c : Dev nD) (t : Fin cfg0.N) (hle : t.val % 4 + 1 ≤ t.val / 4 % 4) (h : Fin 8) (r e : Fin 512) :
    sc (qh (iblk m c 0 t) h) (kh (iblk m c 1 t) h) (fqh (iblk m c 3 t) h) (fkh (iblk m c 4 t) h) r e = St m c t.val h r (t.val % 4) e := by
  unfold St Sc
  rw [if_pos (by omega), hs_dot m c t (by omega)]

theorem hs_diag (c : Dev nD) (t : Fin cfg0.N) (he : t.val / 4 % 4 = t.val % 4) (h : Fin 8) (r e : Fin 512) :
    scD (qh (iblk m c 0 t) h) (kh (iblk m c 1 t) h) (fqh (iblk m c 3 t) h) (fkh (iblk m c 4 t) h) r e = St m c t.val h r (t.val % 4) e := by
  unfold scD St Sc
  exact if_congr (by omega) (hs_dot m c t (by omega) h r e) rfl

theorem hv_any (c : Dev nD) (t : Fin cfg0.N) (he : t.val % 4 ≤ t.val / 4 % 4) (h : Fin 8) (e : Fin 512) (l : Fin 256) :
    v1 (kh (iblk m c 2 t) h) e l = Vt m c t.val h l (t.val % 4) e := by
  unfold v1 Vt Wt
  by_cases hl : l.val < 128
  · rw [dif_pos hl, if_pos hl]
    refine (blk2 m c t e ⟨128 * (h.val / 4) + l.val, by omega⟩).trans ?_
    congr 1 <;> first | omega | (dsimp only; omega)
  · rw [dif_neg hl, if_neg hl]

theorem st_skip (c : Dev nD) (n : ℕ) (hn : n / 4 % 4 < n % 4) (h : Fin 8) (r e : Fin 512) : St m c n h r (n % 4) e = ⊥ := by
  unfold St Sc
  rw [if_neg (by omega)]

/-- A kept score of real queries, keys and forgetting sums is a real. -/
theorem sc_coe (q : Vec Ideal S8192x1024 .bf16) (k : Vec Ideal S8192x256 .f32) (fq : Vec Ideal S8192x8 .f32) (fk : Vec Ideal S4x8x2048 .f32)
    (hq : ∀ i, ∃ y : ℝ, (q i : EReal) = y) (hk : ∀ i, ∃ y : ℝ, (k i : EReal) = y) (hfq : ∀ i, ∃ y : ℝ, (fq i : EReal) = y)
    (hfk : ∀ i, ∃ y : ℝ, (fk i : EReal) = y) (b h p j : ℕ) (e : Fin 512) (hle : j * 512 + e.val ≤ p) :
    ∃ y : ℝ, Sc q k fq fk b h p j e = y := by
  unfold Sc
  rw [if_pos hle]
  obtain ⟨y, hy⟩ := dot_coe (fun d : Fin 128 => at2 q (b * 2048 + p) (h * 128 + d.val))
    (fun d => at2 k (b * 2048 + (j * 512 + e.val)) (h / 4 * 128 + d.val)) (fun _ => at2_coe q hq _ _) (fun _ => at2_coe k hk _ _)
  obtain ⟨y1, h1⟩ := at2_coe fq hfq (b * 2048 + p) h
  obtain ⟨y2, h2⟩ := at3_coe fk hfk b h (j * 512 + e.val)
  refine ⟨y + (y1 - y2), ?_⟩
  rw [hy, h1, h2, ← EReal.coe_sub, ← EReal.coe_add]

theorem sc_ne_top (q : Vec Ideal S8192x1024 .bf16) (k : Vec Ideal S8192x256 .f32) (fq : Vec Ideal S8192x8 .f32) (fk : Vec Ideal S4x8x2048 .f32)
    (hq : ∀ i, ∃ y : ℝ, (q i : EReal) = y) (hk : ∀ i, ∃ y : ℝ, (k i : EReal) = y) (hfq : ∀ i, ∃ y : ℝ, (fq i : EReal) = y)
    (hfk : ∀ i, ∃ y : ℝ, (fk i : EReal) = y) (b h p j : ℕ) (e : Fin 512) : Sc q k fq fk b h p j e ≠ ⊤ := by
  by_cases hle : j * 512 + e.val ≤ p
  · obtain ⟨y, hy⟩ := sc_coe q k fq fk hq hk hfq hfk b h p j e hle
    rw [hy]
    exact EReal.coe_ne_top y
  · unfold Sc
    rw [if_neg hle]
    exact bot_ne_top

theorem sc_ne_bot (q : Vec Ideal S8192x1024 .bf16) (k : Vec Ideal S8192x256 .f32) (fq : Vec Ideal S8192x8 .f32) (fk : Vec Ideal S4x8x2048 .f32)
    (hq : ∀ i, ∃ y : ℝ, (q i : EReal) = y) (hk : ∀ i, ∃ y : ℝ, (k i : EReal) = y) (hfq : ∀ i, ∃ y : ℝ, (fq i : EReal) = y)
    (hfk : ∀ i, ∃ y : ℝ, (fk i : EReal) = y) (b h p : ℕ) : Sc q k fq fk b h p 0 0 ≠ ⊥ := by
  obtain ⟨y, hy⟩ := sc_coe q k fq fk hq hk hfq hfk b h p 0 0 (by simp)
  rw [hy]
  exact EReal.coe_ne_bot y

theorem ms_init (r : Fin 512) (l : Fin 128) (h : Fin 8) : (k0_pay1 (F := Ideal)) (ix3 h r l) = (⊥ : EReal) := by
  pointwise [k0_pay1]
  rfl

theorem ac_init (r : Fin 512) (l : Fin 256) (h : Fin 8) : (k0_pay2 (F := Ideal)) (ix3 h r l) = (0 : EReal) := by
  pointwise [k0_pay2]

/-- After point `n` the scratch holds the running maximum and sums of the blocks of keys met so far, and after a last block the
    output block holds their quotient. -/
def Inv (c : Dev nD) (n : ℕ) (o : Vec Ideal S512x1024 .bf16 × Vec Ideal S8x512x128 .f32 × Vec Ideal S8x512x256 .f32) : Prop :=
  (∀ h r l, o.2.1 (ix3 h r l) = Mx (St m c n h r) (n % 4 + 1)) ∧
    (∀ h r l, o.2.2 (ix3 h r l) = Ac (St m c n h r) (Vt m c n h l) (n % 4 + 1)) ∧
    (n % 4 = 3 → ∀ (h : Fin 8) (r : Fin 512) (l : Fin 128), o.1 (ix2 r ⟨128 * h.val + l.val, by omega⟩) =
      Ideal.div (Ac (St m c n h r) (Vt m c n h ⟨l.val, by omega⟩) 4) (Ac (St m c n h r) (fun _ _ => 1) 4))

/-- The quotient of the running sums after a last block. -/
theorem quo (c : Dev nD) (n : ℕ) (a : Vec Ideal S1x512x256 .f32) (h : Fin 8)
    (ha : ∀ r l, a (ix3 0 r l) = Ac (St m c n h r) (Vt m c n h l) (n % 4 + 1)) (h3 : n % 4 = 3) (r : Fin 512) (l : Fin 128) :
    oF (F := Ideal) a (ix2 r l) =
      Ideal.div (Ac (St m c n h r) (Vt m c n h ⟨l.val, by omega⟩) 4) (Ac (St m c n h r) (fun _ _ => 1) 4) := by
  have hone : Vt m c n h ⟨128 + l.val, by omega⟩ = fun _ _ => 1 := by
    funext j e; unfold Vt Wt; rw [if_neg (by show ¬ 128 + l.val < 128; omega)]
  pointwise [oF, k0_pay7]
  rw [ha, ha, hone, h3]

variable (hq : ∀ c i, ∃ y : ℝ, (Q m c i : EReal) = y) (hk : ∀ c i, ∃ y : ℝ, (K m c i : EReal) = y)
  (hfq : ∀ c i, ∃ y : ℝ, (Fq m c i : EReal) = y) (hfk : ∀ c i, ∃ y : ℝ, (Fk m c i : EReal) = y)
include hq hk hfq hfk

theorem ht (c : Dev nD) (n : ℕ) (h : Fin 8) (r : Fin 512) (b : ℕ) (e : Fin 512) : St m c n h r b e ≠ ⊤ :=
  sc_ne_top _ _ _ _ (hq c) (hk c) (hfq c) (hfk c) _ _ _ _ _

/-- The first block of keys, when it is the diagonal one. -/
theorem inv_A (c : Dev nD) (n : ℕ) (hn : n < cfg0.N) (h0 : n % 4 = 0) (h2 : n / 4 % 4 = n % 4) : Inv m c n (outsAt0 m c n hn) := by
  rw [outsAt0_A m c ⟨n, hn⟩ h0 (by dsimp only; omega) h2 (by dsimp only; omega)]
  refine ⟨fun h r l => ?_, fun h r l => ?_, fun h3 => absurd h3 (by omega)⟩
  · dsimp only
    rw [m_A]
    exact m_diag _ _ _ _ _ (St m c n h) (n % 4) (fun r l => (ms_init r l h).trans (by rw [h0, Mx_zero])) (hs_diag m c ⟨n, hn⟩ h2 h) r l
  · dsimp only
    rw [a_A]
    exact a_diag _ _ _ _ _ _ _ (St m c n h) (Vt m c n h) (n % 4) (fun r l => (ms_init r l h).trans (by rw [h0, Mx_zero]))
      (fun r l => (ac_init r l h).trans (by rw [h0, Ac_zero])) (hs_diag m c ⟨n, hn⟩ h2 h) (hv_any m c ⟨n, hn⟩ (by dsimp only; omega) h)
      (ht m hq hk hfq hfk c n h) r l

/-- The first block of keys, when every key is visible. -/
theorem inv_D (c : Dev nD) (n : ℕ) (hn : n < cfg0.N) (h0 : n % 4 = 0) (h1 : n % 4 + 1 ≤ n / 4 % 4) : Inv m c n (outsAt0 m c n hn) := by
  rw [outsAt0_D m c ⟨n, hn⟩ h0 h1 (by dsimp only; omega) (by dsimp only; omega)]
  refine ⟨fun h r l => ?_, fun h r l => ?_, fun h3 => absurd h3 (by omega)⟩
  · dsimp only
    rw [m_D]
    exact m_full _ _ _ _ _ (St m c n h) (n % 4) (fun r l => (ms_init r l h).trans (by rw [h0, Mx_zero])) (hs_full m c ⟨n, hn⟩ h1 h) r l
  · dsimp only
    rw [a_D]
    exact a_full _ _ _ _ _ _ _ (St m c n h) (Vt m c n h) (n % 4) (fun r l => (ms_init r l h).trans (by rw [h0, Mx_zero]))
      (fun r l => (ac_init r l h).trans (by rw [h0, Ac_zero])) (hs_full m c ⟨n, hn⟩ h1 h) (hv_any m c ⟨n, hn⟩ (by dsimp only; omega) h)
      (ht m hq hk hfq hfk c n h) r l

/-- The point before, seen from a point that is not the first of its row of blocks. -/
theorem inv_prev (c : Dev nD) (n : ℕ) (h0 : ¬(n + 1) % 4 = 0) (o) (hi : Inv m c n o) :
    (∀ h r l, o.2.1 (ix3 h r l) = Mx (St m c (n + 1) h r) ((n + 1) % 4)) ∧
    (∀ h r l, o.2.2 (ix3 h r l) = Ac (St m c (n + 1) h r) (Vt m c (n + 1) h l) ((n + 1) % 4)) := by
  have e2 : (n + 1) / 16 = n / 16 := by omega
  have e3 : (n + 1) / 4 = n / 4 := by omega
  have e4 : (n + 1) % 4 = n % 4 + 1 := by omega
  obtain ⟨i1, i2, -⟩ := hi
  unfold St at i1
  unfold St Vt at i2 ⊢
  rw [e2, e3, e4]
  exact ⟨i1, i2⟩

/-- After every point. -/
theorem state (c : Dev nD) : ∀ (n : ℕ) (hn : n < cfg0.N), Inv m c n (outsAt0 m c n hn) := by
  intro n
  induction n with
  | zero => intro hn; exact inv_A m hq hk hfq hfk c 0 hn rfl rfl
  | succ n ih =>
    intro hn
    by_cases h0 : (n + 1) % 4 = 0
    · by_cases h1 : (n + 1) % 4 + 1 ≤ (n + 1) / 4 % 4
      · exact inv_D m hq hk hfq hfk c _ hn h0 h1
      · exact inv_A m hq hk hfq hfk c _ hn h0 (by omega)
    obtain ⟨pm, pa⟩ := inv_prev m hq hk hfq hfk c n h0 _ (ih (Nat.lt_of_succ_lt hn))
    have hm : ∀ h r l, hd (outsAt0 m c n (Nat.lt_of_succ_lt hn)).2.1 h (ix3 0 r l) = Mx (St m c (n + 1) h r) ((n + 1) % 4) :=
      fun h r l => pm h r l
    have ha : ∀ h r l, hd (outsAt0 m c n (Nat.lt_of_succ_lt hn)).2.2 h (ix3 0 r l) =
        Ac (St m c (n + 1) h r) (Vt m c (n + 1) h l) ((n + 1) % 4) := fun h r l => pa h r l
    have hT := ht m hq hk hfq hfk c (n + 1)
    by_cases h1 : (n + 1) % 4 + 1 ≤ (n + 1) / 4 % 4
    · have hs := hs_full m c ⟨n + 1, hn⟩ h1
      have hv := hv_any m c ⟨n + 1, hn⟩ (by dsimp only; omega)
      rw [outsAt0_F m c ⟨n + 1, hn⟩ h0 h1 (by dsimp only; omega) (by dsimp only; omega)]
      refine ⟨fun h r l => ?_, fun h r l => ?_, fun h3 => absurd h3 (by omega)⟩
      · dsimp only
        rw [m_F]
        exact m_full _ _ _ _ _ (St m c (n + 1) h) ((n + 1) % 4) (hm h) (hs h) r l
      · dsimp only
        rw [a_F]
        exact a_full _ _ _ _ _ _ _ (St m c (n + 1) h) (Vt m c (n + 1) h) ((n + 1) % 4) (hm h) (ha h) (hs h) (hv h) (hT h) r l
    by_cases h2 : (n + 1) / 4 % 4 = (n + 1) % 4
    · have hs := hs_diag m c ⟨n + 1, hn⟩ h2
      have hv := hv_any m c ⟨n + 1, hn⟩ (by dsimp only; omega)
      by_cases h3 : (n + 1) % 4 = 3
      · rw [outsAt0_G m c ⟨n + 1, hn⟩ h0 h1 h2 h3]
        refine ⟨fun h r l => ?_, fun h r l => ?_, fun h3 h r l => ?_⟩
        · dsimp only
          rw [m_G]
          exact m_diag _ _ _ _ _ (St m c (n + 1) h) ((n + 1) % 4) (hm h) (hs h) r l
        · dsimp only
          rw [a_G]
          exact a_diag _ _ _ _ _ _ _ (St m c (n + 1) h) (Vt m c (n + 1) h) ((n + 1) % 4) (hm h) (ha h) (hs h) (hv h) (hT h) r l
        · dsimp only
          rw [o_G]
          exact quo m c (n + 1) _ h
            (a_diag _ _ _ _ _ _ _ (St m c (n + 1) h) (Vt m c (n + 1) h) ((n + 1) % 4) (hm h) (ha h) (hs h) (hv h) (hT h)) h3 r l
      · rw [outsAt0_E m c ⟨n + 1, hn⟩ h0 h1 h2 h3]
        refine ⟨fun h r l => ?_, fun h r l => ?_, fun h3' => absurd h3' h3⟩
        · dsimp only
          rw [m_E]
          exact m_diag _ _ _ _ _ (St m c (n + 1) h) ((n + 1) % 4) (hm h) (hs h) r l
        · dsimp only
          rw [a_E]
          exact a_diag _ _ _ _ _ _ _ (St m c (n + 1) h) (Vt m c (n + 1) h) ((n + 1) % 4) (hm h) (ha h) (hs h) (hv h) (hT h) r l
    have hsk := st_skip m c (n + 1) (by omega)
    by_cases h3 : (n + 1) % 4 = 3
    · rw [outsAt0_C m c ⟨n + 1, hn⟩ h0 h1 h2 h3]
      have ha' : ∀ h r l, hd (outsAt0 m c n (Nat.lt_of_succ_lt hn)).2.2 h (ix3 0 r l) =
          Ac (St m c (n + 1) h r) (Vt m c (n + 1) h l) ((n + 1) % 4 + 1) := fun h r l => (ha h r l).trans (Ac_skip _ _ (hsk h r)).symm
      refine ⟨fun h r l => (pm h r l).trans (Mx_skip _ (hsk h r)).symm, fun h r l => ha' h r l, fun _ h r l => ?_⟩
      dsimp only
      rw [o_C]
      exact quo m c (n + 1) _ h (ha' h) h3 r l
    · rw [outsAt0_B m c ⟨n + 1, hn⟩ h0 h1 h2 h3]
      exact ⟨fun h r l => (pm h r l).trans (Mx_skip _ (hsk h r)).symm, fun h r l => (pa h r l).trans (Ac_skip _ _ (hsk h r)).symm,
        fun h3' => absurd h3' h3⟩

end Cert.Kernel2Ideal.Fox

end
-- ==== Proof.FoxRef.lean ====
module

public import proofs.«01_k».proof.Proof.Gen.Reference2Ideal.Read
public import proofs.«01_k».proof.Proof.Online

@[expose] public section

set_option maxRecDepth 16384

noncomputable section

open Idealize.ShloMosaic Idealize.ShloMosaic.TcCoe Idealize.SL.Sem

/-! The plain forgetting attention, entry by entry. -/

namespace Cert.Reference2Ideal.Fox

open Cert.Reference2Ideal Cert.Reference2Ideal.Gen Cert.Reference2Ideal.Read Cert.Online

variable (q : Vec Ideal S8192x1024 .bf16) (k v : Vec Ideal S8192x256 .f32) (fq : Vec Ideal S8192x8 .f32) (fk : Vec Ideal S4x8x2048 .f32)

/-- The score of query position `p` and key position `s` of prompt `b` in head `4 * n + g`, kept where the key is not after the query. -/
def score (b : Fin 4) (n : Fin 2) (g : Fin 4) (p s : Fin 2048) : EReal :=
  if s.val ≤ p.val then
    ∑ d : Fin 128, q (ix2 ⟨b.val * 2048 + p.val, by omega⟩ ⟨(n.val * 4 + g.val) * 128 + d.val, by omega⟩) *
      k (ix2 ⟨b.val * 2048 + s.val, by omega⟩ ⟨n.val * 128 + d.val, by omega⟩) +
    (fq (ix2 ⟨b.val * 2048 + p.val, by omega⟩ ⟨n.val * 4 + g.val, by omega⟩) - fk (ix3 b ⟨n.val * 4 + g.val, by omega⟩ s))
  else ⊥

theorem score_eq (b : Fin 4) (n : Fin 2) (g : Fin 4) (p s : Fin 2048) :
    val_main_v21 (F := Ideal) q k fq fk (ix5 b n g p s) = score q k fq fk b n g p s := by
  pointwise [val_main_v0, val_main_v1, val_main_v2, val_main_v4, val_main_v5, val_main_v6, val_main_v7, val_main_v8, val_main_v9,
    val_main_v10, val_main_v11, val_main_v12, val_main_v13, val_main_v14, val_main_v15, val_main_v16, val_main_v17, val_main_v18,
    val_main_v19, val_main_v20, val_main_cst, val_main_call0_v0, val_main_call0_v1, val_main_call0_v2, val_main_v21]
  refine (sel_le s.val p.val (by omega) (by omega) _ _).trans (if_congr Iff.rfl (congrArg (· + _) ?_) rfl)
  refine Finset.sum_congr rfl fun d _ => (mul_comm _ _).trans (congrArg (· * _) (congrArg q (congrArg (ix2 _) ?_)))
  apply Fin.ext; dsimp only; omega

/-- A maximum over the last axis. -/
theorem reduce_max (x : FVec Ideal S4x2x4x2048x2048 .f32) (z : FVec Ideal S_ .f32) (b : Fin 4) (n : Fin 2) (g : Fin 4) (p : Fin 2048) :
    Host.reduce (FloatOps.maximumf (F := Ideal) (φ := .f32)) x z reducesTo_S4x2x4x2048x2048_S4x2x4x2048_d4 h_S_ (ix4 b n g p)
      = (Finset.univ.fold max (z (Shape.Idx.first h_S_)) fun s => x (ix5 b n g p s) : EReal) := by
  rw [Host.reduce_eq_fold_single _ _ _ _ (by decide) _ _]
  congr 1
  funext s
  show x _ = x _
  congr 1
  funext a
  match a with
  | ⟨0, _⟩ => rfl
  | ⟨1, _⟩ => rfl
  | ⟨2, _⟩ => rfl
  | ⟨3, _⟩ => rfl
  | ⟨4, _⟩ => rfl

theorem max_val (b : Fin 4) (n : Fin 2) (g : Fin 4) (p : Fin 2048) :
    val_main_v22 (F := Ideal) q k fq fk (ix4 b n g p) = (Finset.univ.sup (score q k fq fk b n g p) : EReal) := by
  unfold val_main_v22
  rw [reduce_max]
  simp only [score_eq, val_main_cst_0_apply]
  exact fold_max _

theorem max_eq (b : Fin 4) (n : Fin 2) (g : Fin 4) (p : Fin 2048) :
    val_main_v24 (F := Ideal) q k fq fk (ix4 b n g p) = Finset.univ.sup (score q k fq fk b n g p) := by
  rw [val_main_v24_apply, max_val, val_main_v23_apply, val_main_cst_1_apply]
  generalize Finset.univ.sup (score q k fq fk b n g p) = y
  exact max_eq_right (a := (⊥ : EReal)) bot_le

theorem exp_eq (b : Fin 4) (n : Fin 2) (g : Fin 4) (p s : Fin 2048) :
    val_main_v28 (F := Ideal) q k fq fk (ix5 b n g p s) =
      Ideal.exp (score q k fq fk b n g p s - Finset.univ.sup (score q k fq fk b n g p)) := by
  pointwise [val_main_v25, val_main_v26, val_main_v27, val_main_v28]
  rw [score_eq, max_eq]

theorem prob_eq (b : Fin 4) (n : Fin 2) (g : Fin 4) (p s : Fin 2048) :
    val_main_v32 (F := Ideal) q k fq fk (ix5 b n g p s) = Ideal.div (val_main_v28 (F := Ideal) q k fq fk (ix5 b n g p s))
      (∑ x, val_main_v28 (F := Ideal) q k fq fk (ix5 b n g p x)) := by
  pointwise [val_main_cst_2, val_main_v29, val_main_v30, val_main_v31, val_main_v32]

/-- One entry of the reference's result: the values of the prompt weighted by the softmax of the kept scores. -/
theorem out_eq (b : Fin 4) (n : Fin 2) (g : Fin 4) (p : Fin 2048) (l : Fin 128) :
    val_main_v36 (F := Ideal) q k v fq fk (ix2 ⟨b.val * 2048 + p.val, by omega⟩ ⟨(n.val * 4 + g.val) * 128 + l.val, by omega⟩) =
      ∑ s : Fin 2048, Ideal.div (Ideal.exp (score q k fq fk b n g p s - Finset.univ.sup (score q k fq fk b n g p)))
        (∑ x, Ideal.exp (score q k fq fk b n g p x - Finset.univ.sup (score q k fq fk b n g p))) *
        v (ix2 ⟨b.val * 2048 + s.val, by omega⟩ ⟨n.val * 128 + l.val, by omega⟩) := by
  pointwise [val_main_v3, val_main_v33, val_main_v34, val_main_v35, val_main_v36]
  simp only [prob_eq, exp_eq]
  exact Finset.sum_congr rfl fun s _ => mul_comm _ _

end Cert.Reference2Ideal.Fox
end
-- ==== Proof.FoxAlg.lean ====
module

public import proofs.«01_k».proof.Defs
public import proofs.«01_k».proof.Proof.FoxValue
public import proofs.«01_k».proof.Proof.FoxRef
public import proofs.«01_k».proof.Proof.Gen.Reference2Ideal.Run
public import proofs.«01_k».proof.Proof.Gen.Pre_finite_qkf

@[expose] public section

set_option maxRecDepth 16384

noncomputable section

open Idealize.ShloMosaic Idealize.ShloMosaic.TcCoe Idealize.SL.Sem
open Idealize.ShloMosaic.Pipeline (Dat)

namespace Cert.FoxAlg

open Cert.Kernel2Ideal Cert.Kernel2Ideal.Gen Cert.Kernel2Ideal.Fox Cert.Online

variable (m : (ℓ : Loc nD τ sig) → Buf (Elt Ideal) ℓ)

/-- The array after the run: at every entry the quotient of its head's running sums over the prompt's four blocks of keys. -/
def G (c : Dev nD) : Vec Ideal S8192x1024 .bf16 := fun i =>
  Ideal.div (Ac (Sc (Q m c) (K m c) (Fq m c) (Fk m c) ((i 0).val / 2048) ((i 1).val / 128) ((i 0).val % 2048))
      (Wt (Vv m c) ((i 0).val / 2048) ((i 1).val / 128) ((i 1).val % 128)) 4)
    (Ac (Sc (Q m c) (K m c) (Fq m c) (Fk m c) ((i 0).val / 2048) ((i 1).val / 128) ((i 0).val % 2048)) (fun _ _ => 1) 4)

variable (hq : ∀ c i, ∃ y : ℝ, (Q m c i : EReal) = y) (hk : ∀ c i, ∃ y : ℝ, (K m c i : EReal) = y)
  (hfq : ∀ c i, ∃ y : ℝ, (Fq m c i : EReal) = y) (hfk : ∀ c i, ∃ y : ℝ, (Fk m c i : EReal) = y)

include hq hk hfq hfk in
/-- What a flushing point writes back is its block of `G`. -/
theorem flushed_eq (c : Dev nD) (t : Fin cfg0.N) (hf : (cfg0.win 5).flush t = true) :
    (dats m 0 c).flushed 5 t = ((cfg0.win 5).blk t).view.read (Elt Ideal) (G m c) := by
  rw [Value.flushed5]
  have h3 : t.val % 4 = 3 := (flush0_5 t).mp hf
  have hi := (state m hq hk hfq hfk c t.val t.isLt).2.2 h3
  obtain ⟨e0, e1⟩ := idx5 t
  have hN := ptLt t
  funext y
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  rw [e0] at hb0
  rw [e1] at hb1
  have hx : (cfg0.win 5).xinj (grid0.coords t) y =
      ix2 (⟨(y 0).val, hy0⟩ : Fin 512) (⟨128 * ((y 1).val / 128) + (y 1).val % 128, by omega⟩ : Fin 1024) := by
    funext a; apply Fin.ext
    match a with
    | ⟨0, _⟩ => rfl
    | ⟨1, _⟩ => show (y 1).val = 128 * ((y 1).val / 128) + (y 1).val % 128; omega
  show (outsAt0 m c t.val t.isLt).1 ((cfg0.win 5).xinj (grid0.coords t) y) = G m c (((cfg0.win 5).blk t).view.emb y)
  rw [hx]
  refine (hi ⟨(y 1).val / 128, by omega⟩ ⟨(y 0).val, hy0⟩ ⟨(y 1).val % 128, Nat.mod_lt _ (by decide)⟩).trans ?_
  unfold G St Vt
  have g1 : (((cfg0.win 5).blk t).view.emb y 0).val / 2048 = t.val / 16 := by rw [hb0]; omega
  have g2 : (((cfg0.win 5).blk t).view.emb y 0).val % 2048 = t.val / 4 % 4 * 512 + (y 0).val := by rw [hb0]; omega
  have g3 : (((cfg0.win 5).blk t).view.emb y 1).val / 128 = (y 1).val / 128 := by rw [hb1]; omega
  have g4 : (((cfg0.win 5).blk t).view.emb y 1).val % 128 = (y 1).val % 128 := by rw [hb1]; omega
  rw [g1, g2, g3, g4]

/-- Every entry is in the block of some flushing point. -/
theorem covered (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨n, hn⟩ : ∃ n, n = (i 0).val / 2048 * 16 + (i 0).val % 2048 / 512 * 4 + 3 := ⟨_, rfl⟩
  have hlt : n < cfg0.N := by rw [show cfg0.N = 64 from N_0]; omega
  refine ⟨⟨n, hlt⟩, (flush0_5 _).mpr (by dsimp only; omega), ?_⟩
  obtain ⟨e0, e1⟩ := idx5 ⟨n, hlt⟩
  dsimp only at e0 e1
  show i ∈ ((View.whole main_v0).slice (win0_5.rect ⟨n, hlt⟩)).set
  rw [View.set_slice_whole, Rect.mem_set_unit]
  intro a
  match a with
  | ⟨0, _⟩ => show win0_5.index ⟨n, hlt⟩ (0 : Fin 2) * 512 ≤ (i 0).val ∧ (i 0).val < win0_5.index ⟨n, hlt⟩ (0 : Fin 2) * 512 + 512; omega
  | ⟨1, _⟩ => show win0_5.index ⟨n, hlt⟩ (1 : Fin 2) * 1024 ≤ (i 1).val ∧ (i 1).val < win0_5.index ⟨n, hlt⟩ (1 : Fin 2) * 1024 + 1024; omega

include hq hk hfq hfk in
/-- The array the run leaves. -/
theorem final_array (c : Dev nD) : (dats m 0 c).arrAt 5 cfg0.N = G m c :=
  (dats m 0 c).arrAt_eq_of_cover 5 _ (fun t hf => flushed_eq m hq hk hfq hfk c t hf) covered

include hq hk hfq hfk in
/-- The kernel's result array is the reference's at the same arguments. -/
theorem result_eq (c : Dev nD) : G m c = Reference2Ideal.Read.val_main_v36 (F := Ideal) (Q m c) (K m c) (Vv m c) (Fq m c) (Fk m c) := by
  funext j
  obtain ⟨r, w, rfl⟩ : ∃ (r : Fin 8192) (w : Fin 1024), j = ix2 r w := ⟨j 0, j 1, by
    funext a
    match a with
    | ⟨0, _⟩ => rfl
    | ⟨1, _⟩ => rfl⟩
  have hr : r.val < 8192 := r.isLt
  have hw : w.val < 1024 := w.isLt
  have e := Reference2Ideal.Fox.out_eq (Q m c) (K m c) (Vv m c) (Fq m c) (Fk m c) ⟨r.val / 2048, by omega⟩ ⟨w.val / 128 / 4, by omega⟩ ⟨w.val / 128 % 4, by omega⟩
    ⟨r.val % 2048, by omega⟩ ⟨w.val % 128, by omega⟩
  have hj : (ix2 (⟨r.val / 2048 * 2048 + r.val % 2048, by omega⟩ : Fin 8192) (⟨(w.val / 128 / 4 * 4 + w.val / 128 % 4) * 128 + w.val % 128, by omega⟩ : Fin 1024)) = ix2 r w := by
    congr 1 <;> (apply Fin.ext; dsimp only; omega)
  rw [← hj]
  refine Eq.trans ?_ e.symm
  rw [hj]
  refine softmax_tiles _ _ (N := 2048) (by norm_num) _ _ (fun j e h => ?_) (fun j e h => ?_)
    (fun b e => sc_ne_top _ _ _ _ (hq c) (hk c) (hfq c) (hfk c) _ _ _ _ _) (by norm_num : 0 < 4) (sc_ne_bot _ _ _ _ (hq c) (hk c) (hfq c) (hfk c) _ _ _)
  · unfold Sc Reference2Ideal.Fox.score
    have hh : w.val / 128 / 4 * 4 + w.val / 128 % 4 = w.val / 128 := by omega
    refine if_congr Iff.rfl (congrArg₂ (· + ·) (Finset.sum_congr rfl fun d _ => congrArg₂ (· * ·) ?_ ?_) (congrArg₂ (· - ·) ?_ ?_)) rfl
    · symm
      apply at2_of
      · rfl
      · show (w.val / 128 / 4 * 4 + w.val / 128 % 4) * 128 + d.val = w.val / 128 * 128 + d.val
        rw [hh]
    · symm; apply at2_of <;> rfl
    · symm
      apply at2_of
      · rfl
      · exact hh
    · symm
      apply at3_of
      · rfl
      · exact hh
      · rfl
  · unfold Wt
    rw [if_pos (Nat.mod_lt _ (by decide))]
    symm; apply at2_of <;> rfl

/-- The precondition: every query, key and forgetting sum is a real. -/
theorem reals (hp : Cert.Pre_Kernel2Ideal_finite_qkf (hPre_finite_qkf := Cert.Pre_finite_qkf.Gen.facts) m) :
    (∀ c i, ∃ y : ℝ, (Q m c i : EReal) = y) ∧ (∀ c i, ∃ y : ℝ, (K m c i : EReal) = y) ∧
      (∀ c i, ∃ y : ℝ, (Fq m c i : EReal) = y) ∧ (∀ c i, ∃ y : ℝ, (Fk m c i : EReal) = y) := by
  refine ⟨fun c i => ?_, fun c i => ?_, fun c i => ?_, fun c i => ?_⟩
  · have h := congrFun (hp c).1 i
    exact real_of_lt h
  · have h := congrFun (hp c).2.1 i
    exact real_of_lt h
  · have h := congrFun (hp c).2.2.1 i
    exact real_of_lt h
  · have h := congrFun (hp c).2.2.2 i
    exact real_of_lt h

/-- At the ideal instance, on real queries, keys and forgetting sums, the forgetting attention kernel and its reference end with equal results. -/
theorem algebraic : @Cert.algebraic_Kernel2Ideal_Reference2Ideal_pre_finite_qkf Kernel2Ideal.Gen.facts Reference2Ideal.Gen.facts Cert.Pre_finite_qkf.Gen.facts := by
  intro m g m' g' hp ha
  obtain ⟨hq, hk, hfq, hfk⟩ := reals m hp
  refine ⟨fun c => G m c, ?_, ?_⟩
  · refine (θ_run _ _ _).mono (fun r h c => ?_) (Value.run_blocks m g)
    exact ⟨(h c).1.trans (final_array m hq hk hfq hfk c), (h c).2⟩
  refine (θ_run _ _ _).mono (fun r h c => ?_) (Reference2Ideal.Value.run (F := Ideal) m' g')
  refine ⟨?_, (h c).2⟩
  refine (h c).1.trans ?_
  obtain ⟨h0, h1, h2, h3, h4⟩ := ha c
  rw [Reference2Ideal.Read.val_main_v36_eq, h0, h1, h2, h3, h4]
  exact (result_eq m hq hk hfq hfk c).symm

/-- The reference ends with its arguments unchanged. -/
theorem reference_frame : @Cert.quiescent_Reference2Ideal Reference2Ideal.Gen.facts := by
  intro m g _
  exact (θ_run _ _ _).mono (fun r h => ⟨fun c => (h c).2, sem_eq_zero_of_no_sems (by decide) r.2⟩)
    (Reference2Ideal.Value.run (F := Ideal) m g)

/-- The reference ends with its arguments unchanged under the precondition. -/
theorem reference_frame_pre : @Cert.quiescent_Reference2Ideal_pre_finite_qkf Reference2Ideal.Gen.facts Cert.Pre_finite_qkf.Gen.facts := by
  intro m g _
  exact (θ_run _ _ _).mono (fun r h => ⟨fun c => (h c).2, sem_eq_zero_of_no_sems (by decide) r.2⟩)
    (Reference2Ideal.Value.run (F := Ideal) m g)

end Cert.FoxAlg

end
-- ==== Proof.OutAlg.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Tactic
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel6Ideal.Out

open Cert.Kernel6Ideal Cert.Kernel6Ideal.Gen

variable (m : (ℓ : Loc nD τ sig) → Buf (Elt Ideal) ℓ)

/-- The residual stream. -/
abbrev X (c : Dev nD) : Vec Ideal S9216x2048 .f32 := m ((c : Thread nD τ).loc main_arg0)
/-- The heads' outputs. -/
abbrev O (c : Dev nD) : Vec Ideal S9216x2048 .bf16 := m ((c : Thread nD τ).loc main_arg1)
/-- The projection's weights. -/
abbrev W (c : Dev nD) : Vec Ideal S2048x2048 .f32 := m ((c : Thread nD τ).loc main_arg2)

theorem hz : (![0, 0] : Fin 2 → Nat) = fun _ => 0 := funext fun a => by fin_cases a <;> rfl

/-- The row of the array that row `r` of point `t`'s block is. -/
def row (t : Fin cfg0.N) (r : Fin 512) : Fin 9216 :=
  ⟨t.val * 512 + r.val, by have := lt_of_lt_of_eq t.isLt (show cfg0.N = 18 from N_0); have := r.isLt; omega⟩

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)

theorem blk0 (c : Dev nD) (t : Fin cfg0.N) (r : Fin 512) (d : Fin 2048) :
    (iblk m c 0 t : Vec Ideal S512x2048 .f32) (ix2 r d) = X m c (ix2 (row t r) d) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx0 t).1]; omega
  | ⟨1, _⟩ => show win0_0.index t 1 * 2048 + 1 * d.val = d.val; rw [(idx0 t).2]; omega

theorem blk1 (c : Dev nD) (t : Fin cfg0.N) (r : Fin 512) (d : Fin 2048) :
    (iblk m c 1 t : Vec Ideal S512x2048 .bf16) (ix2 r d) = O m c (ix2 (row t r) d) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(idx1 t).1]; omega
  | ⟨1, _⟩ => show win0_1.index t 1 * 2048 + 1 * d.val = d.val; rw [(idx1 t).2]; omega

/-- The host only casts the weights. -/
theorem weights (c : Dev nD) : (V m c main_v0 : Vec Ideal S2048x2048 .bf16) = W m c := by
  have h : (V m c main_v0 : Vec Ideal S2048x2048 .bf16) =
      (truncf (F := Ideal) .bf16 (W m c) bitsLt_bf16_f32 : FVec Ideal S2048x2048 .bf16) := by
    unfold V hostOps0
    after_results
  rw [h]
  rfl

theorem blk2 (c : Dev nD) (t : Fin cfg0.N) (d k : Fin 2048) :
    (iblk m c 2 t : Vec Ideal S2048x2048 .bf16) (ix2 d k) = W m c (ix2 d k) := by
  rw [← weights]
  unfold iblk
  rw [View.read_apply]
  show V m c main_v0 _ = _
  congr 1
  funext a
  apply Fin.ext
  match a with
  | ⟨0, _⟩ => show win0_2.index t 0 * 2048 + 1 * d.val = d.val; rw [(idx2 t).1]; omega
  | ⟨1, _⟩ => show win0_2.index t 1 * 2048 + 1 * k.val = k.val; rw [(idx2 t).2]; omega

/-- One entry of what the body leaves in its block. -/
theorem out_apply (x : Vec Ideal S512x2048 .f32) (o : Vec Ideal S512x2048 .bf16) (w : Vec Ideal S2048x2048 .bf16)
    (r : Fin 512) (k : Fin 2048) : out0_3 (F := Ideal) x o w (ix2 r k) = x (ix2 r k) + ∑ d, o (ix2 r d) * w (ix2 d k) := by
  unfold out0_3
  rw [View.canon_unit_zero (S := S512x2048) hz]
  simp only [View.ld_unit_zero (S := S512x2048) hz, View.ld_unit_zero (S := S2048x2048) hz]
  pointwise [k0_pay1]

/-- The array after the run, at an index. -/
theorem result_apply (c : Dev nD) (r : Fin 9216) (k : Fin 2048) :
    ((dats m 0 c).arrAt 3 cfg0.N : Vec Ideal S9216x2048 .f32) (ix2 r k) =
      X m c (ix2 r k) + ∑ d, O m c (ix2 r d) * W m c (ix2 d k) := by
  have hr := r.isLt
  have ht : r.val / 512 < cfg0.N := by rw [show cfg0.N = 18 from N_0]; omega
  obtain ⟨t, rfl⟩ : ∃ t : Fin cfg0.N, t = ⟨r.val / 512, ht⟩ := ⟨_, rfl⟩
  have h := congrFun (Value.blocks3 m c ⟨r.val / 512, ht⟩ (flush0_3 _))
    (ix2 (⟨r.val % 512, Nat.mod_lt _ (by decide)⟩ : Fin 512) k)
  rw [Value.flushed3] at h
  have hrow : row ⟨r.val / 512, ht⟩ (⟨r.val % 512, Nat.mod_lt _ (by decide)⟩ : Fin 512) = r := by
    apply Fin.ext; show r.val / 512 * 512 + r.val % 512 = r.val; omega
  refine Eq.trans ?_ (h.trans ?_)
  · rw [View.read_apply]
    congr 1
    funext a
    apply Fin.ext
    match a with
    | ⟨0, _⟩ => show r.val = win0_3.index ⟨r.val / 512, ht⟩ 0 * 512 + 1 * (r.val % 512); rw [(idx3 _).1]; dsimp only; omega
    | ⟨1, _⟩ => show k.val = win0_3.index ⟨r.val / 512, ht⟩ 1 * 2048 + 1 * k.val; rw [(idx3 _).2]; omega
  · refine (out_apply _ _ _ (⟨r.val % 512, Nat.mod_lt _ (by decide)⟩ : Fin 512) k).trans ?_
    simp only [blk0, blk1, blk2, hrow]

end Cert.Kernel6Ideal.Out

namespace Cert.Reference6Ideal.Out

open Cert.Reference6Ideal Cert.Reference6Ideal.Gen Cert.Reference6Ideal.Read

/-- One entry of the reference's result. -/
theorem ref_apply (x : Vec Ideal S9216x2048 .f32) (o : Vec Ideal S9216x2048 .bf16) (w : Vec Ideal S2048x2048 .f32)
    (r : Fin 9216) (k : Fin 2048) :
    val_main_v2 (F := Ideal) x o w (ix2 r k) = x (ix2 r k) + ∑ d, o (ix2 r d) * w (ix2 d k) := by
  rw [← val_main_v2_eq]
  pointwise []

end Cert.Reference6Ideal.Out

namespace Cert.OutAlg

variable (m : (ℓ : Loc Kernel6Ideal.nD Kernel6Ideal.τ Kernel6Ideal.sig) → Buf (Elt Ideal) ℓ)

/-- The kernel's result array is the reference's at the same arguments. -/
theorem result_eq (c : Dev Kernel6Ideal.nD) :
    ((Kernel6Ideal.Gen.dats m 0 c).arrAt 3 Kernel6Ideal.cfg0.N : Vec Ideal Kernel6Ideal.S9216x2048 .f32) =
      Reference6Ideal.Read.val_main_v2 (F := Ideal) (Kernel6Ideal.Out.X m c) (Kernel6Ideal.Out.O m c)
        (Kernel6Ideal.Out.W m c) := by
  funext j
  idx_vars j
  exact (Kernel6Ideal.Out.result_apply m c _ _).trans (Reference6Ideal.Out.ref_apply _ _ _ _ _).symm

/-- At the ideal instance the output projection and its reference end with equal results. -/
theorem algebraic : @Cert.algebraic_Kernel6Ideal_Reference6Ideal Kernel6Ideal.Gen.facts Reference6Ideal.Gen.facts := by
  intro m g m' g' _ ha
  refine ⟨fun c => (Kernel6Ideal.Gen.dats m 0 c).arrAt 3 Kernel6Ideal.cfg0.N, Kernel6Ideal.Value.run_blocks m g, ?_⟩
  refine (θ_run _ _ _).mono (fun r h c => ?_) (Reference6Ideal.Value.run (F := Ideal) m' g')
  refine ⟨?_, (h c).2⟩
  refine (h c).1.trans ?_
  obtain ⟨h0, h1, h2⟩ := ha c
  rw [Reference6Ideal.Read.val_main_v2_eq, h0, h1, h2]
  exact (result_eq m c).symm

/-- The reference ends with its arguments unchanged. -/
theorem reference_frame : @Cert.quiescent_Reference6Ideal Reference6Ideal.Gen.facts := by
  intro m g _
  exact (θ_run _ _ _).mono (fun r h => ⟨fun c => (h c).2, sem_eq_zero_of_no_sems (by decide) r.2⟩)
    (Reference6Ideal.Value.run (F := Ideal) m g)

end Cert.OutAlg
-- ==== Proof.WinOpen.lean ====
module

public import proofs.«01_k».proof.Proof.Pair
public import proofs.«01_k».proof.Proof.Gen.Kernel4Ideal.Value

@[expose] public section

set_option maxRecDepth 16384

noncomputable section

open Idealize.ShloMosaic Idealize.ShloMosaic.TcCoe Idealize.SL.Sem

namespace Cert.Kernel4Ideal.Win

open Cert.Kernel4Ideal Cert.Kernel4Ideal.Gen

theorem hz : (![0, 0] : Fin 2 → Nat) = fun _ => 0 := funext fun a => by fin_cases a <;> rfl

/-- Row `r` of the block's projections. -/
def rowOf (Y : FVec Ideal S256x2560 .f32) (r : Fin 256) (k : Fin 2560) : EReal := Y (ix2 r k)

/-- Column `k` of the projections, times its head's inverse root mean square and the gain of its lane. -/
def nh (Y : FVec Ideal S256x2560 .f32) (G : Vec Ideal S1x128 .f32) (r : Fin 256) (k : Fin 2560) : EReal :=
  rowOf Y r k * Pair.inv (N := 2560) rfl (rowOf Y r) k * G (ix2 0 ⟨k.val % 128, Nat.mod_lt _ (by decide)⟩)

/-- The block of queries. -/
def qb (Y : FVec Ideal S256x2560 .f32) (G : Vec Ideal S1x128 .f32) : Vec Ideal S256x2048 .bf16 := fun y =>
  nh Y G ⟨(y 0).val, (y 0).isLt⟩ ⟨(y 1).val, by have h : (y 1).val < 2048 := (y 1).isLt; omega⟩ *
    Ideal.ofBits FTy.f32 1040187392#32

/-- The block of keys. -/
def kb (Y : FVec Ideal S256x2560 .f32) (G : Vec Ideal S1x128 .f32) : Vec Ideal S256x256 .f32 := fun y =>
  nh Y G ⟨(y 0).val, (y 0).isLt⟩ ⟨2048 + (y 1).val, by have h : (y 1).val < 256 := (y 1).isLt; omega⟩

/-- One tile: a column times the selected norm and the gain is the normalised column. -/
theorem tile (Y : FVec Ideal S256x2560 .f32) (G : Vec Ideal S1x128 .f32) (r : Fin 256) (b : ℕ) (hb : b % 128 = 0)
    (φ : Fin 128 → Fin 2560) (hφ : ∀ x, (φ x).val = b + x.val) (l : Fin 128) :
    Y (ix2 r (φ l)) * Scalar.select (IntOp.cmpi CmpIPredicate.slt (BitVec.ofNat 32 l.val) 64#32)
      (Ideal.rsqrt (Ideal.div (∑ x, Scalar.select (IntOp.cmpi CmpIPredicate.slt (BitVec.ofNat 32 x.val) 64#32)
        (Y (ix2 r (φ x)) * Y (ix2 r (φ x))) 0) (Ideal.ofBits FTy.f32 1115684864#32) + Ideal.ofBits FTy.f32 897988541#32))
      (Ideal.rsqrt (Ideal.div (∑ x, Scalar.select (IntOp.cmpi CmpIPredicate.slt (BitVec.ofNat 32 x.val) 64#32)
        0 (Y (ix2 r (φ x)) * Y (ix2 r (φ x)))) (Ideal.ofBits FTy.f32 1115684864#32) + Ideal.ofBits FTy.f32 897988541#32)) *
      G (ix2 0 l) = nh Y G r (φ l) := by
  have hl : (⟨(φ l).val % 128, Nat.mod_lt _ (by decide)⟩ : Fin 128) = l := by
    apply Fin.ext; show (φ l).val % 128 = l.val; have := hφ l; have := l.isLt; omega
  unfold nh
  rw [hl]
  exact congrArg (fun s => Y (ix2 r (φ l)) * s * G (ix2 0 l)) (Pair.norm_eq (N := 2560) rfl (rowOf Y r) b hb φ hφ l)

theorem qb_15 (Y : FVec Ideal S256x2560 .f32) (G : Vec Ideal S1x128 .f32) (i : S256x128.Idx) :
    k0_pay63 (F := Ideal) k0_pay3 (k0_pay58 Y) (k0_pay59 G) (k0_pay61 Y k0_pay3) (k0_pay62 Y k0_pay3) (Scalar.ofBits .f32 0x42800000#32) i = qb Y G (r0_19.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_19.idx (ix2 r l) = (ix2 r ⟨1920 + l.val, by omega⟩ : S256x2048.Idx) := by
    funext a; apply Fin.ext
    match a with
    | ⟨0, _⟩ => show 0 + 1 * r.val = r.val; omega
    | ⟨1, _⟩ => show 1920 + 1 * l.val = 1920 + l.val; omega
  rw [hi]
  pointwise [k0_pay3, k0_pay58, k0_pay59, k0_pay61, k0_pay62, k0_pay63, k0_pay60]
  unfold qb
  have ht := tile Y G r 1920 rfl (fun x => ⟨1920 + x.val, by omega⟩) (fun _ => rfl) l
  have he : (⟨1920 + l.val, by omega⟩ : Fin 2560) = ⟨1920 + l.val, by omega⟩ := rfl
  show _ = nh Y G r ⟨1920 + l.val, by omega⟩ * Ideal.ofBits FTy.f32 1040187392#32
  rw [he, ← ht]

theorem qb_14 (Y : FVec Ideal S256x2560 .f32) (G : Vec Ideal S1x128 .f32) (i : S256x128.Idx) :
    k0_pay57 (F := Ideal) k0_pay3 (k0_pay52 Y) (k0_pay53 G) (k0_pay54 Y) (k0_pay55 Y k0_pay3) (k0_pay56 (F := Ideal)) i = qb Y G (r0_18.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_18.idx (ix2 r l) = (ix2 r ⟨1792 + l.val, by omega⟩ : S256x2048.Idx) := by
    funext a; apply Fin.ext
    match a with
    | ⟨0, _⟩ => show 0 + 1 * r.val = r.val; omega
    | ⟨1, _⟩ => show 1792 + 1 * l.val = 1792 + l.val; omega
  rw [hi]
  pointwise [k0_pay3, k0_pay52, k0_pay53, k0_pay54, k0_pay55, k0_pay56, k0_pay57]
  unfold qb
  have ht := tile Y G r 1792 rfl (fun x => ⟨1792 + x.val, by omega⟩) (fun _ => rfl) l
  have he : (⟨1792 + l.val, by omega⟩ : Fin 2560) = ⟨1792 + l.val, by omega⟩ := rfl
  show _ = nh Y G r ⟨1792 + l.val, by omega⟩ * Ideal.ofBits FTy.f32 1040187392#32
  rw [he, ← ht]

theorem qb_13 (Y : FVec Ideal S256x2560 .f32) (G : Vec Ideal S1x128 .f32) (i : S256x128.Idx) :
    k0_pay51 (F := Ideal) k0_pay3 (k0_pay50 Y) G i = qb Y G (r0_17.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_17.idx (ix2 r l) = (ix2 r ⟨1664 + l.val, by omega⟩ : S256x2048.Idx) := by
    funext a; apply Fin.ext
    match a with
    | ⟨0, _⟩ => show 0 + 1 * r.val = r.val; omega
    | ⟨1, _⟩ => show 1664 + 1 * l.val = 1664 + l.val; omega
  rw [hi]
  pointwise [k0_pay3, k0_pay50, k0_pay51]
  unfold qb
  have ht := tile Y G r 1664 rfl (fun x => ⟨1664 + x.val, by omega⟩) (fun _ => rfl) l
  have he : (⟨1664 + l.val, by omega⟩ : Fin 2560) = ⟨1664 + l.val, by omega⟩ := rfl
  show _ = nh Y G r ⟨1664 + l.val, by omega⟩ * Ideal.ofBits FTy.f32 1040187392#32
  rw [he, ← ht]

theorem qb_12 (Y : FVec Ideal S256x2560 .f32) (G : Vec Ideal S1x128 .f32) (i : S256x128.Idx) :
    k0_pay49 (F := Ideal) Y k0_pay3 G i = qb Y G (r0_16.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_16.idx (ix2 r l) = (ix2 r ⟨1536 + l.val, by omega⟩ : S256x2048.Idx) := by
    funext a; apply Fin.ext
    match a with
    | ⟨0, _⟩ => show 0 + 1 * r.val = r.val; omega
    | ⟨1, _⟩ => show 1536 + 1 * l.val = 1536 + l.val; omega
  rw [hi]
  pointwise [k0_pay3, k0_pay49]
  unfold qb
  have ht := tile Y G r 1536 rfl (fun x => ⟨1536 + x.val, by omega⟩) (fun _ => rfl) l
  have he : (⟨1536 + l.val, by omega⟩ : Fin 2560) = ⟨1536 + l.val, by omega⟩ := rfl
  show _ = nh Y G r ⟨1536 + l.val, by omega⟩ * Ideal.ofBits FTy.f32 1040187392#32
  rw [he, ← ht]

theorem qb_11 (Y : FVec Ideal S256x2560 .f32) (G : Vec Ideal S1x128 .f32) (i : S256x128.Idx) :
    k0_pay48 (F := Ideal) (k0_pay46 G) (k0_pay47 Y k0_pay3) i = qb Y G (r0_15.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_15.idx (ix2 r l) = (ix2 r ⟨1408 + l.val, by omega⟩ : S256x2048.Idx) := by
    funext a; apply Fin.ext
    match a with
    | ⟨0, _⟩ => show 0 + 1 * r.val = r.val; omega
    | ⟨1, _⟩ => show 1408 + 1 * l.val = 1408 + l.val; omega
  rw [hi]
  pointwise [k0_pay3, k0_pay46, k0_pay47, k0_pay48]
  unfold qb
  have ht := tile Y G r 1408 rfl (fun x => ⟨1408 + x.val, by omega⟩) (fun _ => rfl) l
  have he : (⟨1408 + l.val, by omega⟩ : Fin 2560) = ⟨1408 + l.val, by omega⟩ := rfl
  show _ = nh Y G r ⟨1408 + l.val, by omega⟩ * Ideal.ofBits FTy.f32 1040187392#32
  rw [he, ← ht]

theorem qb_10 (Y : FVec Ideal S256x2560 .f32) (G : Vec Ideal S1x128 .f32) (i : S256x128.Idx) :
    k0_pay45 (F := Ideal) k0_pay3 (k0_pay40 Y) (k0_pay41 G) (k0_pay43 Y k0_pay3) (k0_pay44 Y k0_pay3) (Scalar.ofBits .f32 0x42800000#32) i = qb Y G (r0_14.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_14.idx (ix2 r l) = (ix2 r ⟨1280 + l.val, by omega⟩ : S256x2048.Idx) := by
    funext a; apply Fin.ext
    match a with
    | ⟨0, _⟩ => show 0 + 1 * r.val = r.val; omega
    | ⟨1, _⟩ => show 1280 + 1 * l.val = 1280 + l.val; omega
  rw [hi]
  pointwise [k0_pay3, k0_pay40, k0_pay41, k0_pay43, k0_pay44, k0_pay45, k0_pay42]
  unfold qb
  have ht := tile Y G r 1280 rfl (fun x => ⟨1280 + x.val, by omega⟩) (fun _ => rfl) l
  have he : (⟨1280 + l.val, by omega⟩ : Fin 2560) = ⟨1280 + l.val, by omega⟩ := rfl
  show _ = nh Y G r ⟨1280 + l.val, by omega⟩ * Ideal.ofBits FTy.f32 1040187392#32
  rw [he, ← ht]

theorem qb_9 (Y : FVec Ideal S256x2560 .f32) (G : Vec Ideal S1x128 .f32) (i : S256x128.Idx) :
    k0_pay39 (F := Ideal) k0_pay3 (k0_pay34 Y) (k0_pay35 G) (k0_pay36 Y) (k0_pay37 Y k0_pay3) (k0_pay38 (F := Ideal)) i = qb Y G (r0_13.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_13.idx (ix2 r l) = (ix2 r ⟨1152 + l.val, by omega⟩ : S256x2048.Idx) := by
    funext a; apply Fin.ext
    match a with
    | ⟨0, _⟩ => show 0 + 1 * r.val = r.val; omega
    | ⟨1, _⟩ => show 1152 + 1 * l.val = 1152 + l.val; omega
  rw [hi]
  pointwise [k0_pay3, k0_pay34, k0_pay35, k0_pay36, k0_pay37, k0_pay38, k0_pay39]
  unfold qb
  have ht := tile Y G r 1152 rfl (fun x => ⟨1152 + x.val, by omega⟩) (fun _ => rfl) l
  have he : (⟨1152 + l.val, by omega⟩ : Fin 2560) = ⟨1152 + l.val, by omega⟩ := rfl
  show _ = nh Y G r ⟨1152 + l.val, by omega⟩ * Ideal.ofBits FTy.f32 1040187392#32
  rw [he, ← ht]

theorem qb_8 (Y : FVec Ideal S256x2560 .f32) (G : Vec Ideal S1x128 .f32) (i : S256x128.Idx) :
    k0_pay33 (F := Ideal) k0_pay3 (k0_pay32 Y) G i = qb Y G (r0_12.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_12.idx (ix2 r l) = (ix2 r ⟨1024 + l.val, by omega⟩ : S256x2048.Idx) := by
    funext a; apply Fin.ext
    match a with
    | ⟨0, _⟩ => show 0 + 1 * r.val = r.val; omega
    | ⟨1, _⟩ => show 1024 + 1 * l.val = 1024 + l.val; omega
  rw [hi]
  pointwise [k0_pay3, k0_pay32, k0_pay33]
  unfold qb
  have ht := tile Y G r 1024 rfl (fun x => ⟨1024 + x.val, by omega⟩) (fun _ => rfl) l
  have he : (⟨1024 + l.val, by omega⟩ : Fin 2560) = ⟨1024 + l.val, by omega⟩ := rfl
  show _ = nh Y G r ⟨1024 + l.val, by omega⟩ * Ideal.ofBits FTy.f32 1040187392#32
  rw [he, ← ht]

theorem qb_7 (Y : FVec Ideal S256x2560 .f32) (G : Vec Ideal S1x128 .f32) (i : S256x128.Idx) :
    k0_pay31 (F := Ideal) Y k0_pay3 G i = qb Y G (r0_11.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_11.idx (ix2 r l) = (ix2 r ⟨896 + l.val, by omega⟩ : S256x2048.Idx) := by
    funext a; apply Fin.ext
    match a with
    | ⟨0, _⟩ => show 0 + 1 * r.val = r.val; omega
    | ⟨1, _⟩ => show 896 + 1 * l.val = 896 + l.val; omega
  rw [hi]
  pointwise [k0_pay3, k0_pay31]
  unfold qb
  have ht := tile Y G r 896 rfl (fun x => ⟨896 + x.val, by omega⟩) (fun _ => rfl) l
  have he : (⟨896 + l.val, by omega⟩ : Fin 2560) = ⟨896 + l.val, by omega⟩ := rfl
  show _ = nh Y G r ⟨896 + l.val, by omega⟩ * Ideal.ofBits FTy.f32 1040187392#32
  rw [he, ← ht]

theorem qb_6 (Y : FVec Ideal S256x2560 .f32) (G : Vec Ideal S1x128 .f32) (i : S256x128.Idx) :
    k0_pay30 (F := Ideal) (k0_pay28 G) (k0_pay29 Y k0_pay3) i = qb Y G (r0_10.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_10.idx (ix2 r l) = (ix2 r ⟨768 + l.val, by omega⟩ : S256x2048.Idx) := by
    funext a; apply Fin.ext
    match a with
    | ⟨0, _⟩ => show 0 + 1 * r.val = r.val; omega
    | ⟨1, _⟩ => show 768 + 1 * l.val = 768 + l.val; omega
  rw [hi]
  pointwise [k0_pay3, k0_pay28, k0_pay29, k0_pay30]
  unfold qb
  have ht := tile Y G r 768 rfl (fun x => ⟨768 + x.val, by omega⟩) (fun _ => rfl) l
  have he : (⟨768 + l.val, by omega⟩ : Fin 2560) = ⟨768 + l.val, by omega⟩ := rfl
  show _ = nh Y G r ⟨768 + l.val, by omega⟩ * Ideal.ofBits FTy.f32 1040187392#32
  rw [he, ← ht]

theorem qb_5 (Y : FVec Ideal S256x2560 .f32) (G : Vec Ideal S1x128 .f32) (i : S256x128.Idx) :
    k0_pay27 (F := Ideal) k0_pay3 (k0_pay22 Y) (k0_pay23 G) (k0_pay25 Y k0_pay3) (k0_pay26 Y k0_pay3) (Scalar.ofBits .f32 0x42800000#32) i = qb Y G (r0_9.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_9.idx (ix2 r l) = (ix2 r ⟨640 + l.val, by omega⟩ : S256x2048.Idx) := by
    funext a; apply Fin.ext
    match a with
    | ⟨0, _⟩ => show 0 + 1 * r.val = r.val; omega
    | ⟨1, _⟩ => show 640 + 1 * l.val = 640 + l.val; omega
  rw [hi]
  pointwise [k0_pay3, k0_pay22, k0_pay23, k0_pay25, k0_pay26, k0_pay27, k0_pay24]
  unfold qb
  have ht := tile Y G r 640 rfl (fun x => ⟨640 + x.val, by omega⟩) (fun _ => rfl) l
  have he : (⟨640 + l.val, by omega⟩ : Fin 2560) = ⟨640 + l.val, by omega⟩ := rfl
  show _ = nh Y G r ⟨640 + l.val, by omega⟩ * Ideal.ofBits FTy.f32 1040187392#32
  rw [he, ← ht]

theorem qb_4 (Y : FVec Ideal S256x2560 .f32) (G : Vec Ideal S1x128 .f32) (i : S256x128.Idx) :
    k0_pay21 (F := Ideal) k0_pay3 (k0_pay16 Y) (k0_pay17 G) (k0_pay18 Y) (k0_pay19 Y k0_pay3) (k0_pay20 (F := Ideal)) i = qb Y G (r0_8.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_8.idx (ix2 r l) = (ix2 r ⟨512 + l.val, by omega⟩ : S256x2048.Idx) := by
    funext a; apply Fin.ext
    match a with
    | ⟨0, _⟩ => show 0 + 1 * r.val = r.val; omega
    | ⟨1, _⟩ => show 512 + 1 * l.val = 512 + l.val; omega
  rw [hi]
  pointwise [k0_pay3, k0_pay16, k0_pay17, k0_pay18, k0_pay19, k0_pay20, k0_pay21]
  unfold qb
  have ht := tile Y G r 512 rfl (fun x => ⟨512 + x.val, by omega⟩) (fun _ => rfl) l
  have he : (⟨512 + l.val, by omega⟩ : Fin 2560) = ⟨512 + l.val, by omega⟩ := rfl
  show _ = nh Y G r ⟨512 + l.val, by omega⟩ * Ideal.ofBits FTy.f32 1040187392#32
  rw [he, ← ht]

theorem qb_3 (Y : FVec Ideal S256x2560 .f32) (G : Vec Ideal S1x128 .f32) (i : S256x128.Idx) :
    k0_pay15 (F := Ideal) k0_pay3 (k0_pay14 Y) G i = qb Y G (r0_7.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_7.idx (ix2 r l) = (ix2 r ⟨384 + l.val, by omega⟩ : S256x2048.Idx) := by
    funext a; apply Fin.ext
    match a with
    | ⟨0, _⟩ => show 0 + 1 * r.val = r.val; omega
    | ⟨1, _⟩ => show 384 + 1 * l.val = 384 + l.val; omega
  rw [hi]
  pointwise [k0_pay3, k0_pay14, k0_pay15]
  unfold qb
  have ht := tile Y G r 384 rfl (fun x => ⟨384 + x.val, by omega⟩) (fun _ => rfl) l
  have he : (⟨384 + l.val, by omega⟩ : Fin 2560) = ⟨384 + l.val, by omega⟩ := rfl
  show _ = nh Y G r ⟨384 + l.val, by omega⟩ * Ideal.ofBits FTy.f32 1040187392#32
  rw [he, ← ht]

theorem qb_2 (Y : FVec Ideal S256x2560 .f32) (G : Vec Ideal S1x128 .f32) (i : S256x128.Idx) :
    k0_pay13 (F := Ideal) Y k0_pay3 G i = qb Y G (r0_6.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_6.idx (ix2 r l) = (ix2 r ⟨256 + l.val, by omega⟩ : S256x2048.Idx) := by
    funext a; apply Fin.ext
    match a with
    | ⟨0, _⟩ => show 0 + 1 * r.val = r.val; omega
    | ⟨1, _⟩ => show 256 + 1 * l.val = 256 + l.val; omega
  rw [hi]
  pointwise [k0_pay3, k0_pay13]
  unfold qb
  have ht := tile Y G r 256 rfl (fun x => ⟨256 + x.val, by omega⟩) (fun _ => rfl) l
  have he : (⟨256 + l.val, by omega⟩ : Fin 2560) = ⟨256 + l.val, by omega⟩ := rfl
  show _ = nh Y G r ⟨256 + l.val, by omega⟩ * Ideal.ofBits FTy.f32 1040187392#32
  rw [he, ← ht]

theorem qb_1 (Y : FVec Ideal S256x2560 .f32) (G : Vec Ideal S1x128 .f32) (i : S256x128.Idx) :
    k0_pay12 (F := Ideal) (k0_pay10 G) (k0_pay11 Y k0_pay3) i = qb Y G (r0_5.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_5.idx (ix2 r l) = (ix2 r ⟨128 + l.val, by omega⟩ : S256x2048.Idx) := by
    funext a; apply Fin.ext
    match a with
    | ⟨0, _⟩ => show 0 + 1 * r.val = r.val; omega
    | ⟨1, _⟩ => show 128 + 1 * l.val = 128 + l.val; omega
  rw [hi]
  pointwise [k0_pay3, k0_pay10, k0_pay11, k0_pay12]
  unfold qb
  have ht := tile Y G r 128 rfl (fun x => ⟨128 + x.val, by omega⟩) (fun _ => rfl) l
  have he : (⟨128 + l.val, by omega⟩ : Fin 2560) = ⟨128 + l.val, by omega⟩ := rfl
  show _ = nh Y G r ⟨128 + l.val, by omega⟩ * Ideal.ofBits FTy.f32 1040187392#32
  rw [he, ← ht]

theorem qb_0 (x : Vec Ideal S256x2048 .f32) (g : Vec Ideal S1x2048 .f32) (w : Vec Ideal S2048x2560 .bf16) (G : Vec Ideal S1x128 .f32) (i : S256x128.Idx) :
    k0_pay9 (F := Ideal) k0_pay3 (k0_pay4 x g w) (k0_pay5 G) (k0_pay7 x g w) (k0_pay8 x g w) (Scalar.ofBits .f32 0x42800000#32) i = qb (k0_pay2 x g w) G (r0_4.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_4.idx (ix2 r l) = (ix2 r ⟨l.val, by omega⟩ : S256x2048.Idx) := by
    funext a; apply Fin.ext
    match a with
    | ⟨0, _⟩ => show 0 + 1 * r.val = r.val; omega
    | ⟨1, _⟩ => show 0 + 1 * l.val = l.val; omega
  rw [hi]
  simp only [k0_pay4, k0_pay7, k0_pay8, k0_pay6]
  generalize k0_pay2 x g w = Y
  pointwise [k0_pay3, k0_pay5, k0_pay9]
  unfold qb
  have ht := tile Y G r 0 rfl (fun x => ⟨x.val, by omega⟩) (fun _ => (Nat.zero_add _).symm) l
  have he : (⟨l.val, by omega⟩ : Fin 2560) = ⟨l.val, by omega⟩ := rfl
  show _ = nh Y G r ⟨l.val, by omega⟩ * Ideal.ofBits FTy.f32 1040187392#32
  rw [he, ← ht]

/-- What the body leaves in its block of queries. -/
theorem out0_5_eq (x : Vec Ideal S256x2048 .f32) (g : Vec Ideal S1x2048 .f32) (w : Vec Ideal S2048x2560 .bf16)
    (gq gk : Vec Ideal S1x128 .f32) (y : S256x2048.Idx) :
    out0_5 (F := Ideal) x g w gq gk y = qb (k0_pay2 x g w) gq y := by
  unfold out0_5 k0_pay69 k0_pay68
  simp only [View.ld_unit_zero (S := S256x2048) hz, View.ld_unit_zero (S := S1x2048) hz,
    View.ld_unit_zero (S := S2048x2560) hz, View.ld_unit_zero (S := S1x128) hz]
  refine View.canon_apply_of_pieces (qb (k0_pay2 x g w) gq) _ ?_ y (cover0_5 _ _ _ _ _ _ _ _ _ _ _ _ _ _ _ _ y)
  intro pc hpc
  rcases List.mem_cons.mp hpc with rfl | hpc
  · exact fun i => qb_15 _ _ i
  rcases List.mem_cons.mp hpc with rfl | hpc
  · exact fun i => qb_14 _ _ i
  rcases List.mem_cons.mp hpc with rfl | hpc
  · exact fun i => qb_13 _ _ i
  rcases List.mem_cons.mp hpc with rfl | hpc
  · exact fun i => qb_12 _ _ i
  rcases List.mem_cons.mp hpc with rfl | hpc
  · exact fun i => qb_11 _ _ i
  rcases List.mem_cons.mp hpc with rfl | hpc
  · exact fun i => qb_10 _ _ i
  rcases List.mem_cons.mp hpc with rfl | hpc
  · exact fun i => qb_9 _ _ i
  rcases List.mem_cons.mp hpc with rfl | hpc
  · exact fun i => qb_8 _ _ i
  rcases List.mem_cons.mp hpc with rfl | hpc
  · exact fun i => qb_7 _ _ i
  rcases List.mem_cons.mp hpc with rfl | hpc
  · exact fun i => qb_6 _ _ i
  rcases List.mem_cons.mp hpc with rfl | hpc
  · exact fun i => qb_5 _ _ i
  rcases List.mem_cons.mp hpc with rfl | hpc
  · exact fun i => qb_4 _ _ i
  rcases List.mem_cons.mp hpc with rfl | hpc
  · exact fun i => qb_3 _ _ i
  rcases List.mem_cons.mp hpc with rfl | hpc
  · exact fun i => qb_2 _ _ i
  rcases List.mem_cons.mp hpc with rfl | hpc
  · exact fun i => qb_1 _ _ i
  rcases List.mem_cons.mp hpc with rfl | hpc
  · exact fun i => qb_0 x g w _ i
  nomatch hpc

theorem kb_1 (Y : FVec Ideal S256x2560 .f32) (G : Vec Ideal S1x128 .f32) (i : S256x128.Idx) :
    k0_pay67 (F := Ideal) Y k0_pay3 G i = kb Y G (r0_21.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_21.idx (ix2 r l) = (ix2 r ⟨128 + l.val, by omega⟩ : S256x256.Idx) := by
    funext a; apply Fin.ext
    match a with
    | ⟨0, _⟩ => show 0 + 1 * r.val = r.val; omega
    | ⟨1, _⟩ => show 128 + 1 * l.val = 128 + l.val; omega
  rw [hi]
  pointwise [k0_pay3, k0_pay67]
  unfold kb
  have ht := tile Y G r 2176 rfl (fun x => ⟨2176 + x.val, by omega⟩) (fun _ => rfl) l
  have he : (⟨2048 + (128 + l.val), by omega⟩ : Fin 2560) = ⟨2176 + l.val, by omega⟩ := Fin.ext (by dsimp only; omega)
  show _ = nh Y G r ⟨2048 + (128 + l.val), by omega⟩
  rw [he, ← ht]

theorem kb_0 (Y : FVec Ideal S256x2560 .f32) (G : Vec Ideal S1x128 .f32) (i : S256x128.Idx) :
    k0_pay66 (F := Ideal) (k0_pay64 G) (k0_pay65 Y k0_pay3) i = kb Y G (r0_20.idx i) := by
  obtain ⟨r, l, rfl⟩ : ∃ (r : Fin 256) (l : Fin 128), i = ix2 r l :=
    ⟨⟨(i 0).val, (i 0).isLt⟩, ⟨(i 1).val, (i 1).isLt⟩, funext fun a => by fin_cases a <;> rfl⟩
  have hi : r0_20.idx (ix2 r l) = (ix2 r ⟨l.val, by omega⟩ : S256x256.Idx) := by
    funext a; apply Fin.ext
    match a with
    | ⟨0, _⟩ => show 0 + 1 * r.val = r.val; omega
    | ⟨1, _⟩ => show 0 + 1 * l.val = l.val; omega
  rw [hi]
  pointwise [k0_pay3, k0_pay64, k0_pay65, k0_pay66]
  unfold kb
  have ht := tile Y G r 2048 rfl (fun x => ⟨2048 + x.val, by omega⟩) (fun _ => rfl) l
  have he : (⟨2048 + (l.val), by omega⟩ : Fin 2560) = ⟨2048 + l.val, by omega⟩ := rfl
  show _ = nh Y G r ⟨2048 + (l.val), by omega⟩
  rw [he, ← ht]

/-- What the body leaves in its block of keys. -/
theorem out0_6_eq (x : Vec Ideal S256x2048 .f32) (g : Vec Ideal S1x2048 .f32) (w : Vec Ideal S2048x2560 .bf16)
    (gq gk : Vec Ideal S1x128 .f32) (y : S256x256.Idx) :
    out0_6 (F := Ideal) x g w gq gk y = kb (k0_pay2 x g w) gk y := by
  unfold out0_6 k0_pay69 k0_pay68
  simp only [View.ld_unit_zero (S := S256x2048) hz, View.ld_unit_zero (S := S1x2048) hz,
    View.ld_unit_zero (S := S2048x2560) hz, View.ld_unit_zero (S := S1x128) hz]
  refine View.canon_apply_of_pieces (kb (k0_pay2 x g w) gk) _ ?_ y (cover0_6 _ _ y)
  intro pc hpc
  rcases List.mem_cons.mp hpc with rfl | hpc
  · exact fun i => kb_1 _ _ i
  rcases List.mem_cons.mp hpc with rfl | hpc
  · exact fun i => kb_0 _ _ i
  nomatch hpc

/-- What the body leaves in its block of values. -/
theorem out0_7_apply (x : Vec Ideal S256x2048 .f32) (g : Vec Ideal S1x2048 .f32) (w : Vec Ideal S2048x2560 .bf16)
    (gq gk : Vec Ideal S1x128 .f32) (r : Fin 256) (k : Fin 256) :
    out0_7 (F := Ideal) x g w gq gk (ix2 r k) = k0_pay2 x g w (ix2 r ⟨2304 + k.val, by omega⟩) := by
  unfold out0_7 k0_pay68
  rw [View.canon_unit_zero (S := S256x256) hz]
  simp only [View.ld_unit_zero (S := S256x2048) hz, View.ld_unit_zero (S := S1x2048) hz,
    View.ld_unit_zero (S := S2048x2560) hz]
  pointwise [k0_pay1]

/-- One projection of the block. -/
theorem proj_apply (x : Vec Ideal S256x2048 .f32) (g : Vec Ideal S1x2048 .f32) (w : Vec Ideal S2048x2560 .bf16)
    (r : Fin 256) (k : Fin 2560) : k0_pay2 (F := Ideal) x g w (ix2 r k) =
      ∑ d, x (ix2 r d) * Ideal.rsqrt (Ideal.div (∑ e, x (ix2 r e) * x (ix2 r e)) (Ideal.ofBits FTy.f32 1157627904#32) +
        Ideal.ofBits FTy.f32 897988541#32) * g (ix2 0 d) * w (ix2 d k) := by
  pointwise [k0_pay2]

end Cert.Kernel4Ideal.Win
-- ==== Proof.WinRef.lean ====
module

public import proofs.«01_k».proof.Proof.Pair
public import proofs.«01_k».proof.Proof.Gen.Reference4Ideal.Read

@[expose] public section

set_option maxRecDepth 16384

noncomputable section

open Idealize.ShloMosaic Idealize.ShloMosaic.TcCoe Idealize.SL.Sem

namespace Cert.Reference4Ideal.Win

open Cert.Reference4Ideal Cert.Reference4Ideal.Gen Cert.Reference4Ideal.Read

/-- Column `k` of the projection of the normalised row `r`. -/
def prj (x : Vec Ideal S9216x2048 .f32) (g : Vec Ideal S2048 .f32) (w : Vec Ideal S2048x2560 .f32)
    (r : Fin 9216) (k : Fin 2560) : EReal :=
  ∑ d, x (ix2 r d) * Ideal.rsqrt (Ideal.div (∑ e, x (ix2 r e) * x (ix2 r e)) (Ideal.ofBits FTy.f32 1157627904#32) +
    Ideal.ofBits FTy.f32 897988541#32) * g (ix1 d) * w (ix2 d k)

variable (x : Vec Ideal S9216x2048 .f32) (g : Vec Ideal S2048 .f32) (w : Vec Ideal S2048x2560 .f32)
  (gq : Vec Ideal S64 .f32) (r : Fin 9216)

theorem y_apply (k : Fin 2560) : val_main_v13 (F := Ideal) x g w (ix2 r k) = prj x g w r k := by
  unfold prj
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]

/-- The reference's queries, at an index. -/
theorem q_apply (k : Fin 2048) : val_main_v48 (F := Ideal) x g w gq (ix2 r k) =
    prj x g w r ⟨k.val, by omega⟩ * Pair.inv (N := 2560) rfl (prj x g w r) ⟨k.val, by omega⟩ *
      gq (ix1 ⟨k.val % 64, by omega⟩) * Ideal.ofBits FTy.f32 1040187392#32 := by
  pointwise [val_main_v48, val_main_v47, val_main_v32, val_main_v31, val_main_v30, val_main_v29, val_main_v28,
    val_main_v27, val_main_v26, val_main_v25, val_main_v24, val_main_v23, val_main_v22, val_main_v21, val_main_v20,
    val_main_v19, val_main_v18, val_main_v17, val_main_v14, val_main_cst_5, val_main_cst_4, val_main_cst_3, val_main_cst_2]
  simp only [y_apply]
  rfl

/-- The reference's keys, at an index. -/
theorem k_apply (k : Fin 256) : val_main_v49 (F := Ideal) x g w gq (ix2 r k) =
    prj x g w r ⟨2048 + k.val, by omega⟩ * Pair.inv (N := 2560) rfl (prj x g w r) ⟨2048 + k.val, by omega⟩ *
      gq (ix1 ⟨k.val % 64, by omega⟩) := by
  pointwise [val_main_v49, val_main_v46, val_main_v45, val_main_v44, val_main_v43, val_main_v42, val_main_v41,
    val_main_v40, val_main_v39, val_main_v38, val_main_v37, val_main_v36, val_main_v35, val_main_v34, val_main_v33,
    val_main_v15, val_main_cst_6, val_main_cst_7, val_main_cst_8]
  simp only [y_apply]
  unfold Pair.inv
  have h : ∀ e : Fin 64, (⟨2048 + (k.val / 64 * 64 + e.val), by omega⟩ : Fin 2560) =
      ⟨(2048 + k.val) / 64 * 64 + e.val, by omega⟩ := fun e => Fin.ext (by dsimp only; omega)
  simp only [h]

/-- The reference's values, at an index. -/
theorem v_apply (k : Fin 256) : val_main_v16 (F := Ideal) x g w (ix2 r k) = prj x g w r ⟨2304 + k.val, by omega⟩ := by
  pointwise [val_main_v16]
  exact y_apply x g w r _

end Cert.Reference4Ideal.Win
-- ==== Proof.WinAlg.lean ====
module

public import proofs.«01_k».proof.Defs
public import proofs.«01_k».proof.Proof.WinOpen
public import proofs.«01_k».proof.Proof.WinRef
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.Kernel4Ideal.Win

open Cert.Kernel4Ideal Cert.Kernel4Ideal.Gen
open Cert.Reference4Ideal.Win (prj)

variable (m : (ℓ : Loc nD τ sig) → Buf (Elt Ideal) ℓ)

/-- The residual stream. -/
abbrev X (c : Dev nD) : Vec Ideal S9216x2048 .f32 := m ((c : Thread nD τ).loc main_arg0)
/-- The norm's gain. -/
abbrev Gm (c : Dev nD) : Vec Ideal S2048 .f32 := m ((c : Thread nD τ).loc main_arg1)
/-- The projection's weights. -/
abbrev W (c : Dev nD) : Vec Ideal S2048x2560 .f32 := m ((c : Thread nD τ).loc main_arg2)
/-- The queries' gain. -/
abbrev Gq (c : Dev nD) : Vec Ideal S64 .f32 := m ((c : Thread nD τ).loc main_arg3)
/-- The keys' gain. -/
abbrev Gk (c : Dev nD) : Vec Ideal S64 .f32 := m ((c : Thread nD τ).loc main_arg4)

/-- The row of the array that row `r` of point `t`'s block is. -/
def row (t : Fin cfg0.N) (r : Fin 256) : Fin 9216 :=
  ⟨t.val * 256 + r.val, by have := lt_of_lt_of_eq t.isLt (show cfg0.N = 36 from N_0); have := r.isLt; omega⟩

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)

/-- The host only casts the weights. -/
theorem weights (c : Dev nD) : (V m c main_v4 : Vec Ideal S2048x2560 .bf16) = W m c := by
  have h : (V m c main_v4 : Vec Ideal S2048x2560 .bf16) =
      (truncf (F := Ideal) .bf16 (W m c) bitsLt_bf16_f32 : FVec Ideal S2048x2560 .bf16) := by
    unfold V hostOps0
    after_results
  rw [h]
  rfl

/-- The host keeps the norm's gain as one row. -/
theorem mix_apply (c : Dev nD) (d : Fin 2048) : (V m c main_v3 : Vec Ideal S1x2048 .f32) (ix2 0 d) = Gm m c (ix1 d) := by
  have h : (V m c main_v3 : Vec Ideal S1x2048 .f32) =
      shapeCast S1x2048 (shapeCast S2048 (broadcastInDim S1x2048 ![0, 1] bcast_S1x2048_S1x2048_0_1
        (shapeCast S1x2048 (Gm m c) shapeCasts_S2048_S1x2048)) shapeCasts_S1x2048_S2048) shapeCasts_S2048_S1x2048 := by
    unfold V hostOps0
    after_results
    rfl
  rw [h]
  pointwise []

/-- The host repeats the gain of the queries once per head of a lane tile. -/
theorem Gq_apply (c : Dev nD) (l : Fin 128) :
    (V m c main_v8 : Vec Ideal S1x128 .f32) (ix2 0 l) = Gq m c (ix1 ⟨l.val % 64, Nat.mod_lt _ (by decide)⟩) := by
  have h : (V m c main_v8 : Vec Ideal S1x128 .f32) =
      shapeCast S1x128 (shapeCast S128 (broadcastInDim S2x64 ![0, 1] bcast_S1x64_S2x64_0_1
        (shapeCast S1x64 (Gq m c) shapeCasts_S64_S1x64)) shapeCasts_S2x64_S128) shapeCasts_S128_S1x128 := by
    unfold V hostOps0
    after_results
    rfl
  rw [h]
  pointwise []

/-- The host repeats the gain of the keys once per head of a lane tile. -/
theorem Gk_apply (c : Dev nD) (l : Fin 128) :
    (V m c main_v12 : Vec Ideal S1x128 .f32) (ix2 0 l) = Gk m c (ix1 ⟨l.val % 64, Nat.mod_lt _ (by decide)⟩) := by
  have h : (V m c main_v12 : Vec Ideal S1x128 .f32) =
      shapeCast S1x128 (shapeCast S128 (broadcastInDim S2x64 ![0, 1] bcast_S1x64_S2x64_0_1
        (shapeCast S1x64 (Gk m c) shapeCasts_S64_S1x64)) shapeCasts_S2x64_S128) shapeCasts_S128_S1x128 := by
    unfold V hostOps0
    after_results
    rfl
  rw [h]
  pointwise []

theorem blk0 (c : Dev nD) (t : Fin cfg0.N) (r : Fin 256) (d : Fin 2048) :
    (iblk m c 0 t : Vec Ideal S256x2048 .f32) (ix2 r d) = X m c (ix2 (row t r) d) := by
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [(idx0 t).1]; omega
  | ⟨1, _⟩ => show win0_0.index t 1 * 2048 + 1 * d.val = d.val; rw [(idx0 t).2]; omega

theorem blk1 (c : Dev nD) (t : Fin cfg0.N) (d : Fin 2048) :
    (iblk m c 1 t : Vec Ideal S1x2048 .f32) (ix2 0 d) = Gm m c (ix1 d) := by
  rw [← mix_apply]
  unfold iblk
  rw [View.read_apply]
  show V m c main_v3 _ = _
  congr 1
  funext a
  apply Fin.ext
  match a with
  | ⟨0, _⟩ => show win0_1.index t 0 * 1 + 1 * 0 = 0; rw [(idx1 t).1]
  | ⟨1, _⟩ => show win0_1.index t 1 * 2048 + 1 * d.val = d.val; rw [(idx1 t).2]; omega

theorem blk2 (c : Dev nD) (t : Fin cfg0.N) (r : Fin 2048) (d : Fin 2560) :
    (iblk m c 2 t : Vec Ideal S2048x2560 .bf16) (ix2 r d) = W m c (ix2 r d) := by
  rw [← weights]
  unfold iblk
  rw [View.read_apply]
  show V m c main_v4 _ = _
  congr 1
  funext a
  apply Fin.ext
  match a with
  | ⟨0, _⟩ => show win0_2.index t 0 * 2048 + 1 * r.val = r.val; rw [(idx2 t).1]; omega
  | ⟨1, _⟩ => show win0_2.index t 1 * 2560 + 1 * d.val = d.val; rw [(idx2 t).2]; omega

theorem blk3 (c : Dev nD) (t : Fin cfg0.N) (d : Fin 128) :
    (iblk m c 3 t : Vec Ideal S1x128 .f32) (ix2 0 d) = Gq m c (ix1 ⟨d.val % 64, Nat.mod_lt _ (by decide)⟩) := by
  rw [← Gq_apply]
  unfold iblk
  rw [View.read_apply]
  show V m c main_v8 _ = _
  congr 1
  funext a
  apply Fin.ext
  match a with
  | ⟨0, _⟩ => show win0_3.index t 0 * 1 + 1 * 0 = 0; rw [(idx3 t).1]
  | ⟨1, _⟩ => show win0_3.index t 1 * 128 + 1 * d.val = d.val; rw [(idx3 t).2]; omega

theorem blk4 (c : Dev nD) (t : Fin cfg0.N) (d : Fin 128) :
    (iblk m c 4 t : Vec Ideal S1x128 .f32) (ix2 0 d) = Gk m c (ix1 ⟨d.val % 64, Nat.mod_lt _ (by decide)⟩) := by
  rw [← Gk_apply]
  unfold iblk
  rw [View.read_apply]
  show V m c main_v12 _ = _
  congr 1
  funext a
  apply Fin.ext
  match a with
  | ⟨0, _⟩ => show win0_4.index t 0 * 1 + 1 * 0 = 0; rw [(idx4 t).1]
  | ⟨1, _⟩ => show win0_4.index t 1 * 128 + 1 * d.val = d.val; rw [(idx4 t).2]; omega

/-- One projection of a block is the array's. -/
theorem prj_blk (c : Dev nD) (t : Fin cfg0.N) (r : Fin 256) :
    rowOf (k0_pay2 (F := Ideal) (iblk m c 0 t) (iblk m c 1 t) (iblk m c 2 t)) r =
      prj (X m c) (Gm m c) (W m c) (row t r) := by
  funext k
  unfold rowOf
  refine (proj_apply _ _ _ r k).trans ?_
  unfold prj
  simp only [blk0, blk1, blk2]

/-- The array of queries after the run, at an index. -/
theorem result5 (c : Dev nD) (r : Fin 9216) (k : Fin 2048) :
    ((dats m 0 c).arrAt 5 cfg0.N : Vec Ideal S9216x2048 .bf16) (ix2 r k) =
      (prj (X m c) (Gm m c) (W m c) r ⟨k.val, by omega⟩ * Pair.inv (N := 2560) rfl (prj (X m c) (Gm m c) (W m c) r) ⟨k.val, by omega⟩ *
        Gq m c (ix1 ⟨k.val % 64, by omega⟩) * Ideal.ofBits FTy.f32 1040187392#32) := by
  have hr := r.isLt
  have ht : r.val / 256 < cfg0.N := by rw [show cfg0.N = 36 from N_0]; omega
  have h := congrFun (Value.blocks5 m c ⟨r.val / 256, ht⟩ (flush0_5 _)) (ix2 (⟨r.val % 256, Nat.mod_lt _ (by decide)⟩ : Fin 256) k)
  rw [Value.flushed5] at h
  have hrow : row ⟨r.val / 256, ht⟩ (⟨r.val % 256, Nat.mod_lt _ (by decide)⟩ : Fin 256) = r := by
    apply Fin.ext; show r.val / 256 * 256 + r.val % 256 = r.val; omega
  refine Eq.trans ?_ (h.trans ?_)
  · rw [View.read_apply]
    congr 1
    funext a
    apply Fin.ext
    match a with
    | ⟨0, _⟩ => show r.val = win0_5.index ⟨r.val / 256, ht⟩ 0 * 256 + 1 * (r.val % 256); rw [(idx5 _).1]; dsimp only; omega
    | ⟨1, _⟩ => show k.val = win0_5.index ⟨r.val / 256, ht⟩ 1 * 2048 + 1 * k.val; rw [(idx5 _).2]; omega
  · refine (out0_5_eq _ _ _ _ _ (ix2 (⟨r.val % 256, Nat.mod_lt _ (by decide)⟩ : Fin 256) k)).trans ?_
    show nh _ _ (⟨r.val % 256, Nat.mod_lt _ (by decide)⟩ : Fin 256) ⟨k.val, by omega⟩ * _ = _
    unfold nh
    rw [prj_blk, hrow]
    have hg : (iblk m c 3 ⟨r.val / 256, ht⟩ : Vec Ideal S1x128 .f32) (ix2 0 ⟨k.val % 128, Nat.mod_lt _ (by decide)⟩) =
        Gq m c (ix1 ⟨k.val % 64, by omega⟩) := by
      rw [blk3]
      congr 2
      apply Fin.ext
      show k.val % 128 % 64 = k.val % 64
      omega
    exact congrArg (fun z => prj (X m c) (Gm m c) (W m c) r ⟨k.val, by omega⟩ * Pair.inv (N := 2560) rfl (prj (X m c) (Gm m c) (W m c) r) ⟨k.val, by omega⟩ * z * Ideal.ofBits FTy.f32 1040187392#32) hg

/-- The array of keys after the run, at an index. -/
theorem result6 (c : Dev nD) (r : Fin 9216) (k : Fin 256) :
    ((dats m 0 c).arrAt 6 cfg0.N : Vec Ideal S9216x256 .f32) (ix2 r k) =
      (prj (X m c) (Gm m c) (W m c) r ⟨2048 + k.val, by omega⟩ * Pair.inv (N := 2560) rfl (prj (X m c) (Gm m c) (W m c) r) ⟨2048 + k.val, by omega⟩ *
        Gk m c (ix1 ⟨k.val % 64, by omega⟩)) := by
  have hr := r.isLt
  have ht : r.val / 256 < cfg0.N := by rw [show cfg0.N = 36 from N_0]; omega
  have h := congrFun (Value.blocks6 m c ⟨r.val / 256, ht⟩ (flush0_6 _)) (ix2 (⟨r.val % 256, Nat.mod_lt _ (by decide)⟩ : Fin 256) k)
  rw [Value.flushed6] at h
  have hrow : row ⟨r.val / 256, ht⟩ (⟨r.val % 256, Nat.mod_lt _ (by decide)⟩ : Fin 256) = r := by
    apply Fin.ext; show r.val / 256 * 256 + r.val % 256 = r.val; omega
  refine Eq.trans ?_ (h.trans ?_)
  · rw [View.read_apply]
    congr 1
    funext a
    apply Fin.ext
    match a with
    | ⟨0, _⟩ => show r.val = win0_6.index ⟨r.val / 256, ht⟩ 0 * 256 + 1 * (r.val % 256); rw [(idx6 _).1]; dsimp only; omega
    | ⟨1, _⟩ => show k.val = win0_6.index ⟨r.val / 256, ht⟩ 1 * 256 + 1 * k.val; rw [(idx6 _).2]; omega
  · refine (out0_6_eq _ _ _ _ _ (ix2 (⟨r.val % 256, Nat.mod_lt _ (by decide)⟩ : Fin 256) k)).trans ?_
    show nh _ _ (⟨r.val % 256, Nat.mod_lt _ (by decide)⟩ : Fin 256) ⟨2048 + k.val, by omega⟩ = _
    unfold nh
    rw [prj_blk, hrow]
    have hg : (iblk m c 4 ⟨r.val / 256, ht⟩ : Vec Ideal S1x128 .f32) (ix2 0 ⟨(2048 + k.val) % 128, Nat.mod_lt _ (by decide)⟩) =
        Gk m c (ix1 ⟨k.val % 64, by omega⟩) := by
      rw [blk4]
      congr 2
      apply Fin.ext
      show (2048 + k.val) % 128 % 64 = k.val % 64
      omega
    exact congrArg (fun z => prj (X m c) (Gm m c) (W m c) r ⟨2048 + k.val, by omega⟩ * Pair.inv (N := 2560) rfl (prj (X m c) (Gm m c) (W m c) r) ⟨2048 + k.val, by omega⟩ * z) hg

/-- The array of values after the run, at an index. -/
theorem result7 (c : Dev nD) (r : Fin 9216) (k : Fin 256) :
    ((dats m 0 c).arrAt 7 cfg0.N : Vec Ideal S9216x256 .f32) (ix2 r k) =
      prj (X m c) (Gm m c) (W m c) r ⟨2304 + k.val, by omega⟩ := by
  have hr := r.isLt
  have ht : r.val / 256 < cfg0.N := by rw [show cfg0.N = 36 from N_0]; omega
  have h := congrFun (Value.blocks7 m c ⟨r.val / 256, ht⟩ (flush0_7 _)) (ix2 (⟨r.val % 256, Nat.mod_lt _ (by decide)⟩ : Fin 256) k)
  rw [Value.flushed7] at h
  have hrow : row ⟨r.val / 256, ht⟩ (⟨r.val % 256, Nat.mod_lt _ (by decide)⟩ : Fin 256) = r := by
    apply Fin.ext; show r.val / 256 * 256 + r.val % 256 = r.val; omega
  refine Eq.trans ?_ (h.trans ?_)
  · rw [View.read_apply]
    congr 1
    funext a
    apply Fin.ext
    match a with
    | ⟨0, _⟩ => show r.val = win0_7.index ⟨r.val / 256, ht⟩ 0 * 256 + 1 * (r.val % 256); rw [(idx7 _).1]; dsimp only; omega
    | ⟨1, _⟩ => show k.val = win0_7.index ⟨r.val / 256, ht⟩ 1 * 256 + 1 * k.val; rw [(idx7 _).2]; omega
  · refine (out0_7_apply _ _ _ _ _ (⟨r.val % 256, Nat.mod_lt _ (by decide)⟩ : Fin 256) k).trans ?_
    refine (congrFun (prj_blk m c ⟨r.val / 256, ht⟩ (⟨r.val % 256, Nat.mod_lt _ (by decide)⟩ : Fin 256)) _).trans ?_
    rw [hrow]

end Cert.Kernel4Ideal.Win

namespace Cert.WinAlg

open Cert.Kernel4Ideal.Win

variable (m : (ℓ : Loc Kernel4Ideal.nD Kernel4Ideal.τ Kernel4Ideal.sig) → Buf (Elt Ideal) ℓ)

/-- The kernel's queries are the reference's at the same arguments. -/
theorem eq5 (c : Dev Kernel4Ideal.nD) :
    ((Kernel4Ideal.Gen.dats m 0 c).arrAt 5 Kernel4Ideal.cfg0.N : Vec Ideal Kernel4Ideal.S9216x2048 .bf16) =
      Reference4Ideal.Read.val_main_v48 (F := Ideal) (X m c) (Gm m c) (W m c) (Gq m c) := by
  funext j
  idx_vars j
  exact (result5 m c _ _).trans (Reference4Ideal.Win.q_apply _ _ _ _ _ _).symm

/-- The kernel's keys are the reference's at the same arguments. -/
theorem eq6 (c : Dev Kernel4Ideal.nD) :
    ((Kernel4Ideal.Gen.dats m 0 c).arrAt 6 Kernel4Ideal.cfg0.N : Vec Ideal Kernel4Ideal.S9216x256 .f32) =
      Reference4Ideal.Read.val_main_v49 (F := Ideal) (X m c) (Gm m c) (W m c) (Gk m c) := by
  funext j
  idx_vars j
  exact (result6 m c _ _).trans (Reference4Ideal.Win.k_apply _ _ _ _ _ _).symm

/-- The kernel's values are the reference's at the same arguments. -/
theorem eq7 (c : Dev Kernel4Ideal.nD) :
    ((Kernel4Ideal.Gen.dats m 0 c).arrAt 7 Kernel4Ideal.cfg0.N : Vec Ideal Kernel4Ideal.S9216x256 .f32) =
      Reference4Ideal.Read.val_main_v16 (F := Ideal) (X m c) (Gm m c) (W m c) := by
  funext j
  idx_vars j
  exact (result7 m c _ _).trans (Reference4Ideal.Win.v_apply _ _ _ _ _).symm

/-- At the ideal instance the sliding-window projection and its reference end with equal queries, keys and values. -/
theorem algebraic : @Cert.algebraic_Kernel4Ideal_Reference4Ideal Kernel4Ideal.Gen.facts Reference4Ideal.Gen.facts := by
  intro m g m' g' _ ha
  refine ⟨fun c => (Kernel4Ideal.Gen.dats m 0 c).arrAt 5 Kernel4Ideal.cfg0.N,
    fun c => (Kernel4Ideal.Gen.dats m 0 c).arrAt 6 Kernel4Ideal.cfg0.N,
    fun c => (Kernel4Ideal.Gen.dats m 0 c).arrAt 7 Kernel4Ideal.cfg0.N, Kernel4Ideal.Value.run_blocks m g, ?_⟩
  refine (θ_run _ _ _).mono (fun r h c => ?_) (Reference4Ideal.Value.run (F := Ideal) m' g')
  obtain ⟨h0, h1, h2, h3, h4⟩ := ha c
  obtain ⟨hq, hk, hv, hr⟩ := h c
  refine ⟨hq.trans ?_, hk.trans ?_, hv.trans ?_, hr⟩
  · rw [Reference4Ideal.Read.val_main_v48_eq, h0, h1, h2, h3]
    exact (eq5 m c).symm
  · rw [Reference4Ideal.Read.val_main_v49_eq, h0, h1, h2, h4]
    exact (eq6 m c).symm
  · rw [Reference4Ideal.Read.val_main_v16_eq, h0, h1, h2]
    exact (eq7 m c).symm

/-- The reference ends with its arguments unchanged. -/
theorem reference_frame : @Cert.quiescent_Reference4Ideal Reference4Ideal.Gen.facts := by
  intro m g _
  exact (θ_run _ _ _).mono (fun r h => ⟨fun c => (h c).2.2.2, sem_eq_zero_of_no_sems (by decide) r.2⟩)
    (Reference4Ideal.Value.run (F := Ideal) m g)

end Cert.WinAlg

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_qk
public import proofs.«01_k».proof.Proof.Gen.Pre_finite_qkf
public import proofs.«01_k».proof.Proof.AbFrame
public import proofs.«01_k».proof.Proof.AbAlg
public import proofs.«01_k».proof.Proof.FfnAlg
public import proofs.«01_k».proof.Proof.FlashAlg
public import proofs.«01_k».proof.Proof.FoxAlg
public import proofs.«01_k».proof.Proof.OutAlg
public import proofs.«01_k».proof.Proof.WinAlg

@[expose] public section

noncomputable section

namespace Cert.Proof

open Idealize.ShloMosaic Idealize.SL.Sem

/-- Every claim of this directory. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_qk.Gen.facts, Cert.Pre_finite_qkf.Gen.facts,
    fun m g _ => Cert.Kernel.Gen.frame m g,
    fun m g _ => Cert.KernelIdeal.Gen.frame m g,
    fun m g _ => Cert.KernelIdeal.Gen.frame m g,
    Cert.FlashAlg.reference_frame,
    Cert.FlashAlg.reference_frame_pre,
    fun m g _ => Cert.Kernel2.Gen.frame m g,
    fun m g _ => Cert.Kernel2Ideal.Gen.frame m g,
    fun m g _ => Cert.Kernel2Ideal.Gen.frame m g,
    Cert.FoxAlg.reference_frame,
    Cert.FoxAlg.reference_frame_pre,
    fun m g _ => Cert.Kernel3.Gen.frame m g,
    fun m g _ => Cert.Kernel3Ideal.Gen.frame m g,
    Cert.FfnAlg.reference_frame,
    fun m g _ => Cert.Kernel4.Gen.frame m g,
    fun m g _ => Cert.Kernel4Ideal.Gen.frame m g,
    Cert.WinAlg.reference_frame,
    fun m g _ => Cert.Kernel5.Gen.frame m g,
    fun m g _ => Cert.Kernel5Ideal.Gen.frame m g,
    Cert.AbAlg.reference_frame,
    fun m g _ => Cert.Kernel6.Gen.frame m g,
    fun m g _ => Cert.Kernel6Ideal.Gen.frame m g,
    Cert.OutAlg.reference_frame,
    IdealRules.named_const.statement Cert.KernelIdeal.κ "mask" .f32 0xF149F2CA#32 ⊥ rfl,
    Cert.FlashAlg.algebraic,
    IdealRules.named_const.statement Cert.Kernel2Ideal.κ "mask" .f32 0xF149F2CA#32 ⊥ rfl,
    Cert.FoxAlg.algebraic,
    trivial,
    Cert.FfnAlg.algebraic,
    trivial,
    Cert.WinAlg.algebraic,
    trivial,
    Cert.AbAlg.algebraic,
    trivial,
    Cert.OutAlg.algebraic⟩

end Cert.Proof

end
